-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)) (v4 : (c : Dev Cert.Kernel3Ideal.nD) → Buf (Elt Ideal) ((c.tc : Thread Cert.Kernel3Ideal.nD Cert.Kernel3Ideal.τ).loc Cert.Kernel3Ideal.main_v35_4)) (v5 : (c : Dev Cert.Kernel3Ideal.nD) → Buf (Elt Ideal) ((c.tc : Thread Cert.Kernel3Ideal.nD Cert.Kernel3Ideal.τ).loc Cert.Kernel3Ideal.main_v35_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_v35_4) = v4 c
          ∧ r.2.mem ((c.tc : Thread Cert.Kernel3Ideal.nD Cert.Kernel3Ideal.τ).loc Cert.Kernel3Ideal.main_v35_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_v99) = v2 c
          ∧ r.2.mem ((c.tc : Thread Cert.Reference3Ideal.nD Cert.Reference3Ideal.τ).loc Cert.Reference3Ideal.main_v103) = v3 c
          ∧ r.2.mem ((c.tc : Thread Cert.Reference3Ideal.nD Cert.Reference3Ideal.τ).loc Cert.Reference3Ideal.main_v105) = v4 c
          ∧ r.2.mem ((c.tc : Thread Cert.Reference3Ideal.nD Cert.Reference3Ideal.τ).loc Cert.Reference3Ideal.main_v108) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
-- ==== Pre_finite.lean ====
abbrev S8x2048x512 : Shape := ⟨3, ![8, 2048, 512]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)

variable [Facts]

def fn {F : FTy → Type} [FloatOps F] (main_arg0 : FVec F S8x2048x512 .bf16) (main_arg1 : FVec F S8x2048x512 .bf16) (main_arg2 : FVec F S8x2048x512 .bf16) (main_arg3 : FVec F S8x2048x512 .bf16) (main_arg4 : FVec F S1x64 .f32) (main_arg5 : FVec F S1x64 .f32) (main_arg6 : FVec F S1x64 .f32) (main_arg7 : FVec F S1x64 .f32) (main_arg8 : FVec F S1x128 .f32) : IVec S8x2048x512 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_v4 : FVec F S8x2048x512 .f32 := (extf .f32 · bitsLt_bf16_f32) main_arg1
  let main_v5 : FVec F S8x2048x512 .f32 := Host.absf main_v4
  let main_cst_0 : FVec F S_ .f32 := constant S_ .f32 0x7F800000#32
  let main_v6 : FVec F S8x2048x512 .f32 := broadcastInDim S8x2048x512 ![] bcast_S_S8x2048x512 main_cst_0
  let main_v7 : IVec S8x2048x512 1 := cmpf .olt main_v5 main_v6
  let main_v8 : IVec S8x2048x512 1 := andi main_v3 main_v7
  main_v8
-- ==== Kernel.lean ====
abbrev S8x2048x512 : Shape := ⟨3, ![8, 2048, 512]⟩
abbrev S1x512 : Shape := ⟨2, ![1, 512]⟩
abbrev S1x512x512 : Shape := ⟨3, ![1, 512, 512]⟩
abbrev S1x1024x1024 : Shape := ⟨3, ![1, 1024, 1024]⟩
abbrev S8x2048x1024 : Shape := ⟨3, ![8, 2048, 1024]⟩
abbrev S1024 : Shape := ⟨1, ![1024]⟩
abbrev S16384x1024 : Shape := ⟨2, ![16384, 1024]⟩
abbrev S16384x512 : Shape := ⟨2, ![16384, 512]⟩
abbrev S1x1024 : Shape := ⟨2, ![1, 1024]⟩
abbrev S512x512 : Shape := ⟨2, ![512, 512]⟩
abbrev S1024x1024 : Shape := ⟨2, ![1024, 1024]⟩
abbrev S4x1024x512 : Shape := ⟨3, ![4, 1024, 512]⟩
abbrev S4 : Shape := ⟨1, ![4]⟩
abbrev S4x1024x1024 : Shape := ⟨3, ![4, 1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S512x1024 : Shape := ⟨2, ![512, 1024]⟩

abbrev nBuf : Space → Nat
  | .hbm => 16
  | .vmem => 13
  | .smem => 0
  | _ => 0

abbrev bufTy : (tb : Table) → Fin (tcTables nBuf tb) → BufTy
  | .hbm, ⟨0, _⟩ => ⟨S8x2048x512, .bf16⟩
  | .hbm, ⟨1, _⟩ => ⟨S1x512, .f32⟩
  | .hbm, ⟨2, _⟩ => ⟨S1x512, .f32⟩
  | .hbm, ⟨3, _⟩ => ⟨S8x2048x512, .bf16⟩
  | .hbm, ⟨4, _⟩ => ⟨S1x512x512, .f32⟩
  | .hbm, ⟨5, _⟩ => ⟨S1x512, .f32⟩
  | .hbm, ⟨6, _⟩ => ⟨S8x2048x512, .bf16⟩
  | .hbm, ⟨7, _⟩ => ⟨S1x1024x1024, .f32⟩
  | .hbm, ⟨8, _⟩ => ⟨S8x2048x1024, .f32⟩
  | .hbm, ⟨9, _⟩ => ⟨S1024, .f32⟩
  | .hbm, ⟨10, _⟩ => ⟨S16384x1024, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S1x1024, .f32⟩
  | .hbm, ⟨15, _⟩ => ⟨S16384x1024, .f32⟩
  | .local _ .vmem, ⟨0, _⟩ => ⟨S1x512, .f32⟩
  | .local _ .vmem, ⟨1, _⟩ => ⟨S1x512, .f32⟩
  | .local _ .vmem, ⟨2, _⟩ => ⟨S1x512x512, .f32⟩
  | .local _ .vmem, ⟨3, _⟩ => ⟨S1x512, .f32⟩
  | .local _ .vmem, ⟨4, _⟩ => ⟨S1x1024x1024, .f32⟩
  | .local _ .vmem, ⟨5, _⟩ => ⟨S1x1024, .f32⟩
  | .local _ .vmem, ⟨6, _⟩ => ⟨S512x512, .bf16⟩
  | .local _ .vmem, ⟨7, _⟩ => ⟨S1024x1024, .bf16⟩
  | .local _ .vmem, ⟨8, _⟩ => ⟨S4x1024x512, .bf16⟩
  | .local _ .vmem, ⟨9, _⟩ => ⟨S4x1024x512, .bf16⟩
  | .local _ .vmem, ⟨10, _⟩ => ⟨S4x1024x512, .bf16⟩
  | .local _ .vmem, ⟨11, _⟩ => ⟨S4x1024x1024, .f32⟩
  | .local _ .vmem, ⟨12, _⟩ => ⟨S2x1024x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scoped0 : Ref sig .tc := ⟨.vmem, 8, rfl⟩
abbrev cc0_scoped2 : Ref sig .tc := ⟨.vmem, 9, rfl⟩
abbrev cc0_scoped4 : Ref sig .tc := ⟨.vmem, 10, rfl⟩
abbrev cc0_scoped6 : Ref sig .tc := ⟨.vmem, 11, rfl⟩
abbrev cc0_scoped8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 : Fin 1 → Nat :=
  let c0_i32_34_r0 : BitVec 32 := 0#32
  let c4_i32_r0 : BitVec 32 := 4#32
  let v40_r0 : BitVec 32 := Scalar.remui c0_i32_34_r0 c4_i32_r0
  ![v40_r0.toNat]
def k0_off2 : Fin 3 → Nat :=
  let c0_i32_34_r0 : BitVec 32 := 0#32
  let c4_i32_r0 : BitVec 32 := 4#32
  let v40_r0 : BitVec 32 := Scalar.remui c0_i32_34_r0 c4_i32_r0
  let c0_i32_35_r0 : BitVec 32 := 0#32
  let c0_i32_36_r0 : BitVec 32 := 0#32
  ![v40_r0.toNat, 0, 0]
def k0_off3 : Fin 3 → Nat :=
  let c0_i32_57_r0 : BitVec 32 := 0#32
  let c4_i32_58_r0 : BitVec 32 := 4#32
  let v61_r0 : BitVec 32 := Scalar.remui c0_i32_57_r0 c4_i32_58_r0
  let c0_i32_59_r0 : BitVec 32 := 0#32
  let c0_i32_60_r0 : BitVec 32 := 0#32
  ![v61_r0.toNat, 0, 0]
def k0_cond1 : BitVec 1 :=
  let true_66_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_65_r0 : BitVec 32 := 0#32
  let v68_r0 : BitVec 1 := Scalar.cmpi .ne v24_r0 c0_i32_65_r0
  let v69_r0 : BitVec 1 := Scalar.andi true_66_r0 v68_r0
  let true_67_r0 : BitVec 1 := 1#1
  let v70_r0 : BitVec 1 := Scalar.andi v69_r0 true_67_r0
  let v71_r0 : BitVec 32 := Scalar.extui v70_r0
  let c0_i32_68_r0 : BitVec 32 := 0#32
  let v72_r0 : BitVec 1 := Scalar.cmpi .ne v71_r0 c0_i32_68_r0
  v72_r0

def k0_off4 : Fin 1 → Nat :=
  let c0_i32_39_r0 : BitVec 32 := 0#32
  let c1_i32_40_r0 : BitVec 32 := 1#32
  let v46_r0 : BitVec 32 := Scalar.addi c0_i32_39_r0 c1_i32_40_r0
  let c4_i32_145_r0 : BitVec 32 := 4#32
  let v163_r0 : BitVec 32 := Scalar.remui v46_r0 c4_i32_145_r0
  ![v163_r0.toNat]
def k0_off5 : Fin 3 → Nat :=
  let c0_i32_39_r0 : BitVec 32 := 0#32
  let c1_i32_40_r0 : BitVec 32 := 1#32
  let v46_r0 : BitVec 32 := Scalar.addi c0_i32_39_r0 c1_i32_40_r0
  let c4_i32_145_r0 : BitVec 32 := 4#32
  let v163_r0 : BitVec 32 := Scalar.remui v46_r0 c4_i32_145_r0
  let c0_i32_147_r0 : BitVec 32 := 0#32
  let c0_i32_148_r0 : BitVec 32 := 0#32
  ![v163_r0.toNat, 0, 0]
def k0_off6 : Fin 2 → Nat :=
  let c1024_i32_146_r0 : BitVec 32 := 1024#32
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let v164_r0 : BitVec 32 := Scalar.muli c1024_i32_146_r0 v24_r0
  let c0_i32_149_r0 : BitVec 32 := 0#32
  ![v164_r0.toNat, 0]
def k0_cond2 : BitVec 1 :=
  let true_71_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_70_r0 : BitVec 32 := 0#32
  let v75_r0 : BitVec 1 := Scalar.cmpi .ne v24_r0 c0_i32_70_r0
  let v76_r0 : BitVec 1 := Scalar.andi true_71_r0 v75_r0
  let true_72_r0 : BitVec 1 := 1#1
  let v77_r0 : BitVec 1 := Scalar.andi v76_r0 true_72_r0
  let v78_r0 : BitVec 32 := Scalar.extui v77_r0
  let c0_i32_73_r0 : BitVec 32 := 0#32
  let v79_r0 : BitVec 1 := Scalar.cmpi .ne v78_r0 c0_i32_73_r0
  v79_r0

def k0_off7 : Fin 1 → Nat :=
  let c0_i32_47_r0 : BitVec 32 := 0#32
  let c1_i32_48_r0 : BitVec 32 := 1#32
  let v53_r0 : BitVec 32 := Scalar.addi c0_i32_47_r0 c1_i32_48_r0
  let c4_i32_145_r0 : BitVec 32 := 4#32
  let v163_r0 : BitVec 32 := Scalar.remui v53_r0 c4_i32_145_r0
  ![v163_r0.toNat]
def k0_off8 : Fin 3 → Nat :=
  let c0_i32_47_r0 : BitVec 32 := 0#32
  let c1_i32_48_r0 : BitVec 32 := 1#32
  let v53_r0 : BitVec 32 := Scalar.addi c0_i32_47_r0 c1_i32_48_r0
  let c4_i32_145_r0 : BitVec 32 := 4#32
  let v163_r0 : BitVec 32 := Scalar.remui v53_r0 c4_i32_145_r0
  let c0_i32_147_r0 : BitVec 32 := 0#32
  let c0_i32_148_r0 : BitVec 32 := 0#32
  ![v163_r0.toNat, 0, 0]
def k0_off9 : Fin 2 → Nat :=
  let c1024_i32_146_r0 : BitVec 32 := 1024#32
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let v164_r0 : BitVec 32 := Scalar.muli c1024_i32_146_r0 v24_r0
  let c0_i32_149_r0 : BitVec 32 := 0#32
  ![v164_r0.toNat, 0]
def k0_cond3 : BitVec 1 :=
  let true_76_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_75_r0 : BitVec 32 := 0#32
  let v82_r0 : BitVec 1 := Scalar.cmpi .ne v24_r0 c0_i32_75_r0
  let v83_r0 : BitVec 1 := Scalar.andi true_76_r0 v82_r0
  let true_77_r0 : BitVec 1 := 1#1
  let v84_r0 : BitVec 1 := Scalar.andi v83_r0 true_77_r0
  let v85_r0 : BitVec 32 := Scalar.extui v84_r0
  let c0_i32_78_r0 : BitVec 32 := 0#32
  let v86_r0 : BitVec 1 := Scalar.cmpi .ne v85_r0 c0_i32_78_r0
  v86_r0

def k0_off10 : Fin 1 → Nat :=
  let c0_i32_55_r0 : BitVec 32 := 0#32
  let c1_i32_56_r0 : BitVec 32 := 1#32
  let v60_r0 : BitVec 32 := Scalar.addi c0_i32_55_r0 c1_i32_56_r0
  let c4_i32_145_r0 : BitVec 32 := 4#32
  let v163_r0 : BitVec 32 := Scalar.remui v60_r0 c4_i32_145_r0
  ![v163_r0.toNat]
def k0_off11 : Fin 3 → Nat :=
  let c0_i32_55_r0 : BitVec 32 := 0#32
  let c1_i32_56_r0 : BitVec 32 := 1#32
  let v60_r0 : BitVec 32 := Scalar.addi c0_i32_55_r0 c1_i32_56_r0
  let c4_i32_145_r0 : BitVec 32 := 4#32
  let v163_r0 : BitVec 32 := Scalar.remui v60_r0 c4_i32_145_r0
  let c0_i32_147_r0 : BitVec 32 := 0#32
  let c0_i32_148_r0 : BitVec 32 := 0#32
  ![v163_r0.toNat, 0, 0]
def k0_off12 : Fin 2 → Nat :=
  let c1024_i32_146_r0 : BitVec 32 := 1024#32
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let v164_r0 : BitVec 32 := Scalar.muli c1024_i32_146_r0 v24_r0
  let c0_i32_149_r0 : BitVec 32 := 0#32
  ![v164_r0.toNat, 0]
def k0_cond4 : BitVec 1 :=
  let true_81_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_80_r0 : BitVec 32 := 0#32
  let v89_r0 : BitVec 1 := Scalar.cmpi .ne v24_r0 c0_i32_80_r0
  let v90_r0 : BitVec 1 := Scalar.andi true_81_r0 v89_r0
  let true_82_r0 : BitVec 1 := 1#1
  let v91_r0 : BitVec 1 := Scalar.andi v90_r0 true_82_r0
  let v92_r0 : BitVec 32 := Scalar.extui v91_r0
  let c0_i32_83_r0 : BitVec 32 := 0#32
  let v93_r0 : BitVec 1 := Scalar.cmpi .ne v92_r0 c0_i32_83_r0
  v93_r0

def k0_off13 : Fin 1 → Nat :=
  let c0_i32_63_r0 : BitVec 32 := 0#32
  let c1_i32_64_r0 : BitVec 32 := 1#32
  let v67_r0 : BitVec 32 := Scalar.addi c0_i32_63_r0 c1_i32_64_r0
  let c4_i32_145_r0 : BitVec 32 := 4#32
  let v163_r0 : BitVec 32 := Scalar.remui v67_r0 c4_i32_145_r0
  ![v163_r0.toNat]
def k0_off14 : Fin 3 → Nat :=
  let c0_i32_63_r0 : BitVec 32 := 0#32
  let c1_i32_64_r0 : BitVec 32 := 1#32
  let v67_r0 : BitVec 32 := Scalar.addi c0_i32_63_r0 c1_i32_64_r0
  let c4_i32_145_r0 : BitVec 32 := 4#32
  let v163_r0 : BitVec 32 := Scalar.remui v67_r0 c4_i32_145_r0
  let c0_i32_147_r0 : BitVec 32 := 0#32
  let c0_i32_148_r0 : BitVec 32 := 0#32
  ![v163_r0.toNat, 0, 0]
def k0_off15 : Fin 2 → Nat :=
  let c1024_i32_146_r0 : BitVec 32 := 1024#32
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let v164_r0 : BitVec 32 := Scalar.muli c1024_i32_146_r0 v24_r0
  let c0_i32_149_r0 : BitVec 32 := 0#32
  ![v164_r0.toNat, 0]
def k0_cond5 : BitVec 1 :=
  let true_85_r0 : BitVec 1 := 1#1
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let c0_i32_18_r0 : BitVec 32 := 0#32
  let v24_r0 : BitVec 32 := Scalar.addi v23_r0 c0_i32_18_r0
  let v96_r0 : BitVec 1 := Scalar.cmpi .ne v29_r0 v24_r0
  let v97_r0 : BitVec 1 := Scalar.andi true_85_r0 v96_r0
  let true_86_r0 : BitVec 1 := 1#1
  let v98_r0 : BitVec 1 := Scalar.andi v97_r0 true_86_r0
  let v99_r0 : BitVec 32 := Scalar.extui v98_r0
  let c0_i32_87_r0 : BitVec 32 := 0#32
  let v100_r0 : BitVec 1 := Scalar.cmpi .ne v99_r0 c0_i32_87_r0
  v100_r0

def k0_off16 : Fin 1 → Nat :=
  let true_66_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_65_r0 : BitVec 32 := 0#32
  let v68_r0 : BitVec 1 := Scalar.cmpi .ne v24_r0 c0_i32_65_r0
  let v69_r0 : BitVec 1 := Scalar.andi true_66_r0 v68_r0
  let c0_i32_39_r0 : BitVec 32 := 0#32
  let c1_i32_40_r0 : BitVec 32 := 1#32
  let v46_r0 : BitVec 32 := Scalar.addi c0_i32_39_r0 c1_i32_40_r0
  let c1_i32_69_r0 : BitVec 32 := 1#32
  let v73_r0 : BitVec 32 := Scalar.addi v46_r0 c1_i32_69_r0
  let v74_r0 : BitVec 32 := Scalar.select v69_r0 v73_r0 v46_r0
  let c4_i32_145_r0 : BitVec 32 := 4#32
  let v163_r0 : BitVec 32 := Scalar.remui v74_r0 c4_i32_145_r0
  ![v163_r0.toNat]
def k0_off17 : Fin 3 → Nat :=
  let true_66_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_65_r0 : BitVec 32 := 0#32
  let v68_r0 : BitVec 1 := Scalar.cmpi .ne v24_r0 c0_i32_65_r0
  let v69_r0 : BitVec 1 := Scalar.andi true_66_r0 v68_r0
  let c0_i32_39_r0 : BitVec 32 := 0#32
  let c1_i32_40_r0 : BitVec 32 := 1#32
  let v46_r0 : BitVec 32 := Scalar.addi c0_i32_39_r0 c1_i32_40_r0
  let c1_i32_69_r0 : BitVec 32 := 1#32
  let v73_r0 : BitVec 32 := Scalar.addi v46_r0 c1_i32_69_r0
  let v74_r0 : BitVec 32 := Scalar.select v69_r0 v73_r0 v46_r0
  let c4_i32_145_r0 : BitVec 32 := 4#32
  let v163_r0 : BitVec 32 := Scalar.remui v74_r0 c4_i32_145_r0
  let c0_i32_147_r0 : BitVec 32 := 0#32
  let c0_i32_148_r0 : BitVec 32 := 0#32
  ![v163_r0.toNat, 0, 0]
def k0_off18 : Fin 2 → Nat :=
  let c1024_i32_146_r0 : BitVec 32 := 1024#32
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let v164_r0 : BitVec 32 := Scalar.muli c1024_i32_146_r0 v29_r0
  let c0_i32_149_r0 : BitVec 32 := 0#32
  ![v164_r0.toNat, 0]
def k0_cond6 : BitVec 1 :=
  let true_89_r0 : BitVec 1 := 1#1
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let c0_i32_18_r0 : BitVec 32 := 0#32
  let v24_r0 : BitVec 32 := Scalar.addi v23_r0 c0_i32_18_r0
  let v103_r0 : BitVec 1 := Scalar.cmpi .ne v29_r0 v24_r0
  let v104_r0 : BitVec 1 := Scalar.andi true_89_r0 v103_r0
  let true_90_r0 : BitVec 1 := 1#1
  let v105_r0 : BitVec 1 := Scalar.andi v104_r0 true_90_r0
  let v106_r0 : BitVec 32 := Scalar.extui v105_r0
  let c0_i32_91_r0 : BitVec 32 := 0#32
  let v107_r0 : BitVec 1 := Scalar.cmpi .ne v106_r0 c0_i32_91_r0
  v107_r0

def k0_off19 : Fin 1 → Nat :=
  let true_71_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_70_r0 : BitVec 32 := 0#32
  let v75_r0 : BitVec 1 := Scalar.cmpi .ne v24_r0 c0_i32_70_r0
  let v76_r0 : BitVec 1 := Scalar.andi true_71_r0 v75_r0
  let c0_i32_47_r0 : BitVec 32 := 0#32
  let c1_i32_48_r0 : BitVec 32 := 1#32
  let v53_r0 : BitVec 32 := Scalar.addi c0_i32_47_r0 c1_i32_48_r0
  let c1_i32_74_r0 : BitVec 32 := 1#32
  let v80_r0 : BitVec 32 := Scalar.addi v53_r0 c1_i32_74_r0
  let v81_r0 : BitVec 32 := Scalar.select v76_r0 v80_r0 v53_r0
  let c4_i32_145_r0 : BitVec 32 := 4#32
  let v163_r0 : BitVec 32 := Scalar.remui v81_r0 c4_i32_145_r0
  ![v163_r0.toNat]
def k0_off20 : Fin 3 → Nat :=
  let true_71_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_70_r0 : BitVec 32 := 0#32
  let v75_r0 : BitVec 1 := Scalar.cmpi .ne v24_r0 c0_i32_70_r0
  let v76_r0 : BitVec 1 := Scalar.andi true_71_r0 v75_r0
  let c0_i32_47_r0 : BitVec 32 := 0#32
  let c1_i32_48_r0 : BitVec 32 := 1#32
  let v53_r0 : BitVec 32 := Scalar.addi c0_i32_47_r0 c1_i32_48_r0
  let c1_i32_74_r0 : BitVec 32 := 1#32
  let v80_r0 : BitVec 32 := Scalar.addi v53_r0 c1_i32_74_r0
  let v81_r0 : BitVec 32 := Scalar.select v76_r0 v80_r0 v53_r0
  let c4_i32_145_r0 : BitVec 32 := 4#32
  let v163_r0 : BitVec 32 := Scalar.remui v81_r0 c4_i32_145_r0
  let c0_i32_147_r0 : BitVec 32 := 0#32
  let c0_i32_148_r0 : BitVec 32 := 0#32
  ![v163_r0.toNat, 0, 0]
def k0_off21 : Fin 2 → Nat :=
  let c1024_i32_146_r0 : BitVec 32 := 1024#32
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let v164_r0 : BitVec 32 := Scalar.muli c1024_i32_146_r0 v29_r0
  let c0_i32_149_r0 : BitVec 32 := 0#32
  ![v164_r0.toNat, 0]
def k0_cond7 : BitVec 1 :=
  let true_93_r0 : BitVec 1 := 1#1
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let c0_i32_18_r0 : BitVec 32 := 0#32
  let v24_r0 : BitVec 32 := Scalar.addi v23_r0 c0_i32_18_r0
  let v110_r0 : BitVec 1 := Scalar.cmpi .ne v29_r0 v24_r0
  let v111_r0 : BitVec 1 := Scalar.andi true_93_r0 v110_r0
  let true_94_r0 : BitVec 1 := 1#1
  let v112_r0 : BitVec 1 := Scalar.andi v111_r0 true_94_r0
  let v113_r0 : BitVec 32 := Scalar.extui v112_r0
  let c0_i32_95_r0 : BitVec 32 := 0#32
  let v114_r0 : BitVec 1 := Scalar.cmpi .ne v113_r0 c0_i32_95_r0
  v114_r0

def k0_off22 : Fin 1 → Nat :=
  let true_76_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_75_r0 : BitVec 32 := 0#32
  let v82_r0 : BitVec 1 := Scalar.cmpi .ne v24_r0 c0_i32_75_r0
  let v83_r0 : BitVec 1 := Scalar.andi true_76_r0 v82_r0
  let c0_i32_55_r0 : BitVec 32 := 0#32
  let c1_i32_56_r0 : BitVec 32 := 1#32
  let v60_r0 : BitVec 32 := Scalar.addi c0_i32_55_r0 c1_i32_56_r0
  let c1_i32_79_r0 : BitVec 32 := 1#32
  let v87_r0 : BitVec 32 := Scalar.addi v60_r0 c1_i32_79_r0
  let v88_r0 : BitVec 32 := Scalar.select v83_r0 v87_r0 v60_r0
  let c4_i32_145_r0 : BitVec 32 := 4#32
  let v163_r0 : BitVec 32 := Scalar.remui v88_r0 c4_i32_145_r0
  ![v163_r0.toNat]
def k0_off23 : Fin 3 → Nat :=
  let true_76_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_75_r0 : BitVec 32 := 0#32
  let v82_r0 : BitVec 1 := Scalar.cmpi .ne v24_r0 c0_i32_75_r0
  let v83_r0 : BitVec 1 := Scalar.andi true_76_r0 v82_r0
  let c0_i32_55_r0 : BitVec 32 := 0#32
  let c1_i32_56_r0 : BitVec 32 := 1#32
  let v60_r0 : BitVec 32 := Scalar.addi c0_i32_55_r0 c1_i32_56_r0
  let c1_i32_79_r0 : BitVec 32 := 1#32
  let v87_r0 : BitVec 32 := Scalar.addi v60_r0 c1_i32_79_r0
  let v88_r0 : BitVec 32 := Scalar.select v83_r0 v87_r0 v60_r0
  let c4_i32_145_r0 : BitVec 32 := 4#32
  let v163_r0 : BitVec 32 := Scalar.remui v88_r0 c4_i32_145_r0
  let c0_i32_147_r0 : BitVec 32 := 0#32
  let c0_i32_148_r0 : BitVec 32 := 0#32
  ![v163_r0.toNat, 0, 0]
def k0_off24 : Fin 2 → Nat :=
  let c1024_i32_146_r0 : BitVec 32 := 1024#32
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let v164_r0 : BitVec 32 := Scalar.muli c1024_i32_146_r0 v29_r0
  let c0_i32_149_r0 : BitVec 32 := 0#32
  ![v164_r0.toNat, 0]
def k0_cond8 : BitVec 1 :=
  let true_97_r0 : BitVec 1 := 1#1
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let c0_i32_18_r0 : BitVec 32 := 0#32
  let v24_r0 : BitVec 32 := Scalar.addi v23_r0 c0_i32_18_r0
  let v117_r0 : BitVec 1 := Scalar.cmpi .ne v29_r0 v24_r0
  let v118_r0 : BitVec 1 := Scalar.andi true_97_r0 v117_r0
  let true_98_r0 : BitVec 1 := 1#1
  let v119_r0 : BitVec 1 := Scalar.andi v118_r0 true_98_r0
  let v120_r0 : BitVec 32 := Scalar.extui v119_r0
  let c0_i32_99_r0 : BitVec 32 := 0#32
  let v121_r0 : BitVec 1 := Scalar.cmpi .ne v120_r0 c0_i32_99_r0
  v121_r0

def k0_off25 : Fin 1 → Nat :=
  let true_81_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_80_r0 : BitVec 32 := 0#32
  let v89_r0 : BitVec 1 := Scalar.cmpi .ne v24_r0 c0_i32_80_r0
  let v90_r0 : BitVec 1 := Scalar.andi true_81_r0 v89_r0
  let c0_i32_63_r0 : BitVec 32 := 0#32
  let c1_i32_64_r0 : BitVec 32 := 1#32
  let v67_r0 : BitVec 32 := Scalar.addi c0_i32_63_r0 c1_i32_64_r0
  let c1_i32_84_r0 : BitVec 32 := 1#32
  let v94_r0 : BitVec 32 := Scalar.addi v67_r0 c1_i32_84_r0
  let v95_r0 : BitVec 32 := Scalar.select v90_r0 v94_r0 v67_r0
  let c4_i32_145_r0 : BitVec 32 := 4#32
  let v163_r0 : BitVec 32 := Scalar.remui v95_r0 c4_i32_145_r0
  ![v163_r0.toNat]
def k0_off26 : Fin 3 → Nat :=
  let true_81_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c0_i32_18_r0 : BitVec 32 := 0#32
  let v24_r0 : BitVec 32 := Scalar.addi v23_r0 c0_i32_18_r0
  let c0_i32_80_r0 : BitVec 32 := 0#32
  let v89_r0 : BitVec 1 := Scalar.cmpi .ne v24_r0 c0_i32_80_r0
  let v90_r0 : BitVec 1 := Scalar.andi true_81_r0 v89_r0
  let c0_i32_63_r0 : BitVec 32 := 0#32
  let c1_i32_64_r0 : BitVec 32 := 1#32
  let v67_r0 : BitVec 32 := Scalar.addi c0_i32_63_r0 c1_i32_64_r0
  let c1_i32_84_r0 : BitVec 32 := 1#32
  let v94_r0 : BitVec 32 := Scalar.addi v67_r0 c1_i32_84_r0
  let v95_r0 : BitVec 32 := Scalar.select v90_r0 v94_r0 v67_r0
  let c4_i32_145_r0 : BitVec 32 := 4#32
  let v163_r0 : BitVec 32 := Scalar.remui v95_r0 c4_i32_145_r0
  let c0_i32_147_r0 : BitVec 32 := 0#32
  let c0_i32_148_r0 : BitVec 32 := 0#32
  ![v163_r0.toNat, 0, 0]
def k0_off27 : Fin 2 → Nat :=
  let c1024_i32_146_r0 : BitVec 32 := 1024#32
  let true_20_r0 : BitVec 1 := 1#1
  let true_15_r0 : BitVec 1 := 1#1
  let c1_i32_r0 : BitVec 32 := 1#32
  let c0_i32_16_r0 : BitVec 32 := 0#32
  let v21_r0 : BitVec 32 := Scalar.select true_15_r0 c1_i32_r0 c0_i32_16_r0
  let c16_i32_r0 : BitVec 32 := 16#32
  let v22_r0 : BitVec 1 := Scalar.cmpi .eq v21_r0 c16_i32_r0
  let c0_i32_17_r0 : BitVec 32 := 0#32
  let v23_r0 : BitVec 32 := Scalar.select v22_r0 c0_i32_17_r0 v21_r0
  let c1_i32_19_r0 : BitVec 32 := 1#32
  let v25_r0 : BitVec 32 := Scalar.addi v23_r0 c1_i32_19_r0
  let v26_r0 : BitVec 32 := Scalar.select true_20_r0 v25_r0 v23_r0
  let c16_i32_21_r0 : BitVec 32 := 16#32
  let v27_r0 : BitVec 1 := Scalar.cmpi .eq v26_r0 c16_i32_21_r0
  let c0_i32_22_r0 : BitVec 32 := 0#32
  let v28_r0 : BitVec 32 := Scalar.select v27_r0 c0_i32_22_r0 v26_r0
  let c0_i32_23_r0 : BitVec 32 := 0#32
  let v29_r0 : BitVec 32 := Scalar.addi v28_r0 c0_i32_23_r0
  let v164_r0 : BitVec 32 := Scalar.muli c1024_i32_146_r0 v29_r0
  let c0_i32_149_r0 : BitVec 32 := 0#32
  ![v164_r0.toNat, 0]
@[reducible] def k0_t1_loop : Scf.Loop 32 :=
  let c0_i32_108_r0 : BitVec 32 := 0#32
  let c16_i32_109_r0 : BitVec 32 := 16#32
  let v124_r0 : BitVec 32 := Scalar.addi c0_i32_108_r0 c16_i32_109_r0
  let c1_i32_110_r0 : BitVec 32 := 1#32
  ⟨c0_i32_108_r0, v124_r0, c1_i32_110_r0⟩
def k0_off28 (arg14_r0 : BitVec 32) : Fin 1 → Nat :=
  let c4_i32_335_r0 : BitVec 32 := 4#32
  let v499_r0 : BitVec 32 := Scalar.remui arg14_r0 c4_i32_335_r0
  ![v499_r0.toNat]
def k0_cond9 (k0_t1 : Fin k0_t1_loop.trips) (arg24_r0 : BitVec 32) : BitVec 1 :=
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c0_i32_162_r0 : BitVec 32 := 0#32
  let v180_r0 : BitVec 32 := Scalar.addi v179_r0 c0_i32_162_r0
  let true_164_r0 : BitVec 1 := 1#1
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v191_r0 : BitVec 1 := Scalar.cmpi .ne v180_r0 v185_r0
  let c0_i32_108_r0 : BitVec 32 := 0#32
  let c1_i32_110_r0 : BitVec 32 := 1#32
  let arg13_r0 : BitVec 32 := Scf.iv c0_i32_108_r0 c1_i32_110_r0 k0_t1
  let c13_i32_r0 : BitVec 32 := 13#32
  let v192_r0 : BitVec 1 := Scalar.cmpi .sge arg13_r0 c13_i32_r0
  let true_173_r0 : BitVec 1 := 1#1
  let v193_r0 : BitVec 1 := Scalar.xori v192_r0 true_173_r0
  let v194_r0 : BitVec 1 := Scalar.andi v191_r0 v193_r0
  let true_174_r0 : BitVec 1 := 1#1
  let v195_r0 : BitVec 1 := Scalar.andi v194_r0 true_174_r0
  let v196_r0 : BitVec 32 := Scalar.extui v195_r0
  let c0_i32_175_r0 : BitVec 32 := 0#32
  let v197_r0 : BitVec 1 := Scalar.cmpi .ne v196_r0 c0_i32_175_r0
  v197_r0

def k0_off29 (arg14_r0 : BitVec 32) : Fin 3 → Nat :=
  let c4_i32_335_r0 : BitVec 32 := 4#32
  let v499_r0 : BitVec 32 := Scalar.remui arg14_r0 c4_i32_335_r0
  let c0_i32_337_r0 : BitVec 32 := 0#32
  let c0_i32_338_r0 : BitVec 32 := 0#32
  ![v499_r0.toNat, 0, 0]
def k0_off30 (arg24_r0 : BitVec 32) : Fin 2 → Nat :=
  let c1024_i32_336_r0 : BitVec 32 := 1024#32
  let true_164_r0 : BitVec 1 := 1#1
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v500_r0 : BitVec 32 := Scalar.muli c1024_i32_336_r0 v185_r0
  let c0_i32_339_r0 : BitVec 32 := 0#32
  ![v500_r0.toNat, 0]
def k0_off31 (arg16_r0 : BitVec 32) : Fin 1 → Nat :=
  let c4_i32_335_r0 : BitVec 32 := 4#32
  let v499_r0 : BitVec 32 := Scalar.remui arg16_r0 c4_i32_335_r0
  ![v499_r0.toNat]
def k0_cond10 (k0_t1 : Fin k0_t1_loop.trips) (arg24_r0 : BitVec 32) : BitVec 1 :=
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c0_i32_162_r0 : BitVec 32 := 0#32
  let v180_r0 : BitVec 32 := Scalar.addi v179_r0 c0_i32_162_r0
  let true_164_r0 : BitVec 1 := 1#1
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v201_r0 : BitVec 1 := Scalar.cmpi .ne v180_r0 v185_r0
  let c0_i32_108_r0 : BitVec 32 := 0#32
  let c1_i32_110_r0 : BitVec 32 := 1#32
  let arg13_r0 : BitVec 32 := Scf.iv c0_i32_108_r0 c1_i32_110_r0 k0_t1
  let c13_i32_178_r0 : BitVec 32 := 13#32
  let v202_r0 : BitVec 1 := Scalar.cmpi .sge arg13_r0 c13_i32_178_r0
  let true_179_r0 : BitVec 1 := 1#1
  let v203_r0 : BitVec 1 := Scalar.xori v202_r0 true_179_r0
  let v204_r0 : BitVec 1 := Scalar.andi v201_r0 v203_r0
  let true_180_r0 : BitVec 1 := 1#1
  let v205_r0 : BitVec 1 := Scalar.andi v204_r0 true_180_r0
  let v206_r0 : BitVec 32 := Scalar.extui v205_r0
  let c0_i32_181_r0 : BitVec 32 := 0#32
  let v207_r0 : BitVec 1 := Scalar.cmpi .ne v206_r0 c0_i32_181_r0
  v207_r0

def k0_off32 (arg16_r0 : BitVec 32) : Fin 3 → Nat :=
  let c4_i32_335_r0 : BitVec 32 := 4#32
  let v499_r0 : BitVec 32 := Scalar.remui arg16_r0 c4_i32_335_r0
  let c0_i32_337_r0 : BitVec 32 := 0#32
  let c0_i32_338_r0 : BitVec 32 := 0#32
  ![v499_r0.toNat, 0, 0]
def k0_off33 (arg24_r0 : BitVec 32) : Fin 2 → Nat :=
  let c1024_i32_336_r0 : BitVec 32 := 1024#32
  let true_164_r0 : BitVec 1 := 1#1
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v500_r0 : BitVec 32 := Scalar.muli c1024_i32_336_r0 v185_r0
  let c0_i32_339_r0 : BitVec 32 := 0#32
  ![v500_r0.toNat, 0]
def k0_off34 (arg18_r0 : BitVec 32) : Fin 1 → Nat :=
  let c4_i32_335_r0 : BitVec 32 := 4#32
  let v499_r0 : BitVec 32 := Scalar.remui arg18_r0 c4_i32_335_r0
  ![v499_r0.toNat]
def k0_cond11 (k0_t1 : Fin k0_t1_loop.trips) (arg24_r0 : BitVec 32) : BitVec 1 :=
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c0_i32_162_r0 : BitVec 32 := 0#32
  let v180_r0 : BitVec 32 := Scalar.addi v179_r0 c0_i32_162_r0
  let true_164_r0 : BitVec 1 := 1#1
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v211_r0 : BitVec 1 := Scalar.cmpi .ne v180_r0 v185_r0
  let c0_i32_108_r0 : BitVec 32 := 0#32
  let c1_i32_110_r0 : BitVec 32 := 1#32
  let arg13_r0 : BitVec 32 := Scf.iv c0_i32_108_r0 c1_i32_110_r0 k0_t1
  let c13_i32_184_r0 : BitVec 32 := 13#32
  let v212_r0 : BitVec 1 := Scalar.cmpi .sge arg13_r0 c13_i32_184_r0
  let true_185_r0 : BitVec 1 := 1#1
  let v213_r0 : BitVec 1 := Scalar.xori v212_r0 true_185_r0
  let v214_r0 : BitVec 1 := Scalar.andi v211_r0 v213_r0
  let true_186_r0 : BitVec 1 := 1#1
  let v215_r0 : BitVec 1 := Scalar.andi v214_r0 true_186_r0
  let v216_r0 : BitVec 32 := Scalar.extui v215_r0
  let c0_i32_187_r0 : BitVec 32 := 0#32
  let v217_r0 : BitVec 1 := Scalar.cmpi .ne v216_r0 c0_i32_187_r0
  v217_r0

def k0_off35 (arg18_r0 : BitVec 32) : Fin 3 → Nat :=
  let c4_i32_335_r0 : BitVec 32 := 4#32
  let v499_r0 : BitVec 32 := Scalar.remui arg18_r0 c4_i32_335_r0
  let c0_i32_337_r0 : BitVec 32 := 0#32
  let c0_i32_338_r0 : BitVec 32 := 0#32
  ![v499_r0.toNat, 0, 0]
def k0_off36 (arg24_r0 : BitVec 32) : Fin 2 → Nat :=
  let c1024_i32_336_r0 : BitVec 32 := 1024#32
  let true_164_r0 : BitVec 1 := 1#1
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v500_r0 : BitVec 32 := Scalar.muli c1024_i32_336_r0 v185_r0
  let c0_i32_339_r0 : BitVec 32 := 0#32
  ![v500_r0.toNat, 0]
def k0_off37 (arg20_r0 : BitVec 32) : Fin 1 → Nat :=
  let c4_i32_335_r0 : BitVec 32 := 4#32
  let v499_r0 : BitVec 32 := Scalar.remui arg20_r0 c4_i32_335_r0
  ![v499_r0.toNat]
def k0_cond12 (k0_t1 : Fin k0_t1_loop.trips) (arg24_r0 : BitVec 32) : BitVec 1 :=
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c0_i32_162_r0 : BitVec 32 := 0#32
  let v180_r0 : BitVec 32 := Scalar.addi v179_r0 c0_i32_162_r0
  let true_164_r0 : BitVec 1 := 1#1
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v221_r0 : BitVec 1 := Scalar.cmpi .ne v180_r0 v185_r0
  let c0_i32_108_r0 : BitVec 32 := 0#32
  let c1_i32_110_r0 : BitVec 32 := 1#32
  let arg13_r0 : BitVec 32 := Scf.iv c0_i32_108_r0 c1_i32_110_r0 k0_t1
  let c13_i32_190_r0 : BitVec 32 := 13#32
  let v222_r0 : BitVec 1 := Scalar.cmpi .sge arg13_r0 c13_i32_190_r0
  let true_191_r0 : BitVec 1 := 1#1
  let v223_r0 : BitVec 1 := Scalar.xori v222_r0 true_191_r0
  let v224_r0 : BitVec 1 := Scalar.andi v221_r0 v223_r0
  let true_192_r0 : BitVec 1 := 1#1
  let v225_r0 : BitVec 1 := Scalar.andi v224_r0 true_192_r0
  let v226_r0 : BitVec 32 := Scalar.extui v225_r0
  let c0_i32_193_r0 : BitVec 32 := 0#32
  let v227_r0 : BitVec 1 := Scalar.cmpi .ne v226_r0 c0_i32_193_r0
  v227_r0

def k0_off38 (arg20_r0 : BitVec 32) : Fin 3 → Nat :=
  let c4_i32_335_r0 : BitVec 32 := 4#32
  let v499_r0 : BitVec 32 := Scalar.remui arg20_r0 c4_i32_335_r0
  let c0_i32_337_r0 : BitVec 32 := 0#32
  let c0_i32_338_r0 : BitVec 32 := 0#32
  ![v499_r0.toNat, 0, 0]
def k0_off39 (arg24_r0 : BitVec 32) : Fin 2 → Nat :=
  let c1024_i32_336_r0 : BitVec 32 := 1024#32
  let true_164_r0 : BitVec 1 := 1#1
  let true_159_r0 : BitVec 1 := 1#1
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c16_i32_160_r0 : BitVec 32 := 16#32
  let v178_r0 : BitVec 1 := Scalar.cmpi .eq v177_r0 c16_i32_160_r0
  let c0_i32_161_r0 : BitVec 32 := 0#32
  let v179_r0 : BitVec 32 := Scalar.select v178_r0 c0_i32_161_r0 v177_r0
  let c1_i32_163_r0 : BitVec 32 := 1#32
  let v181_r0 : BitVec 32 := Scalar.addi v179_r0 c1_i32_163_r0
  let v182_r0 : BitVec 32 := Scalar.select true_164_r0 v181_r0 v179_r0
  let c16_i32_165_r0 : BitVec 32 := 16#32
  let v183_r0 : BitVec 1 := Scalar.cmpi .eq v182_r0 c16_i32_165_r0
  let c0_i32_166_r0 : BitVec 32 := 0#32
  let v184_r0 : BitVec 32 := Scalar.select v183_r0 c0_i32_166_r0 v182_r0
  let c0_i32_167_r0 : BitVec 32 := 0#32
  let v185_r0 : BitVec 32 := Scalar.addi v184_r0 c0_i32_167_r0
  let v500_r0 : BitVec 32 := Scalar.muli c1024_i32_336_r0 v185_r0
  let c0_i32_339_r0 : BitVec 32 := 0#32
  ![v500_r0.toNat, 0]
def k0_off40 (arg15_r0 : BitVec 32) : Fin 1 → Nat :=
  let c4_i32_336_r0 : BitVec 32 := 4#32
  let v500_r0 : BitVec 32 := Scalar.remui arg15_r0 c4_i32_336_r0
  ![v500_r0.toNat]
def k0_cond13 (k0_t1 : Fin k0_t1_loop.trips) (arg24_r0 : BitVec 32) : BitVec 1 :=
  let c0_i32_147_r0 : BitVec 32 := 0#32
  let v165_r0 : BitVec 32 := Scalar.addi arg24_r0 c0_i32_147_r0
  let true_149_r0 : BitVec 1 := 1#1
  let c1_i32_148_r0 : BitVec 32 := 1#32
  let v166_r0 : BitVec 32 := Scalar.subi arg24_r0 c1_i32_148_r0
  let v167_r0 : BitVec 32 := Scalar.select true_149_r0 v166_r0 arg24_r0
  let c_m1_i32_150_r0 : BitVec 32 := 4294967295#32
  let v168_r0 : BitVec 1 := Scalar.cmpi .eq v167_r0 c_m1_i32_150_r0
  let c15_i32_151_r0 : BitVec 32 := 15#32
  let v169_r0 : BitVec 32 := Scalar.select v168_r0 c15_i32_151_r0 v167_r0
  let c0_i32_152_r0 : BitVec 32 := 0#32
  let v170_r0 : BitVec 32 := Scalar.addi v169_r0 c0_i32_152_r0
  let v235_r0 : BitVec 1 := Scalar.cmpi .ne v165_r0 v170_r0
  let c0_i32_108_r0 : BitVec 32 := 0#32
  let c1_i32_110_r0 : BitVec 32 := 1#32
  let arg13_r0 : BitVec 32 := Scf.iv c0_i32_108_r0 c1_i32_110_r0 k0_t1
  let c0_i32_145_r0 : BitVec 32 := 0#32
  let v163_r0 : BitVec 1 := Scalar.cmpi .eq arg13_r0 c0_i32_145_r0
  let v236_r0 : BitVec 1 := Scalar.ori v235_r0 v163_r0
  let c0_i32_198_r0 : BitVec 32 := 0#32
  let v237_r0 : BitVec 1 := Scalar.cmpi .sge arg13_r0 c0_i32_198_r0
  let v238_r0 : BitVec 1 := Scalar.andi v236_r0 v237_r0
  let v239_r0 : BitVec 32 := Scalar.extui v238_r0
  let c0_i32_199_r0 : BitVec 32 := 0#32
  let v240_r0 : BitVec 1 := Scalar.cmpi .ne v239_r0 c0_i32_199_r0
  v240_r0

def k0_off41 (arg15_r0 : BitVec 32) : Fin 3 → Nat :=
  let c4_i32_336_r0 : BitVec 32 := 4#32
  let v500_r0 : BitVec 32 := Scalar.remui arg15_r0 c4_i32_336_r0
  let c0_i32_337_r0 : BitVec 32 := 0#32
  let c0_i32_338_r0 : BitVec 32 := 0#32
  ![v500_r0.toNat, 0, 0]
def k0_off42 (arg24_r0 : BitVec 32) : Fin 2 → Nat :=
  let c1024_i32_335_r0 : BitVec 32 := 1024#32
  let c0_i32_147_r0 : BitVec 32 := 0#32
  let v165_r0 : BitVec 32 := Scalar.addi arg24_r0 c0_i32_147_r0
  let v499_r0 : BitVec 32 := Scalar.muli c1024_i32_335_r0 v165_r0
  let c0_i32_339_r0 : BitVec 32 := 0#32
  ![v499_r0.toNat, 0]
def k0_off43 (arg17_r0 : BitVec 32) : Fin 1 → Nat :=
  let c4_i32_336_r0 : BitVec 32 := 4#32
  let v500_r0 : BitVec 32 := Scalar.remui arg17_r0 c4_i32_336_r0
  ![v500_r0.toNat]
def k0_cond14 (k0_t1 : Fin k0_t1_loop.trips) (arg24_r0 : BitVec 32) : BitVec 1 :=
  let c0_i32_147_r0 : BitVec 32 := 0#32
  let v165_r0 : BitVec 32 := Scalar.addi arg24_r0 c0_i32_147_r0
  let true_149_r0 : BitVec 1 := 1#1
  let c1_i32_148_r0 : BitVec 32 := 1#32
  let v166_r0 : BitVec 32 := Scalar.subi arg24_r0 c1_i32_148_r0
  let v167_r0 : BitVec 32 := Scalar.select true_149_r0 v166_r0 arg24_r0
  let c_m1_i32_150_r0 : BitVec 32 := 4294967295#32
  let v168_r0 : BitVec 1 := Scalar.cmpi .eq v167_r0 c_m1_i32_150_r0
  let c15_i32_151_r0 : BitVec 32 := 15#32
  let v169_r0 : BitVec 32 := Scalar.select v168_r0 c15_i32_151_r0 v167_r0
  let c0_i32_152_r0 : BitVec 32 := 0#32
  let v170_r0 : BitVec 32 := Scalar.addi v169_r0 c0_i32_152_r0
  let v241_r0 : BitVec 1 := Scalar.cmpi .ne v165_r0 v170_r0
  let c0_i32_108_r0 : BitVec 32 := 0#32
  let c1_i32_110_r0 : BitVec 32 := 1#32
  let arg13_r0 : BitVec 32 := Scf.iv c0_i32_108_r0 c1_i32_110_r0 k0_t1
  let c0_i32_145_r0 : BitVec 32 := 0#32
  let v163_r0 : BitVec 1 := Scalar.cmpi .eq arg13_r0 c0_i32_145_r0
  let v242_r0 : BitVec 1 := Scalar.ori v241_r0 v163_r0
  let c0_i32_200_r0 : BitVec 32 := 0#32
  let v243_r0 : BitVec 1 := Scalar.cmpi .sge arg13_r0 c0_i32_200_r0
  let v244_r0 : BitVec 1 := Scalar.andi v242_r0 v243_r0
  let v245_r0 : BitVec 32 := Scalar.extui v244_r0
  let c0_i32_201_r0 : BitVec 32 := 0#32
  let v246_r0 : BitVec 1 := Scalar.cmpi .ne v245_r0 c0_i32_201_r0
  v246_r0

def k0_off44 (arg17_r0 : BitVec 32) : Fin 3 → Nat :=
  let c4_i32_336_r0 : BitVec 32 := 4#32
  let v500_r0 : BitVec 32 := Scalar.remui arg17_r0 c4_i32_336_r0
  let c0_i32_337_r0 : BitVec 32 := 0#32
  let c0_i32_338_r0 : BitVec 32 := 0#32
  ![v500_r0.toNat, 0, 0]
def k0_off45 (arg24_r0 : BitVec 32) : Fin 2 → Nat :=
  let c1024_i32_335_r0 : BitVec 32 := 1024#32
  let c0_i32_147_r0 : BitVec 32 := 0#32
  let v165_r0 : BitVec 32 := Scalar.addi arg24_r0 c0_i32_147_r0
  let v499_r0 : BitVec 32 := Scalar.muli c1024_i32_335_r0 v165_r0
  let c0_i32_339_r0 : BitVec 32 := 0#32
  ![v499_r0.toNat, 0]
def k0_off46 (arg19_r0 : BitVec 32) : Fin 1 → Nat :=
  let c4_i32_336_r0 : BitVec 32 := 4#32
  let v500_r0 : BitVec 32 := Scalar.remui arg19_r0 c4_i32_336_r0
  ![v500_r0.toNat]
def k0_cond15 (k0_t1 : Fin k0_t1_loop.trips) (arg24_r0 : BitVec 32) : BitVec 1 :=
  let c0_i32_147_r0 : BitVec 32 := 0#32
  let v165_r0 : BitVec 32 := Scalar.addi arg24_r0 c0_i32_147_r0
  let true_149_r0 : BitVec 1 := 1#1
  let c1_i32_148_r0 : BitVec 32 := 1#32
  let v166_r0 : BitVec 32 := Scalar.subi arg24_r0 c1_i32_148_r0
  let v167_r0 : BitVec 32 := Scalar.select true_149_r0 v166_r0 arg24_r0
  let c_m1_i32_150_r0 : BitVec 32 := 4294967295#32
  let v168_r0 : BitVec 1 := Scalar.cmpi .eq v167_r0 c_m1_i32_150_r0
  let c15_i32_151_r0 : BitVec 32 := 15#32
  let v169_r0 : BitVec 32 := Scalar.select v168_r0 c15_i32_151_r0 v167_r0
  let c0_i32_152_r0 : BitVec 32 := 0#32
  let v170_r0 : BitVec 32 := Scalar.addi v169_r0 c0_i32_152_r0
  let v247_r0 : BitVec 1 := Scalar.cmpi .ne v165_r0 v170_r0
  let c0_i32_108_r0 : BitVec 32 := 0#32
  let c1_i32_110_r0 : BitVec 32 := 1#32
  let arg13_r0 : BitVec 32 := Scf.iv c0_i32_108_r0 c1_i32_110_r0 k0_t1
  let c0_i32_145_r0 : BitVec 32 := 0#32
  let v163_r0 : BitVec 1 := Scalar.cmpi .eq arg13_r0 c0_i32_145_r0
  let v248_r0 : BitVec 1 := Scalar.ori v247_r0 v163_r0
  let c0_i32_202_r0 : BitVec 32 := 0#32
  let v249_r0 : BitVec 1 := Scalar.cmpi .sge arg13_r0 c0_i32_202_r0
  let v250_r0 : BitVec 1 := Scalar.andi v248_r0 v249_r0
  let v251_r0 : BitVec 32 := Scalar.extui v250_r0
  let c0_i32_203_r0 : BitVec 32 := 0#32
  let v252_r0 : BitVec 1 := Scalar.cmpi .ne v251_r0 c0_i32_203_r0
  v252_r0

def k0_off47 (arg19_r0 : BitVec 32) : Fin 3 → Nat :=
  let c4_i32_336_r0 : BitVec 32 := 4#32
  let v500_r0 : BitVec 32 := Scalar.remui arg19_r0 c4_i32_336_r0
  let c0_i32_337_r0 : BitVec 32 := 0#32
  let c0_i32_338_r0 : BitVec 32 := 0#32
  ![v500_r0.toNat, 0, 0]
def k0_off48 (arg24_r0 : BitVec 32) : Fin 2 → Nat :=
  let c1024_i32_335_r0 : BitVec 32 := 1024#32
  let c0_i32_147_r0 : BitVec 32 := 0#32
  let v165_r0 : BitVec 32 := Scalar.addi arg24_r0 c0_i32_147_r0
  let v499_r0 : BitVec 32 := Scalar.muli c1024_i32_335_r0 v165_r0
  let c0_i32_339_r0 : BitVec 32 := 0#32
  ![v499_r0.toNat, 0]
def k0_off49 (arg21_r0 : BitVec 32) : Fin 1 → Nat :=
  let c4_i32_336_r0 : BitVec 32 := 4#32
  let v500_r0 : BitVec 32 := Scalar.remui arg21_r0 c4_i32_336_r0
  ![v500_r0.toNat]
def k0_cond16 (k0_t1 : Fin k0_t1_loop.trips) (arg24_r0 : BitVec 32) : BitVec 1 :=
  let c0_i32_147_r0 : BitVec 32 := 0#32
  let v165_r0 : BitVec 32 := Scalar.addi arg24_r0 c0_i32_147_r0
  let true_149_r0 : BitVec 1 := 1#1
  let c1_i32_148_r0 : BitVec 32 := 1#32
  let v166_r0 : BitVec 32 := Scalar.subi arg24_r0 c1_i32_148_r0
  let v167_r0 : BitVec 32 := Scalar.select true_149_r0 v166_r0 arg24_r0
  let c_m1_i32_150_r0 : BitVec 32 := 4294967295#32
  let v168_r0 : BitVec 1 := Scalar.cmpi .eq v167_r0 c_m1_i32_150_r0
  let c15_i32_151_r0 : BitVec 32 := 15#32
  let v169_r0 : BitVec 32 := Scalar.select v168_r0 c15_i32_151_r0 v167_r0
  let c0_i32_152_r0 : BitVec 32 := 0#32
  let v170_r0 : BitVec 32 := Scalar.addi v169_r0 c0_i32_152_r0
  let v253_r0 : BitVec 1 := Scalar.cmpi .ne v165_r0 v170_r0
  let c0_i32_108_r0 : BitVec 32 := 0#32
  let c1_i32_110_r0 : BitVec 32 := 1#32
  let arg13_r0 : BitVec 32 := Scf.iv c0_i32_108_r0 c1_i32_110_r0 k0_t1
  let c0_i32_145_r0 : BitVec 32 := 0#32
  let v163_r0 : BitVec 1 := Scalar.cmpi .eq arg13_r0 c0_i32_145_r0
  let v254_r0 : BitVec 1 := Scalar.ori v253_r0 v163_r0
  let c0_i32_204_r0 : BitVec 32 := 0#32
  let v255_r0 : BitVec 1 := Scalar.cmpi .sge arg13_r0 c0_i32_204_r0
  let v256_r0 : BitVec 1 := Scalar.andi v254_r0 v255_r0
  let v257_r0 : BitVec 32 := Scalar.extui v256_r0
  let c0_i32_205_r0 : BitVec 32 := 0#32
  let v258_r0 : BitVec 1 := Scalar.cmpi .ne v257_r0 c0_i32_205_r0
  v258_r0

def k0_off50 (arg21_r0 : BitVec 32) : Fin 3 → Nat :=
  let c4_i32_336_r0 : BitVec 32 := 4#32
  let v500_r0 : BitVec 32 := Scalar.remui arg21_r0 c4_i32_336_r0
  let c0_i32_337_r0 : BitVec 32 := 0#32
  let c0_i32_338_r0 : BitVec 32 := 0#32
  ![v500_r0.toNat, 0, 0]
def k0_off51 (arg24_r0 : BitVec 32) : Fin 2 → Nat :=
  let c1024_i32_335_r0 : BitVec 32 := 1024#32
  let c0_i32_147_r0 : BitVec 32 := 0#32
  let v165_r0 : BitVec 32 := Scalar.addi arg24_r0 c0_i32_147_r0
  let v499_r0 : BitVec 32 := Scalar.muli c1024_i32_335_r0 v165_r0
  let c0_i32_339_r0 : BitVec 32 := 0#32
  ![v499_r0.toNat, 0]
def k0_off52 (arg15_r0 : BitVec 32) : Fin 3 → Nat :=
  let c4_i32_208_r0 : BitVec 32 := 4#32
  let v265_r0 : BitVec 32 := Scalar.remui arg15_r0 c4_i32_208_r0
  let c0_i32_213_r0 : BitVec 32 := 0#32
  let c0_i32_214_r0 : BitVec 32 := 0#32
  ![v265_r0.toNat, 0, 0]

def k0_off53 (arg17_r0 : BitVec 32) : Fin 3 → Nat :=
  let c4_i32_209_r0 : BitVec 32 := 4#32
  let v266_r0 : BitVec 32 := Scalar.remui arg17_r0 c4_i32_209_r0
  let c0_i32_230_r0 : BitVec 32 := 0#32
  let c0_i32_231_r0 : BitVec 32 := 0#32
  ![v266_r0.toNat, 0, 0]

def k0_off54 (arg19_r0 : BitVec 32) : Fin 3 → Nat :=
  let c4_i32_210_r0 : BitVec 32 := 4#32
  let v267_r0 : BitVec 32 := Scalar.remui arg19_r0 c4_i32_210_r0
  let c0_i32_237_r0 : BitVec 32 := 0#32
  let c0_i32_238_r0 : BitVec 32 := 0#32
  ![v267_r0.toNat, 0, 0]

def k0_off55 (arg21_r0 : BitVec 32) : Fin 3 → Nat :=
  let c4_i32_211_r0 : BitVec 32 := 4#32
  let v268_r0 : BitVec 32 := Scalar.remui arg21_r0 c4_i32_211_r0
  let c0_i32_243_r0 : BitVec 32 := 0#32
  let c0_i32_244_r0 : BitVec 32 := 0#32
  ![v268_r0.toNat, 0, 0]

def k0_off56 (arg22_r0 : BitVec 32) : Fin 3 → Nat :=
  let c2_i32_212_r0 : BitVec 32 := 2#32
  let v269_r0 : BitVec 32 := Scalar.remui arg22_r0 c2_i32_212_r0
  let c0_i32_252_r0 : BitVec 32 := 0#32
  let c0_i32_253_r0 : BitVec 32 := 0#32
  ![v269_r0.toNat, 0, 0]

def k0_chk6 (arg22_r0 : BitVec 32) : Prop :=
  (∀ a, (k0_off56 arg22_r0) a + S1x1024x1024.size a ≤ S2x1024x1024.size a)
theorem k0_off56_inb : ∀ (arg22_r0 : BitVec 32) (k0_hw6 : k0_chk6 arg22_r0), ∀ a, (k0_off56 arg22_r0) a + S1x1024x1024.size a ≤ S2x1024x1024.size a := fun arg22_r0 k0_hw6 => k0_hw6

def k0_off57 (arg15_r0 : BitVec 32) : Fin 3 → Nat :=
  let c4_i32_208_r0 : BitVec 32 := 4#32
  let v265_r0 : BitVec 32 := Scalar.remui arg15_r0 c4_i32_208_r0
  let c0_i32_256_r0 : BitVec 32 := 0#32
  let c0_i32_257_r0 : BitVec 32 := 0#32
  ![v265_r0.toNat, 0, 0]

def k0_chk2 (arg15_r0 : BitVec 32) : Prop :=
  (∀ a, (k0_off52 arg15_r0) a + S1x1024x512.size a ≤ S4x1024x512.size a) ∧
  (∀ a, (k0_off57 arg15_r0) a + S1x1024x512.size a ≤ S4x1024x512.size a)
theorem k0_off52_inb : ∀ (arg15_r0 : BitVec 32) (k0_hw2 : k0_chk2 arg15_r0), ∀ a, (k0_off52 arg15_r0) a + S1x1024x512.size a ≤ S4x1024x512.size a := fun arg15_r0 k0_hw2 => k0_hw2.1
theorem k0_off57_inb : ∀ (arg15_r0 : BitVec 32) (k0_hw2 : k0_chk2 arg15_r0), ∀ a, (k0_off57 arg15_r0) a + S1x1024x512.size a ≤ S4x1024x512.size a := fun arg15_r0 k0_hw2 => k0_hw2.2

def k0_off58 (arg17_r0 : BitVec 32) : Fin 3 → Nat :=
  let c4_i32_209_r0 : BitVec 32 := 4#32
  let v266_r0 : BitVec 32 := Scalar.remui arg17_r0 c4_i32_209_r0
  let c0_i32_274_r0 : BitVec 32 := 0#32
  let c0_i32_275_r0 : BitVec 32 := 0#32
  ![v266_r0.toNat, 0, 0]

def k0_chk3 (arg17_r0 : BitVec 32) : Prop :=
  (∀ a, (k0_off53 arg17_r0) a + S1x1024x512.size a ≤ S4x1024x512.size a) ∧
  (∀ a, (k0_off58 arg17_r0) a + S1x1024x512.size a ≤ S4x1024x512.size a)
theorem k0_off53_inb : ∀ (arg17_r0 : BitVec 32) (k0_hw3 : k0_chk3 arg17_r0), ∀ a, (k0_off53 arg17_r0) a + S1x1024x512.size a ≤ S4x1024x512.size a := fun arg17_r0 k0_hw3 => k0_hw3.1
theorem k0_off58_inb : ∀ (arg17_r0 : BitVec 32) (k0_hw3 : k0_chk3 arg17_r0), ∀ a, (k0_off58 arg17_r0) a + S1x1024x512.size a ≤ S4x1024x512.size a := fun arg17_r0 k0_hw3 => k0_hw3.2

def k0_off59 (arg19_r0 : BitVec 32) : Fin 3 → Nat :=
  let c4_i32_210_r0 : BitVec 32 := 4#32
  let v267_r0 : BitVec 32 := Scalar.remui arg19_r0 c4_i32_210_r0
  let c0_i32_281_r0 : BitVec 32 := 0#32
  let c0_i32_282_r0 : BitVec 32 := 0#32
  ![v267_r0.toNat, 0, 0]

def k0_chk4 (arg19_r0 : BitVec 32) : Prop :=
  (∀ a, (k0_off54 arg19_r0) a + S1x1024x512.size a ≤ S4x1024x512.size a) ∧
  (∀ a, (k0_off59 arg19_r0) a + S1x1024x512.size a ≤ S4x1024x512.size a)
theorem k0_off54_inb : ∀ (arg19_r0 : BitVec 32) (k0_hw4 : k0_chk4 arg19_r0), ∀ a, (k0_off54 arg19_r0) a + S1x1024x512.size a ≤ S4x1024x512.size a := fun arg19_r0 k0_hw4 => k0_hw4.1
theorem k0_off59_inb : ∀ (arg19_r0 : BitVec 32) (k0_hw4 : k0_chk4 arg19_r0), ∀ a, (k0_off59 arg19_r0) a + S1x1024x512.size a ≤ S4x1024x512.size a := fun arg19_r0 k0_hw4 => k0_hw4.2

def k0_off60 (arg21_r0 : BitVec 32) : Fin 3 → Nat :=
  let c4_i32_211_r0 : BitVec 32 := 4#32
  let v268_r0 : BitVec 32 := Scalar.remui arg21_r0 c4_i32_211_r0
  let c0_i32_288_r0 : BitVec 32 := 0#32
  let c0_i32_289_r0 : BitVec 32 := 0#32
  ![v268_r0.toNat, 0, 0]

def k0_chk5 (arg21_r0 : BitVec 32) : Prop :=
  (∀ a, (k0_off55 arg21_r0) a + S1x1024x1024.size a ≤ S4x1024x1024.size a) ∧
  (∀ a, (k0_off60 arg21_r0) a + S1x1024x1024.size a ≤ S4x1024x1024.size a)
theorem k0_off55_inb : ∀ (arg21_r0 : BitVec 32) (k0_hw5 : k0_chk5 arg21_r0), ∀ a, (k0_off55 arg21_r0) a + S1x1024x1024.size a ≤ S4x1024x1024.size a := fun arg21_r0 k0_hw5 => k0_hw5.1
theorem k0_off60_inb : ∀ (arg21_r0 : BitVec 32) (k0_hw5 : k0_chk5 arg21_r0), ∀ a, (k0_off60 arg21_r0) a + S1x1024x1024.size a ≤ S4x1024x1024.size a := fun arg21_r0 k0_hw5 => k0_hw5.2

def k0_off61 (arg22_r0 : BitVec 32) : Fin 1 → Nat :=
  let c2_i32_335_r0 : BitVec 32 := 2#32
  let v499_r0 : BitVec 32 := Scalar.remui arg22_r0 c2_i32_335_r0
  ![v499_r0.toNat]
def k0_cond22 (k0_t1 : Fin k0_t1_loop.trips) (arg24_r0 : BitVec 32) : BitVec 1 :=
  let c0_i32_147_r0 : BitVec 32 := 0#32
  let v165_r0 : BitVec 32 := Scalar.addi arg24_r0 c0_i32_147_r0
  let true_154_r0 : BitVec 1 := 1#1
  let c1_i32_153_r0 : BitVec 32 := 1#32
  let v171_r0 : BitVec 32 := Scalar.addi arg24_r0 c1_i32_153_r0
  let v172_r0 : BitVec 32 := Scalar.select true_154_r0 v171_r0 arg24_r0
  let c16_i32_155_r0 : BitVec 32 := 16#32
  let v173_r0 : BitVec 1 := Scalar.cmpi .eq v172_r0 c16_i32_155_r0
  let c0_i32_156_r0 : BitVec 32 := 0#32
  let v174_r0 : BitVec 32 := Scalar.select v173_r0 c0_i32_156_r0 v172_r0
  let c0_i32_157_r0 : BitVec 32 := 0#32
  let v175_r0 : BitVec 32 := Scalar.addi v174_r0 c0_i32_157_r0
  let v440_r0 : BitVec 1 := Scalar.cmpi .ne v165_r0 v175_r0
  let c0_i32_108_r0 : BitVec 32 := 0#32
  let c1_i32_110_r0 : BitVec 32 := 1#32
  let arg13_r0 : BitVec 32 := Scf.iv c0_i32_108_r0 c1_i32_110_r0 k0_t1
  let c15_i32_146_r0 : BitVec 32 := 15#32
  let v164_r0 : BitVec 1 := Scalar.cmpi .eq arg13_r0 c15_i32_146_r0
  let v441_r0 : BitVec 1 := Scalar.ori v440_r0 v164_r0
  let v442_r0 : BitVec 32 := Scalar.extui v441_r0
  let c0_i32_308_r0 : BitVec 32 := 0#32
  let v443_r0 : BitVec 1 := Scalar.cmpi .ne v442_r0 c0_i32_308_r0
  v443_r0

def k0_off62 (arg24_r0 : BitVec 32) : Fin 2 → Nat :=
  let c1024_i32_336_r0 : BitVec 32 := 1024#32
  let c0_i32_147_r0 : BitVec 32 := 0#32
  let v165_r0 : BitVec 32 := Scalar.addi arg24_r0 c0_i32_147_r0
  let v500_r0 : BitVec 32 := Scalar.muli c1024_i32_336_r0 v165_r0
  let c0_i32_337_r0 : BitVec 32 := 0#32
  ![v500_r0.toNat, 0]
def k0_off63 (arg22_r0 : BitVec 32) : Fin 3 → Nat :=
  let c2_i32_335_r0 : BitVec 32 := 2#32
  let v499_r0 : BitVec 32 := Scalar.remui arg22_r0 c2_i32_335_r0
  let c0_i32_338_r0 : BitVec 32 := 0#32
  let c0_i32_339_r0 : BitVec 32 := 0#32
  ![v499_r0.toNat, 0, 0]
def k0_off64 (arg23_r0 : BitVec 32) : Fin 1 → Nat :=
  let c2_i32_335_r0 : BitVec 32 := 2#32
  let v499_r0 : BitVec 32 := Scalar.remui arg23_r0 c2_i32_335_r0
  ![v499_r0.toNat]
def k0_cond27 (k0_t1 : Fin k0_t1_loop.trips) (arg24_r0 : BitVec 32) : BitVec 1 :=
  let c0_i32_147_r0 : BitVec 32 := 0#32
  let v165_r0 : BitVec 32 := Scalar.addi arg24_r0 c0_i32_147_r0
  let true_149_r0 : BitVec 1 := 1#1
  let c1_i32_148_r0 : BitVec 32 := 1#32
  let v166_r0 : BitVec 32 := Scalar.subi arg24_r0 c1_i32_148_r0
  let v167_r0 : BitVec 32 := Scalar.select true_149_r0 v166_r0 arg24_r0
  let c_m1_i32_150_r0 : BitVec 32 := 4294967295#32
  let v168_r0 : BitVec 1 := Scalar.cmpi .eq v167_r0 c_m1_i32_150_r0
  let c15_i32_151_r0 : BitVec 32 := 15#32
  let v169_r0 : BitVec 32 := Scalar.select v168_r0 c15_i32_151_r0 v167_r0
  let c0_i32_152_r0 : BitVec 32 := 0#32
  let v170_r0 : BitVec 32 := Scalar.addi v169_r0 c0_i32_152_r0
  let v471_r0 : BitVec 1 := Scalar.cmpi .ne v165_r0 v170_r0
  let c0_i32_108_r0 : BitVec 32 := 0#32
  let c1_i32_110_r0 : BitVec 32 := 1#32
  let arg13_r0 : BitVec 32 := Scf.iv c0_i32_108_r0 c1_i32_110_r0 k0_t1
  let c0_i32_145_r0 : BitVec 32 := 0#32
  let v163_r0 : BitVec 1 := Scalar.cmpi .eq arg13_r0 c0_i32_145_r0
  let true_323_r0 : BitVec 1 := 1#1
  let v472_r0 : BitVec 1 := Scalar.xori v163_r0 true_323_r0
  let v473_r0 : BitVec 1 := Scalar.andi v471_r0 v472_r0
  let v474_r0 : BitVec 32 := Scalar.extui v473_r0
  let c0_i32_324_r0 : BitVec 32 := 0#32
  let v475_r0 : BitVec 1 := Scalar.cmpi .ne v474_r0 c0_i32_324_r0
  v475_r0

def k0_off65 (arg24_r0 : BitVec 32) : Fin 2 → Nat :=
  let c1024_i32_336_r0 : BitVec 32 := 1024#32
  let true_149_r0 : BitVec 1 := 1#1
  let c1_i32_148_r0 : BitVec 32 := 1#32
  let v166_r0 : BitVec 32 := Scalar.subi arg24_r0 c1_i32_148_r0
  let v167_r0 : BitVec 32 := Scalar.select true_149_r0 v166_r0 arg24_r0
  let c_m1_i32_150_r0 : BitVec 32 := 4294967295#32
  let v168_r0 : BitVec 1 := Scalar.cmpi .eq v167_r0 c_m1_i32_150_r0
  let c15_i32_151_r0 : BitVec 32 := 15#32
  let v169_r0 : BitVec 32 := Scalar.select v168_r0 c15_i32_151_r0 v167_r0
  let c0_i32_152_r0 : BitVec 32 := 0#32
  let v170_r0 : BitVec 32 := Scalar.addi v169_r0 c0_i32_152_r0
  let v500_r0 : BitVec 32 := Scalar.muli c1024_i32_336_r0 v170_r0
  let c0_i32_337_r0 : BitVec 32 := 0#32
  ![v500_r0.toNat, 0]
def k0_off66 (arg23_r0 : BitVec 32) : Fin 3 → Nat :=
  let c2_i32_335_r0 : BitVec 32 := 2#32
  let v499_r0 : BitVec 32 := Scalar.remui arg23_r0 c2_i32_335_r0
  let c0_i32_338_r0 : BitVec 32 := 0#32
  let c0_i32_339_r0 : BitVec 32 := 0#32
  ![v499_r0.toNat, 0, 0]

def k0_chk1_0 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h9 : k0_cond9 k0_t1 arg24_r0 = 1#1), ∀ a, (k0_off28 arg14_r0) a + S1.size a ≤ S4.size a) ∧
  (∀ (k0_h9 : k0_cond9 k0_t1 arg24_r0 = 1#1), ∀ a, (k0_off29 arg14_r0) a + S1x1024x512.size a ≤ S4x1024x512.size a) ∧
  (∀ (k0_h9 : k0_cond9 k0_t1 arg24_r0 = 1#1), ∀ a, (k0_off30 arg24_r0) a + S1024x512.size a ≤ S16384x512.size a) ∧
  (∀ (k0_h9 : k0_cond9 k0_t1 arg24_r0 = 1#1), ∀ (hinb : ∀ a, (k0_off30 arg24_r0) a + S1024x512.size a ≤ S16384x512.size a), (Rect.unit (s := S16384x512) (k0_off30 arg24_r0) S1024x512.size hinb).WholeWords (EltTy.packing .bf16)) ∧
  (∀ (k0_h9 : k0_cond9 k0_t1 arg24_r0 = 1#1), ∀ (hinb : ∀ a, (k0_off29 arg14_r0) a + S1x1024x512.size a ≤ S4x1024x512.size a), (Rect.unit (s := S4x1024x512) (k0_off29 arg14_r0) S1x1024x512.size hinb).WholeWords (EltTy.packing .bf16)) ∧
  (∀ (k0_h10 : k0_cond10 k0_t1 arg24_r0 = 1#1), ∀ a, (k0_off31 arg16_r0) a + S1.size a ≤ S4.size a) ∧
  (∀ (k0_h10 : k0_cond10 k0_t1 arg24_r0 = 1#1), ∀ a, (k0_off32 arg16_r0) a + S1x1024x512.size a ≤ S4x1024x512.size a) ∧
  (∀ (k0_h10 : k0_cond10 k0_t1 arg24_r0 = 1#1), ∀ a, (k0_off33 arg24_r0) a + S1024x512.size a ≤ S16384x512.size a) ∧
  (∀ (k0_h10 : k0_cond10 k0_t1 arg24_r0 = 1#1), ∀ (hinb : ∀ a, (k0_off33 arg24_r0) a + S1024x512.size a ≤ S16384x512.size a), (Rect.unit (s := S16384x512) (k0_off33 arg24_r0) S1024x512.size hinb).WholeWords (EltTy.packing .bf16)) ∧
  (∀ (k0_h10 : k0_cond10 k0_t1 arg24_r0 = 1#1), ∀ (hinb : ∀ a, (k0_off32 arg16_r0) a + S1x1024x512.size a ≤ S4x1024x512.size a), (Rect.unit (s := S4x1024x512) (k0_off32 arg16_r0) S1x1024x512.size hinb).WholeWords (EltTy.packing .bf16)) ∧
  (∀ (k0_h11 : k0_cond11 k0_t1 arg24_r0 = 1#1), ∀ a, (k0_off34 arg18_r0) a + S1.size a ≤ S4.size a) ∧
  (∀ (k0_h11 : k0_cond11 k0_t1 arg24_r0 = 1#1), ∀ a, (k0_off35 arg18_r0) a + S1x1024x512.size a ≤ S4x1024x512.size a) ∧
  (∀ (k0_h11 : k0_cond11 k0_t1 arg24_r0 = 1#1), ∀ a, (k0_off36 arg24_r0) a + S1024x512.size a ≤ S16384x512.size a) ∧
  (∀ (k0_h11 : k0_cond11 k0_t1 arg24_r0 = 1#1), ∀ (hinb : ∀ a, (k0_off36 arg24_r0) a + S1024x512.size a ≤ S16384x512.size a), (Rect.unit (s := S16384x512) (k0_off36 arg24_r0) S1024x512.size hinb).WholeWords (EltTy.packing .bf16)) ∧
  (∀ (k0_h11 : k0_cond11 k0_t1 arg24_r0 = 1#1), ∀ (hinb : ∀ a, (k0_off35 arg18_r0) a + S1x1024x512.size a ≤ S4x1024x512.size a), (Rect.unit (s := S4x1024x512) (k0_off35 arg18_r0) S1x1024x512.size hinb).WholeWords (EltTy.packing .bf16)) ∧
  (∀ (k0_h12 : k0_cond12 k0_t1 arg24_r0 = 1#1), ∀ a, (k0_off37 arg20_r0) a + S1.size a ≤ S4.size a) ∧
  (∀ (k0_h12 : k0_cond12 k0_t1 arg24_r0 = 1#1), ∀ a, (k0_off38 arg20_r0) a + S1x1024x1024.size a ≤ S4x1024x1024.size a) ∧
  (∀ (k0_h12 : k0_cond12 k0_t1 arg24_r0 = 1#1), ∀ a, (k0_off39 arg24_r0) a + S1024x1024.size a ≤ S16384x1024.size a) ∧
  (∀ (k0_h13 : k0_cond13 k0_t1 arg24_r0 = 1#1), ∀ a, (k0_off40 arg15_r0) a + S1.size a ≤ S4.size a) ∧
  (∀ (k0_h13 : k0_cond13 k0_t1 arg24_r0 = 1#1), ∀ a, (k0_off41 arg15_r0) a + S1x1024x512.size a ≤ S4x1024x512.size a) ∧
  (∀ (k0_h13 : k0_cond13 k0_t1 arg24_r0 = 1#1), ∀ a, (k0_off42 arg24_r0) a + S1024x512.size a ≤ S16384x512.size a) ∧
  (∀ (k0_h13 : k0_cond13 k0_t1 arg24_r0 = 1#1), ∀ (hinb : ∀ a, (k0_off42 arg24_r0) a + S1024x512.size a ≤ S16384x512.size a), (Rect.unit (s := S16384x512) (k0_off42 arg24_r0) S1024x512.size hinb).WholeWords (EltTy.packing .bf16)) ∧
  (∀ (k0_h13 : k0_cond13 k0_t1 arg24_r0 = 1#1), ∀ (hinb : ∀ a, (k0_off41 arg15_r0) a + S1x1024x512.size a ≤ S4x1024x512.size a), (Rect.unit (s := S4x1024x512) (k0_off41 arg15_r0) S1x1024x512.size hinb).WholeWords (EltTy.packing .bf16)) ∧
  (∀ (k0_h14 : k0_cond14 k0_t1 arg24_r0 = 1#1), ∀ a, (k0_off43 arg17_r0) a + S1.size a ≤ S4.size a) ∧
  (∀ (k0_h14 : k0_cond14 k0_t1 arg24_r0 = 1#1), ∀ a, (k0_off44 arg17_r0) a + S1x1024x512.size a ≤ S4x1024x512.size a) ∧
  (∀ (k0_h14 : k0_cond14 k0_t1 arg24_r0 = 1#1), ∀ a, (k0_off45 arg24_r0) a + S1024x512.size a ≤ S16384x512.size a) ∧
  (∀ (k0_h14 : k0_cond14 k0_t1 arg24_r0 = 1#1), ∀ (hinb : ∀ a, (k0_off45 arg24_r0) a + S1024x512.size a ≤ S16384x512.size a), (Rect.unit (s := S16384x512) (k0_off45 arg24_r0) S1024x512.size hinb).WholeWords (EltTy.packing .bf16)) ∧
  (∀ (k0_h14 : k0_cond14 k0_t1 arg24_r0 = 1#1), ∀ (hinb : ∀ a, (k0_off44 arg17_r0) a + S1x1024x512.size a ≤ S4x1024x512.size a), (Rect.unit (s := S4x1024x512) (k0_off44 arg17_r0) S1x1024x512.size hinb).WholeWords (EltTy.packing .bf16)) ∧
  (∀ (k0_h15 : k0_cond15 k0_t1 arg24_r0 = 1#1), ∀ a, (k0_off46 arg19_r0) a + S1.size a ≤ S4.size a) ∧
  (∀ (k0_h15 : k0_cond15 k0_t1 arg24_r0 = 1#1), ∀ a, (k0_off47 arg19_r0) a + S1x1024x512.size a ≤ S4x1024x512.size a) ∧
  (∀ (k0_h15 : k0_cond15 k0_t1 arg24_r0 = 1#1), ∀ a, (k0_off48 arg24_r0) a + S1024x512.size a ≤ S16384x512.size a) ∧
  (∀ (k0_h15 : k0_cond15 k0_t1 arg24_r0 = 1#1), ∀ (hinb : ∀ a, (k0_off48 arg24_r0) a + S1024x512.size a ≤ S16384x512.size a), (Rect.unit (s := S16384x512) (k0_off48 arg24_r0) S1024x512.size hinb).WholeWords (EltTy.packing .bf16))
def k0_chk1_1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h15 : k0_cond15 k0_t1 arg24_r0 = 1#1), ∀ (hinb : ∀ a, (k0_off47 arg19_r0) a + S1x1024x512.size a ≤ S4x1024x512.size a), (Rect.unit (s := S4x1024x512) (k0_off47 arg19_r0) S1x1024x512.size hinb).WholeWords (EltTy.packing .bf16)) ∧
  (∀ (k0_h16 : k0_cond16 k0_t1 arg24_r0 = 1#1), ∀ a, (k0_off49 arg21_r0) a + S1.size a ≤ S4.size a) ∧
  (∀ (k0_h16 : k0_cond16 k0_t1 arg24_r0 = 1#1), ∀ a, (k0_off50 arg21_r0) a + S1x1024x1024.size a ≤ S4x1024x1024.size a) ∧
  (∀ (k0_h16 : k0_cond16 k0_t1 arg24_r0 = 1#1), ∀ a, (k0_off51 arg24_r0) a + S1024x1024.size a ≤ S16384x1024.size a) ∧
  (∀ (k0_h22 : k0_cond22 k0_t1 arg24_r0 = 1#1), ∀ a, (k0_off61 arg22_r0) a + S1.size a ≤ S2.size a) ∧
  (∀ (k0_h22 : k0_cond22 k0_t1 arg24_r0 = 1#1), ∀ a, (k0_off62 arg24_r0) a + S1024x1024.size a ≤ S16384x1024.size a) ∧
  (∀ (k0_h22 : k0_cond22 k0_t1 arg24_r0 = 1#1), ∀ a, (k0_off63 arg22_r0) a + S1x1024x1024.size a ≤ S2x1024x1024.size a) ∧
  (∀ (k0_h27 : k0_cond27 k0_t1 arg24_r0 = 1#1), ∀ a, (k0_off64 arg23_r0) a + S1.size a ≤ S2.size a) ∧
  (∀ (k0_h27 : k0_cond27 k0_t1 arg24_r0 = 1#1), ∀ a, (k0_off65 arg24_r0) a + S1024x1024.size a ≤ S16384x1024.size a) ∧
  (∀ (k0_h27 : k0_cond27 k0_t1 arg24_r0 = 1#1), ∀ a, (k0_off66 arg23_r0) a + S1x1024x1024.size a ≤ S2x1024x1024.size a)
def k0_chk1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) : Prop :=
  k0_chk1_0 k0_t1 arg14_r0 arg15_r0 arg16_r0 arg17_r0 arg18_r0 arg19_r0 arg20_r0 arg21_r0 arg22_r0 arg23_r0 arg24_r0 ∧
  k0_chk1_1 k0_t1 arg14_r0 arg15_r0 arg16_r0 arg17_r0 arg18_r0 arg19_r0 arg20_r0 arg21_r0 arg22_r0 arg23_r0 arg24_r0
theorem k0_off28_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h9 : k0_cond9 k0_t1 arg24_r0 = 1#1), ∀ a, (k0_off28 arg14_r0) a + S1.size a ≤ S4.size a := fun k0_t1 arg14_r0 arg15_r0 arg16_r0 arg17_r0 arg18_r0 arg19_r0 arg20_r0 arg21_r0 arg22_r0 arg23_r0 arg24_r0 k0_hw1 k0_h9 => k0_hw1.1.1 k0_h9
theorem k0_off29_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h9 : k0_cond9 k0_t1 arg24_r0 = 1#1), ∀ a, (k0_off29 arg14_r0) a + S1x1024x512.size a ≤ S4x1024x512.size a := fun k0_t1 arg14_r0 arg15_r0 arg16_r0 arg17_r0 arg18_r0 arg19_r0 arg20_r0 arg21_r0 arg22_r0 arg23_r0 arg24_r0 k0_hw1 k0_h9 => k0_hw1.1.2.1 k0_h9
theorem k0_off30_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h9 : k0_cond9 k0_t1 arg24_r0 = 1#1), ∀ a, (k0_off30 arg24_r0) a + S1024x512.size a ≤ S16384x512.size a := fun k0_t1 arg14_r0 arg15_r0 arg16_r0 arg17_r0 arg18_r0 arg19_r0 arg20_r0 arg21_r0 arg22_r0 arg23_r0 arg24_r0 k0_hw1 k0_h9 => k0_hw1.1.2.2.1 k0_h9
theorem k0_off30_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h9 : k0_cond9 k0_t1 arg24_r0 = 1#1), (Rect.unit (s := S16384x512) (k0_off30 arg24_r0) S1024x512.size (k0_off30_inb k0_t1 arg14_r0 arg15_r0 arg16_r0 arg17_r0 arg18_r0 arg19_r0 arg20_r0 arg21_r0 arg22_r0 arg23_r0 arg24_r0 k0_hw1 k0_h9)).WholeWords (EltTy.packing .bf16) := fun k0_t1 arg14_r0 arg15_r0 arg16_r0 arg17_r0 arg18_r0 arg19_r0 arg20_r0 arg21_r0 arg22_r0 arg23_r0 arg24_r0 k0_hw1 k0_h9 => k0_hw1.1.2.2.2.1 k0_h9 (k0_off30_inb k0_t1 arg14_r0 arg15_r0 arg16_r0 arg17_r0 arg18_r0 arg19_r0 arg20_r0 arg21_r0 arg22_r0 arg23_r0 arg24_r0 k0_hw1 k0_h9)
theorem k0_off29_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h9 : k0_cond9 k0_t1 arg24_r0 = 1#1), (Rect.unit (s := S4x1024x512) (k0_off29 arg14_r0) S1x1024x512.size (k0_off29_inb k0_t1 arg14_r0 arg15_r0 arg16_r0 arg17_r0 arg18_r0 arg19_r0 arg20_r0 arg21_r0 arg22_r0 arg23_r0 arg24_r0 k0_hw1 k0_h9)).WholeWords (EltTy.packing .bf16) := fun k0_t1 arg14_r0 arg15_r0 arg16_r0 arg17_r0 arg18_r0 arg19_r0 arg20_r0 arg21_r0 arg22_r0 arg23_r0 arg24_r0 k0_hw1 k0_h9 => k0_hw1.1.2.2.2.2.1 k0_h9 (k0_off29_inb k0_t1 arg14_r0 arg15_r0 arg16_r0 arg17_r0 arg18_r0 arg19_r0 arg20_r0 arg21_r0 arg22_r0 arg23_r0 arg24_r0 k0_hw1 k0_h9)
theorem k0_off31_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h10 : k0_cond10 k0_t1 arg24_r0 = 1#1), ∀ a, (k0_off31 arg16_r0) a + S1.size a ≤ S4.size a := fun k0_t1 arg14_r0 arg15_r0 arg16_r0 arg17_r0 arg18_r0 arg19_r0 arg20_r0 arg21_r0 arg22_r0 arg23_r0 arg24_r0 k0_hw1 k0_h10 => k0_hw1.1.2.2.2.2.2.1 k0_h10
theorem k0_off32_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h10 : k0_cond10 k0_t1 arg24_r0 = 1#1), ∀ a, (k0_off32 arg16_r0) a + S1x1024x512.size a ≤ S4x1024x512.size a := fun k0_t1 arg14_r0 arg15_r0 arg16_r0 arg17_r0 arg18_r0 arg19_r0 arg20_r0 arg21_r0 arg22_r0 arg23_r0 arg24_r0 k0_hw1 k0_h10 => k0_hw1.1.2.2.2.2.2.2.1 k0_h10
theorem k0_off33_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h10 : k0_cond10 k0_t1 arg24_r0 = 1#1), ∀ a, (k0_off33 arg24_r0) a + S1024x512.size a ≤ S16384x512.size a := fun k0_t1 arg14_r0 arg15_r0 arg16_r0 arg17_r0 arg18_r0 arg19_r0 arg20_r0 arg21_r0 arg22_r0 arg23_r0 arg24_r0 k0_hw1 k0_h10 => k0_hw1.1.2.2.2.2.2.2.2.1 k0_h10
theorem k0_off33_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h10 : k0_cond10 k0_t1 arg24_r0 = 1#1), (Rect.unit (s := S16384x512) (k0_off33 arg24_r0) S1024x512.size (k0_off33_inb k0_t1 arg14_r0 arg15_r0 arg16_r0 arg17_r0 arg18_r0 arg19_r0 arg20_r0 arg21_r0 arg22_r0 arg23_r0 arg24_r0 k0_hw1 k0_h10)).WholeWords (EltTy.packing .bf16) := fun k0_t1 arg14_r0 arg15_r0 arg16_r0 arg17_r0 arg18_r0 arg19_r0 arg20_r0 arg21_r0 arg22_r0 arg23_r0 arg24_r0 k0_hw1 k0_h10 => k0_hw1.1.2.2.2.2.2.2.2.2.1 k0_h10 (k0_off33_inb k0_t1 arg14_r0 arg15_r0 arg16_r0 arg17_r0 arg18_r0 arg19_r0 arg20_r0 arg21_r0 arg22_r0 arg23_r0 arg24_r0 k0_hw1 k0_h10)
theorem k0_off32_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h10 : k0_cond10 k0_t1 arg24_r0 = 1#1), (Rect.unit (s := S4x1024x512) (k0_off32 arg16_r0) S1x1024x512.size (k0_off32_inb k0_t1 arg14_r0 arg15_r0 arg16_r0 arg17_r0 arg18_r0 arg19_r0 arg20_r0 arg21_r0 arg22_r0 arg23_r0 arg24_r0 k0_hw1 k0_h10)).WholeWords (EltTy.packing .bf16) := fun k0_t1 arg14_r0 arg15_r0 arg16_r0 arg17_r0 arg18_r0 arg19_r0 arg20_r0 arg21_r0 arg22_r0 arg23_r0 arg24_r0 k0_hw1 k0_h10 => k0_hw1.1.2.2.2.2.2.2.2.2.2.1 k0_h10 (k0_off32_inb k0_t1 arg14_r0 arg15_r0 arg16_r0 arg17_r0 arg18_r0 arg19_r0 arg20_r0 arg21_r0 arg22_r0 arg23_r0 arg24_r0 k0_hw1 k0_h10)
theorem k0_off34_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h11 : k0_cond11 k0_t1 arg24_r0 = 1#1), ∀ a, (k0_off34 arg18_r0) a + S1.size a ≤ S4.size a := fun k0_t1 arg14_r0 arg15_r0 arg16_r0 arg17_r0 arg18_r0 arg19_r0 arg20_r0 arg21_r0 arg22_r0 arg23_r0 arg24_r0 k0_hw1 k0_h11 => k0_hw1.1.2.2.2.2.2.2.2.2.2.2.1 k0_h11
theorem k0_off35_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h11 : k0_cond11 k0_t1 arg24_r0 = 1#1), ∀ a, (k0_off35 arg18_r0) a + S1x1024x512.size a ≤ S4x1024x512.size a := fun k0_t1 arg14_r0 arg15_r0 arg16_r0 arg17_r0 arg18_r0 arg19_r0 arg20_r0 arg21_r0 arg22_r0 arg23_r0 arg24_r0 k0_hw1 k0_h11 => k0_hw1.1.2.2.2.2.2.2.2.2.2.2.2.1 k0_h11
theorem k0_off36_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h11 : k0_cond11 k0_t1 arg24_r0 = 1#1), ∀ a, (k0_off36 arg24_r0) a + S1024x512.size a ≤ S16384x512.size a := fun k0_t1 arg14_r0 arg15_r0 arg16_r0 arg17_r0 arg18_r0 arg19_r0 arg20_r0 arg21_r0 arg22_r0 arg23_r0 arg24_r0 k0_hw1 k0_h11 => k0_hw1.1.2.2.2.2.2.2.2.2.2.2.2.2.1 k0_h11
theorem k0_off36_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h11 : k0_cond11 k0_t1 arg24_r0 = 1#1), (Rect.unit (s := S16384x512) (k0_off36 arg24_r0) S1024x512.size (k0_off36_inb k0_t1 arg14_r0 arg15_r0 arg16_r0 arg17_r0 arg18_r0 arg19_r0 arg20_r0 arg21_r0 arg22_r0 arg23_r0 arg24_r0 k0_hw1 k0_h11)).WholeWords (EltTy.packing .bf16) := fun k0_t1 arg14_r0 arg15_r0 arg16_r0 arg17_r0 arg18_r0 arg19_r0 arg20_r0 arg21_r0 arg22_r0 arg23_r0 arg24_r0 k0_hw1 k0_h11 => k0_hw1.1.2.2.2.2.2.2.2.2.2.2.2.2.2.1 k0_h11 (k0_off36_inb k0_t1 arg14_r0 arg15_r0 arg16_r0 arg17_r0 arg18_r0 arg19_r0 arg20_r0 arg21_r0 arg22_r0 arg23_r0 arg24_r0 k0_hw1 k0_h11)
theorem k0_off35_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h11 : k0_cond11 k0_t1 arg24_r0 = 1#1), (Rect.unit (s := S4x1024x512) (k0_off35 arg18_r0) S1x1024x512.size (k0_off35_inb k0_t1 arg14_r0 arg15_r0 arg16_r0 arg17_r0 arg18_r0 arg19_r0 arg20_r0 arg21_r0 arg22_r0 arg23_r0 arg24_r0 k0_hw1 k0_h11)).WholeWords (EltTy.packing .bf16) := fun k0_t1 arg14_r0 arg15_r0 arg16_r0 arg17_r0 arg18_r0 arg19_r0 arg20_r0 arg21_r0 arg22_r0 arg23_r0 arg24_r0 k0_hw1 k0_h11 => k0_hw1.1.2.2.2.2.2.2.2.2.2.2.2.2.2.2.1 k0_h11 (k0_off35_inb k0_t1 arg14_r0 arg15_r0 arg16_r0 arg17_r0 arg18_r0 arg19_r0 arg20_r0 arg21_r0 arg22_r0 arg23_r0 arg24_r0 k0_hw1 k0_h11)
theorem k0_off37_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h12 : k0_cond12 k0_t1 arg24_r0 = 1#1), ∀ a, (k0_off37 arg20_r0) a + S1.size a ≤ S4.size a := fun k0_t1 arg14_r0 arg15_r0 arg16_r0 arg17_r0 arg18_r0 arg19_r0 arg20_r0 arg21_r0 arg22_r0 arg23_r0 arg24_r0 k0_hw1 k0_h12 => k0_hw1.1.2.2.2.2.2.2.2.2.2.2.2.2.2.2.2.1 k0_h12
theorem k0_off38_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h12 : k0_cond12 k0_t1 arg24_r0 = 1#1), ∀ a, (k0_off38 arg20_r0) a + S1x1024x1024.size a ≤ S4x1024x1024.size a := fun k0_t1 arg14_r0 arg15_r0 arg16_r0 arg17_r0 arg18_r0 arg19_r0 arg20_r0 arg21_r0 arg22_r0 arg23_r0 arg24_r0 k0_hw1 k0_h12 => k0_hw1.1.2.2.2.2.2.2.2.2.2.2.2.2.2.2.2.2.1 k0_h12
theorem k0_off39_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h12 : k0_cond12 k0_t1 arg24_r0 = 1#1), ∀ a, (k0_off39 arg24_r0) a + S1024x1024.size a ≤ S16384x1024.size a := fun k0_t1 arg14_r0 arg15_r0 arg16_r0 arg17_r0 arg18_r0 arg19_r0 arg20_r0 arg21_r0 arg22_r0 arg23_r0 arg24_r0 k0_hw1 k0_h12 => k0_hw1.1.2.2.2.2.2.2.2.2.2.2.2.2.2.2.2.2.2.1 k0_h12
theorem k0_off40_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h13 : k0_cond13 k0_t1 arg24_r0 = 1#1), ∀ a, (k0_off40 arg15_r0) a + S1.size a ≤ S4.size a := fun k0_t1 arg14_r0 arg15_r0 arg16_r0 arg17_r0 arg18_r0 arg19_r0 arg20_r0 arg21_r0 arg22_r0 arg23_r0 arg24_r0 k0_hw1 k0_h13 => k0_hw1.1.2.2.2.2.2.2.2.2.2.2.2.2.2.2.2.2.2.2.1 k0_h13
theorem k0_off41_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h13 : k0_cond13 k0_t1 arg24_r0 = 1#1), ∀ a, (k0_off41 arg15_r0) a + S1x1024x512.size a ≤ S4x1024x512.size a := fun k0_t1 arg14_r0 arg15_r0 arg16_r0 arg17_r0 arg18_r0 arg19_r0 arg20_r0 arg21_r0 arg22_r0 arg23_r0 arg24_r0 k0_hw1 k0_h13 => k0_hw1.1.2.2.2.2.2.2.2.2.2.2.2.2.2.2.2.2.2.2.2.1 k0_h13
theorem k0_off42_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h13 : k0_cond13 k0_t1 arg24_r0 = 1#1), ∀ a, (k0_off42 arg24_r0) a + S1024x512.size a ≤ S16384x512.size a := fun k0_t1 arg14_r0 arg15_r0 arg16_r0 arg17_r0 arg18_r0 arg19_r0 arg20_r0 arg21_r0 arg22_r0 arg23_r0 arg24_r0 k0_hw1 k0_h13 => k0_hw1.1.2.2.2.2.2.2.2.2.2.2.2.2.2.2.2.2.2.2.2.2.1 k0_h13
theorem k0_off42_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h13 : k0_cond13 k0_t1 arg24_r0 = 1#1), (Rect.unit (s := S16384x512) (k0_off42 arg24_r0) S1024x512.size (k0_off42_inb k0_t1 arg14_r0 arg15_r0 arg16_r0 arg17_r0 arg18_r0 arg19_r0 arg20_r0 arg21_r0 arg22_r0 arg23_r0 arg24_r0 k0_hw1 k0_h13)).WholeWords (EltTy.packing .bf16) := fun k0_t1 arg14_r0 arg15_r0 arg16_r0 arg17_r0 arg18_r0 arg19_r0 arg20_r0 arg21_r0 arg22_r0 arg23_r0 arg24_r0 k0_hw1 k0_h13 => k0_hw1.1.2.2.2.2.2.2.2.2.2.2.2.2.2.2.2.2.2.2.2.2.2.1 k0_h13 (k0_off42_inb k0_t1 arg14_r0 arg15_r0 arg16_r0 arg17_r0 arg18_r0 arg19_r0 arg20_r0 arg21_r0 arg22_r0 arg23_r0 arg24_r0 k0_hw1 k0_h13)
theorem k0_off41_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h13 : k0_cond13 k0_t1 arg24_r0 = 1#1), (Rect.unit (s := S4x1024x512) (k0_off41 arg15_r0) S1x1024x512.size (k0_off41_inb k0_t1 arg14_r0 arg15_r0 arg16_r0 arg17_r0 arg18_r0 arg19_r0 arg20_r0 arg21_r0 arg22_r0 arg23_r0 arg24_r0 k0_hw1 k0_h13)).WholeWords (EltTy.packing .bf16) := fun k0_t1 arg14_r0 arg15_r0 arg16_r0 arg17_r0 arg18_r0 arg19_r0 arg20_r0 arg21_r0 arg22_r0 arg23_r0 arg24_r0 k0_hw1 k0_h13 => k0_hw1.1.2.2.2.2.2.2.2.2.2.2.2.2.2.2.2.2.2.2.2.2.2.2.1 k0_h13 (k0_off41_inb k0_t1 arg14_r0 arg15_r0 arg16_r0 arg17_r0 arg18_r0 arg19_r0 arg20_r0 arg21_r0 arg22_r0 arg23_r0 arg24_r0 k0_hw1 k0_h13)
theorem k0_off43_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h14 : k0_cond14 k0_t1 arg24_r0 = 1#1), ∀ a, (k0_off43 arg17_r0) a + S1.size a ≤ S4.size a := fun k0_t1 arg14_r0 arg15_r0 arg16_r0 arg17_r0 arg18_r0 arg19_r0 arg20_r0 arg21_r0 arg22_r0 arg23_r0 arg24_r0 k0_hw1 k0_h14 => k0_hw1.1.2.2.2.2.2.2.2.2.2.2.2.2.2.2.2.2.2.2.2.2.2.2.2.1 k0_h14
theorem k0_off44_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h14 : k0_cond14 k0_t1 arg24_r0 = 1#1), ∀ a, (k0_off44 arg17_r0) a + S1x1024x512.size a ≤ S4x1024x512.size a := fun k0_t1 arg14_r0 arg15_r0 arg16_r0 arg17_r0 arg18_r0 arg19_r0 arg20_r0 arg21_r0 arg22_r0 arg23_r0 arg24_r0 k0_hw1 k0_h14 => k0_hw1.1.2.2.2.2.2.2.2.2.2.2.2.2.2.2.2.2.2.2.2.2.2.2.2.2.1 k0_h14
theorem k0_off45_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h14 : k0_cond14 k0_t1 arg24_r0 = 1#1), ∀ a, (k0_off45 arg24_r0) a + S1024x512.size a ≤ S16384x512.size a := fun k0_t1 arg14_r0 arg15_r0 arg16_r0 arg17_r0 arg18_r0 arg19_r0 arg20_r0 arg21_r0 arg22_r0 arg23_r0 arg24_r0 k0_hw1 k0_h14 => k0_hw1.1.2.2.2.2.2.2.2.2.2.2.2.2.2.2.2.2.2.2.2.2.2.2.2.2.2.1 k0_h14
theorem k0_off45_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h14 : k0_cond14 k0_t1 arg24_r0 = 1#1), (Rect.unit (s := S16384x512) (k0_off45 arg24_r0) S1024x512.size (k0_off45_inb k0_t1 arg14_r0 arg15_r0 arg16_r0 arg17_r0 arg18_r0 arg19_r0 arg20_r0 arg21_r0 arg22_r0 arg23_r0 arg24_r0 k0_hw1 k0_h14)).WholeWords (EltTy.packing .bf16) := fun k0_t1 arg14_r0 arg15_r0 arg16_r0 arg17_r0 arg18_r0 arg19_r0 arg20_r0 arg21_r0 arg22_r0 arg23_r0 arg24_r0 k0_hw1 k0_h14 => k0_hw1.1.2.2.2.2.2.2.2.2.2.2.2.2.2.2.2.2.2.2.2.2.2.2.2.2.2.2.1 k0_h14 (k0_off45_inb k0_t1 arg14_r0 arg15_r0 arg16_r0 arg17_r0 arg18_r0 arg19_r0 arg20_r0 arg21_r0 arg22_r0 arg23_r0 arg24_r0 k0_hw1 k0_h14)
theorem k0_off44_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h14 : k0_cond14 k0_t1 arg24_r0 = 1#1), (Rect.unit (s := S4x1024x512) (k0_off44 arg17_r0) S1x1024x512.size (k0_off44_inb k0_t1 arg14_r0 arg15_r0 arg16_r0 arg17_r0 arg18_r0 arg19_r0 arg20_r0 arg21_r0 arg22_r0 arg23_r0 arg24_r0 k0_hw1 k0_h14)).WholeWords (EltTy.packing .bf16) := fun k0_t1 arg14_r0 arg15_r0 arg16_r0 arg17_r0 arg18_r0 arg19_r0 arg20_r0 arg21_r0 arg22_r0 arg23_r0 arg24_r0 k0_hw1 k0_h14 => k0_hw1.1.2.2.2.2.2.2.2.2.2.2.2.2.2.2.2.2.2.2.2.2.2.2.2.2.2.2.2.1 k0_h14 (k0_off44_inb k0_t1 arg14_r0 arg15_r0 arg16_r0 arg17_r0 arg18_r0 arg19_r0 arg20_r0 arg21_r0 arg22_r0 arg23_r0 arg24_r0 k0_hw1 k0_h14)
theorem k0_off46_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h15 : k0_cond15 k0_t1 arg24_r0 = 1#1), ∀ a, (k0_off46 arg19_r0) a + S1.size a ≤ S4.size a := fun k0_t1 arg14_r0 arg15_r0 arg16_r0 arg17_r0 arg18_r0 arg19_r0 arg20_r0 arg21_r0 arg22_r0 arg23_r0 arg24_r0 k0_hw1 k0_h15 => k0_hw1.1.2.2.2.2.2.2.2.2.2.2.2.2.2.2.2.2.2.2.2.2.2.2.2.2.2.2.2.2.1 k0_h15
theorem k0_off47_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h15 : k0_cond15 k0_t1 arg24_r0 = 1#1), ∀ a, (k0_off47 arg19_r0) a + S1x1024x512.size a ≤ S4x1024x512.size a := fun k0_t1 arg14_r0 arg15_r0 arg16_r0 arg17_r0 arg18_r0 arg19_r0 arg20_r0 arg21_r0 arg22_r0 arg23_r0 arg24_r0 k0_hw1 k0_h15 => k0_hw1.1.2.2.2.2.2.2.2.2.2.2.2.2.2.2.2.2.2.2.2.2.2.2.2.2.2.2.2.2.2.1 k0_h15
theorem k0_off48_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h15 : k0_cond15 k0_t1 arg24_r0 = 1#1), ∀ a, (k0_off48 arg24_r0) a + S1024x512.size a ≤ S16384x512.size a := fun k0_t1 arg14_r0 arg15_r0 arg16_r0 arg17_r0 arg18_r0 arg19_r0 arg20_r0 arg21_r0 arg22_r0 arg23_r0 arg24_r0 k0_hw1 k0_h15 => k0_hw1.1.2.2.2.2.2.2.2.2.2.2.2.2.2.2.2.2.2.2.2.2.2.2.2.2.2.2.2.2.2.2.1 k0_h15
theorem k0_off48_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h15 : k0_cond15 k0_t1 arg24_r0 = 1#1), (Rect.unit (s := S16384x512) (k0_off48 arg24_r0) S1024x512.size (k0_off48_inb k0_t1 arg14_r0 arg15_r0 arg16_r0 arg17_r0 arg18_r0 arg19_r0 arg20_r0 arg21_r0 arg22_r0 arg23_r0 arg24_r0 k0_hw1 k0_h15)).WholeWords (EltTy.packing .bf16) := fun k0_t1 arg14_r0 arg15_r0 arg16_r0 arg17_r0 arg18_r0 arg19_r0 arg20_r0 arg21_r0 arg22_r0 arg23_r0 arg24_r0 k0_hw1 k0_h15 => k0_hw1.1.2.2.2.2.2.2.2.2.2.2.2.2.2.2.2.2.2.2.2.2.2.2.2.2.2.2.2.2.2.2.2 k0_h15 (k0_off48_inb k0_t1 arg14_r0 arg15_r0 arg16_r0 arg17_r0 arg18_r0 arg19_r0 arg20_r0 arg21_r0 arg22_r0 arg23_r0 arg24_r0 k0_hw1 k0_h15)
theorem k0_off47_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h15 : k0_cond15 k0_t1 arg24_r0 = 1#1), (Rect.unit (s := S4x1024x512) (k0_off47 arg19_r0) S1x1024x512.size (k0_off47_inb k0_t1 arg14_r0 arg15_r0 arg16_r0 arg17_r0 arg18_r0 arg19_r0 arg20_r0 arg21_r0 arg22_r0 arg23_r0 arg24_r0 k0_hw1 k0_h15)).WholeWords (EltTy.packing .bf16) := fun k0_t1 arg14_r0 arg15_r0 arg16_r0 arg17_r0 arg18_r0 arg19_r0 arg20_r0 arg21_r0 arg22_r0 arg23_r0 arg24_r0 k0_hw1 k0_h15 => k0_hw1.2.1 k0_h15 (k0_off47_inb k0_t1 arg14_r0 arg15_r0 arg16_r0 arg17_r0 arg18_r0 arg19_r0 arg20_r0 arg21_r0 arg22_r0 arg23_r0 arg24_r0 k0_hw1 k0_h15)
theorem k0_off49_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h16 : k0_cond16 k0_t1 arg24_r0 = 1#1), ∀ a, (k0_off49 arg21_r0) a + S1.size a ≤ S4.size a := fun k0_t1 arg14_r0 arg15_r0 arg16_r0 arg17_r0 arg18_r0 arg19_r0 arg20_r0 arg21_r0 arg22_r0 arg23_r0 arg24_r0 k0_hw1 k0_h16 => k0_hw1.2.2.1 k0_h16
theorem k0_off50_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h16 : k0_cond16 k0_t1 arg24_r0 = 1#1), ∀ a, (k0_off50 arg21_r0) a + S1x1024x1024.size a ≤ S4x1024x1024.size a := fun k0_t1 arg14_r0 arg15_r0 arg16_r0 arg17_r0 arg18_r0 arg19_r0 arg20_r0 arg21_r0 arg22_r0 arg23_r0 arg24_r0 k0_hw1 k0_h16 => k0_hw1.2.2.2.1 k0_h16
theorem k0_off51_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h16 : k0_cond16 k0_t1 arg24_r0 = 1#1), ∀ a, (k0_off51 arg24_r0) a + S1024x1024.size a ≤ S16384x1024.size a := fun k0_t1 arg14_r0 arg15_r0 arg16_r0 arg17_r0 arg18_r0 arg19_r0 arg20_r0 arg21_r0 arg22_r0 arg23_r0 arg24_r0 k0_hw1 k0_h16 => k0_hw1.2.2.2.2.1 k0_h16
theorem k0_off61_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h22 : k0_cond22 k0_t1 arg24_r0 = 1#1), ∀ a, (k0_off61 arg22_r0) a + S1.size a ≤ S2.size a := fun k0_t1 arg14_r0 arg15_r0 arg16_r0 arg17_r0 arg18_r0 arg19_r0 arg20_r0 arg21_r0 arg22_r0 arg23_r0 arg24_r0 k0_hw1 k0_h22 => k0_hw1.2.2.2.2.2.1 k0_h22
theorem k0_off62_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h22 : k0_cond22 k0_t1 arg24_r0 = 1#1), ∀ a, (k0_off62 arg24_r0) a + S1024x1024.size a ≤ S16384x1024.size a := fun k0_t1 arg14_r0 arg15_r0 arg16_r0 arg17_r0 arg18_r0 arg19_r0 arg20_r0 arg21_r0 arg22_r0 arg23_r0 arg24_r0 k0_hw1 k0_h22 => k0_hw1.2.2.2.2.2.2.1 k0_h22
theorem k0_off63_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h22 : k0_cond22 k0_t1 arg24_r0 = 1#1), ∀ a, (k0_off63 arg22_r0) a + S1x1024x1024.size a ≤ S2x1024x1024.size a := fun k0_t1 arg14_r0 arg15_r0 arg16_r0 arg17_r0 arg18_r0 arg19_r0 arg20_r0 arg21_r0 arg22_r0 arg23_r0 arg24_r0 k0_hw1 k0_h22 => k0_hw1.2.2.2.2.2.2.2.1 k0_h22
theorem k0_off64_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h27 : k0_cond27 k0_t1 arg24_r0 = 1#1), ∀ a, (k0_off64 arg23_r0) a + S1.size a ≤ S2.size a := fun k0_t1 arg14_r0 arg15_r0 arg16_r0 arg17_r0 arg18_r0 arg19_r0 arg20_r0 arg21_r0 arg22_r0 arg23_r0 arg24_r0 k0_hw1 k0_h27 => k0_hw1.2.2.2.2.2.2.2.2.1 k0_h27
theorem k0_off65_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h27 : k0_cond27 k0_t1 arg24_r0 = 1#1), ∀ a, (k0_off65 arg24_r0) a + S1024x1024.size a ≤ S16384x1024.size a := fun k0_t1 arg14_r0 arg15_r0 arg16_r0 arg17_r0 arg18_r0 arg19_r0 arg20_r0 arg21_r0 arg22_r0 arg23_r0 arg24_r0 k0_hw1 k0_h27 => k0_hw1.2.2.2.2.2.2.2.2.2.1 k0_h27
theorem k0_off66_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg14_r0 arg15_r0 arg16_r0 arg17_r0 arg18_r0 arg19_r0 arg20_r0 arg21_r0 arg22_r0 arg23_r0 arg24_r0), ∀ (k0_h27 : k0_cond27 k0_t1 arg24_r0 = 1#1), ∀ a, (k0_off66 arg23_r0) a + S1x1024x1024.size a ≤ S2x1024x1024.size a := fun k0_t1 arg14_r0 arg15_r0 arg16_r0 arg17_r0 arg18_r0 arg19_r0 arg20_r0 arg21_r0 arg22_r0 arg23_r0 arg24_r0 k0_hw1 k0_h27 => k0_hw1.2.2.2.2.2.2.2.2.2.2 k0_h27

def k0_off67 (v125_9_r0 : BitVec 32) : Fin 1 → Nat :=
  let c2_i32_r0 : BitVec 32 := 2#32
  let v156_r0 : BitVec 32 := Scalar.remui v125_9_r0 c2_i32_r0
  ![v156_r0.toNat]

def k0_off68 (v125_10_r0 : BitVec 32) : Fin 2 → Nat :=
  let c1024_i32_r0 : BitVec 32 := 1024#32
  let true_113_r0 : BitVec 1 := 1#1
  let c1_i32_112_r0 : BitVec 32 := 1#32
  let v126_r0 : BitVec 32 := Scalar.subi v125_10_r0 c1_i32_112_r0
  let v127_r0 : BitVec 32 := Scalar.select true_113_r0 v126_r0 v125_10_r0
  let c_m1_i32_114_r0 : BitVec 32 := 4294967295#32
  let v128_r0 : BitVec 1 := Scalar.cmpi .eq v127_r0 c_m1_i32_114_r0
  let c15_i32_115_r0 : BitVec 32 := 15#32
  let v129_r0 : BitVec 32 := Scalar.select v128_r0 c15_i32_115_r0 v127_r0
  let c0_i32_116_r0 : BitVec 32 := 0#32
  let v130_r0 : BitVec 32 := Scalar.addi v129_r0 c0_i32_116_r0
  let v157_r0 : BitVec 32 := Scalar.muli c1024_i32_r0 v130_r0
  let c0_i32_142_r0 : BitVec 32 := 0#32
  ![v157_r0.toNat, 0]

def k0_chk8 (v125_10_r0 : BitVec 32) : Prop :=
  (∀ a, (k0_off68 v125_10_r0) a + S1024x1024.size a ≤ S16384x1024.size a)
theorem k0_off68_inb : ∀ (v125_10_r0 : BitVec 32) (k0_hw8 : k0_chk8 v125_10_r0), ∀ a, (k0_off68 v125_10_r0) a + S1024x1024.size a ≤ S16384x1024.size a := fun v125_10_r0 k0_hw8 => k0_hw8

def k0_off69 (v125_9_r0 : BitVec 32) : Fin 3 → Nat :=
  let c2_i32_r0 : BitVec 32 := 2#32
  let v156_r0 : BitVec 32 := Scalar.remui v125_9_r0 c2_i32_r0
  let c0_i32_143_r0 : BitVec 32 := 0#32
  let c0_i32_144_r0 : BitVec 32 := 0#32
  ![v156_r0.toNat, 0, 0]

def k0_chk7 (v125_9_r0 : BitVec 32) : Prop :=
  (∀ a, (k0_off67 v125_9_r0) a + S1.size a ≤ S2.size a) ∧
  (∀ a, (k0_off69 v125_9_r0) a + S1x1024x1024.size a ≤ S2x1024x1024.size a)
theorem k0_off67_inb : ∀ (v125_9_r0 : BitVec 32) (k0_hw7 : k0_chk7 v125_9_r0), ∀ a, (k0_off67 v125_9_r0) a + S1.size a ≤ S2.size a := fun v125_9_r0 k0_hw7 => k0_hw7.1
theorem k0_off69_inb : ∀ (v125_9_r0 : BitVec 32) (k0_hw7 : k0_chk7 v125_9_r0), ∀ a, (k0_off69 v125_9_r0) a + S1x1024x1024.size a ≤ S2x1024x1024.size a := fun v125_9_r0 k0_hw7 => k0_hw7.2

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x2048x512 : Shape := ⟨3, ![8, 2048, 512]⟩
abbrev S1x512 : Shape := ⟨2, ![1, 512]⟩
abbrev S1x512x512 : Shape := ⟨3, ![1, 512, 512]⟩
abbrev S1x1024x1024 : Shape := ⟨3, ![1, 1024, 1024]⟩
abbrev S8x2048x1024 : Shape := ⟨3, ![8, 2048, 1024]⟩
abbrev S1024 : Shape := ⟨1, ![1024]⟩
abbrev S512 : Shape := ⟨1, ![512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S512x512 : Shape := ⟨2, ![512, 512]⟩
abbrev S1024x1024 : Shape := ⟨2, ![1024, 1024]⟩
abbrev S1x1x1024 : Shape := ⟨3, ![1, 1, 1024]⟩
abbrev S16384x1024 : Shape := ⟨2, ![16384, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S1x512, .f32⟩
  | .hbm, ⟨2, _⟩ => ⟨S1x512, .f32⟩
  | .hbm, ⟨3, _⟩ => ⟨S8x2048x512, .bf16⟩
  | .hbm, ⟨4, _⟩ => ⟨S1x512x512, .f32⟩
  | .hbm, ⟨5, _⟩ => ⟨S1x512, .f32⟩
  | .hbm, ⟨6, _⟩ => ⟨S8x2048x512, .bf16⟩
  | .hbm, ⟨7, _⟩ => ⟨S1x1024x1024, .f32⟩
  | .hbm, ⟨8, _⟩ => ⟨S8x2048x1024, .f32⟩
  | .hbm, ⟨9, _⟩ => ⟨S1024, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x512, .f32⟩
  | .hbm, ⟨31, _⟩ => ⟨S8x2048x512, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x512, .f32⟩
  | .hbm, ⟨37, _⟩ => ⟨S8x2048x512, .f32⟩
  | .hbm, ⟨38, _⟩ => ⟨S1x1x512, .f32⟩
  | .hbm, ⟨39, _⟩ => ⟨S8x2048x512, .f32⟩
  | .hbm, ⟨40, _⟩ => ⟨S8x2048x512, .f32⟩
  | .hbm, ⟨41, _⟩ => ⟨S1x1x512, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S8x2048x512, .f32⟩
  | .hbm, ⟨46, _⟩ => ⟨S_, .f32⟩
  | .hbm, ⟨47, _⟩ => ⟨S8x2048x512, .f32⟩
  | .hbm, ⟨48, _⟩ => ⟨S8x2048x512, .f32⟩
  | .hbm, ⟨49, _⟩ => ⟨S_, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S512x512, .f32⟩
  | .hbm, ⟨54, _⟩ => ⟨S8x2048x512, .f32⟩
  | .hbm, ⟨55, _⟩ => ⟨S512, .f32⟩
  | .hbm, ⟨56, _⟩ => ⟨S1x1x512, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S8x2048x512, .f32⟩
  | .hbm, ⟨61, _⟩ => ⟨S_, .f32⟩
  | .hbm, ⟨62, _⟩ => ⟨S8x2048x512, .f32⟩
  | .hbm, ⟨63, _⟩ => ⟨S8x2048x512, .f32⟩
  | .hbm, ⟨64, _⟩ => ⟨S_, .f32⟩
  | .hbm, ⟨65, _⟩ => ⟨S8x2048x512, .f32⟩
  | .hbm, ⟨66, _⟩ => ⟨S8x2048x512, .f32⟩
  | .hbm, ⟨67, _⟩ => ⟨S8x2048x512, .f32⟩
  | .hbm, ⟨68, _⟩ => ⟨S8x2048x512, .f32⟩
  | .hbm, ⟨69, _⟩ => ⟨S8x2048x1024, .f32⟩
  | .hbm, ⟨70, _⟩ => ⟨S1024x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S16384x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_4 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]
-- ==== Kernel2.lean ====
abbrev S8x2048x512 : Shape := ⟨3, ![8, 2048, 512]⟩
abbrev S1x64 : Shape := ⟨2, ![1, 64]⟩
abbrev S1x128 : Shape := ⟨2, ![1, 128]⟩
abbrev S_ : Shape := ⟨0, ![]⟩
abbrev S8x2048x4x128 : Shape := ⟨4, ![8, 2048, 4, 128]⟩
abbrev S8x4x128x2048 : Shape := ⟨4, ![8, 4, 128, 2048]⟩
abbrev S8x4x16x2048 : Shape := ⟨4, ![8, 4, 16, 2048]⟩
abbrev S8x4x144x2048 : Shape := ⟨4, ![8, 4, 144, 2048]⟩
abbrev S4x64 : Shape := ⟨2, ![4, 64]⟩
abbrev S8x16x128x512 : Shape := ⟨4, ![8, 16, 128, 512]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x16x16x128 : Shape := ⟨4, ![1, 16, 16, 128]⟩
abbrev S1x2048x128 : Shape := ⟨3, ![1, 2048, 128]⟩
abbrev S1x1x144x2048 : Shape := ⟨4, ![1, 1, 144, 2048]⟩
abbrev S1x256x128 : Shape := ⟨3, ![1, 256, 128]⟩
abbrev S1 : Shape := ⟨1, ![1]⟩
abbrev S1x1 : Shape := ⟨2, ![1, 1]⟩
abbrev S16x16x128 : Shape := ⟨3, ![16, 16, 128]⟩
abbrev S256x128 : Shape := ⟨2, ![256, 128]⟩
abbrev S2048x128 : Shape := ⟨2, ![2048, 128]⟩
abbrev S256x2048 : Shape := ⟨2, ![256, 2048]⟩
abbrev S1x1x128x2048 : Shape := ⟨4, ![1, 1, 128, 2048]⟩
abbrev S128x2048 : Shape := ⟨2, ![128, 2048]⟩

abbrev nBuf : Space → Nat
  | .hbm => 132
  | .vmem => 15
  | .smem => 0
  | _ => 0

abbrev hbmTy0_0 (i : Nat) : BufTy := match i % 128 with
  | 0 => ⟨S8x2048x512, .bf16⟩
  | 1 => ⟨S8x2048x512, .bf16⟩
  | 2 => ⟨S8x2048x512, .bf16⟩
  | 3 => ⟨S8x2048x512, .bf16⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S8x2048x512, .f32⟩
  | 10 => ⟨S_, .f32⟩
  | 11 => ⟨S8x2048x512, .f32⟩
  | 12 => ⟨S8x2048x512, .f32⟩
  | 13 => ⟨S_, .f32⟩
  | 14 => ⟨S_, .f32⟩
  | 15 => ⟨S8x2048x512, .f32⟩
  | 16 => ⟨S8x2048x512, .f32⟩
  | 17 => ⟨S8x2048x512, .bf16⟩
  | 18 => ⟨S8x2048x512, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S8x2048x512, .i32⟩
  | 26 => ⟨S8x2048x512, .i32⟩
  | 27 => ⟨S_, .i32⟩
  | 28 => ⟨S8x2048x512, .i32⟩
  | 29 => ⟨S8x2048x512, .i1⟩
  | 30 => ⟨S_, .i32⟩
  | 31 => ⟨S8x2048x512, .i32⟩
  | 32 => ⟨S8x2048x512, .i1⟩
  | 33 => ⟨S_, .i32⟩
  | 34 => ⟨S_, .i1⟩
  | 35 => ⟨S8x2048x512, .i1⟩
  | 36 => ⟨S8x2048x512, .i1⟩
  | 37 => ⟨S8x2048x512, .i1⟩
  | 38 => ⟨S8x2048x512, .i32⟩
  | 39 => ⟨S8x2048x512, .i32⟩
  | 40 => ⟨S8x2048x512, .i32⟩
  | 41 => ⟨S_, .i32⟩
  | 42 => ⟨S8x2048x512, .i32⟩
  | 43 => ⟨S8x2048x512, .i1⟩
  | 44 => ⟨S_, .i32⟩
  | 45 => ⟨S8x2048x512, .i32⟩
  | 46 => ⟨S8x2048x512, .i1⟩
  | 47 => ⟨S_, .f32⟩
  | 48 => ⟨S_, .f32⟩
  | 49 => ⟨S8x2048x512, .f32⟩
  | 50 => ⟨S8x2048x512, .f32⟩
  | 51 => ⟨S8x2048x512, .f32⟩
  | 52 => ⟨S8x2048x512, .bf16⟩
  | 53 => ⟨S_, .i32⟩
  | 54 => ⟨S8x2048x512, .i32⟩
  | 55 => ⟨S8x2048x512, .i1⟩
  | 56 => ⟨S_, .f32⟩
  | 57 => ⟨S_, .f32⟩
  | 58 => ⟨S8x2048x512, .f32⟩
  | 59 => ⟨S8x2048x512, .f32⟩
  | 60 => ⟨S8x2048x512, .f32⟩
  | 61 => ⟨S8x2048x512, .bf16⟩
  | 62 => ⟨S8x2048x512, .bf16⟩
  | 63 => ⟨S8x2048x512, .bf16⟩
  | 64 => ⟨S8x2048x4x128, .bf16⟩
  | 65 => ⟨S8x4x128x2048, .bf16⟩
  | 66 => ⟨S8x4x16x2048, .i32⟩
  | 67 => ⟨S_, .i32⟩
  | 68 => ⟨S8x4x16x2048, .i32⟩
  | 69 => ⟨S8x4x16x2048, .i1⟩
  | 70 => ⟨S_, .f32⟩
  | 71 => ⟨S_, .f32⟩
  | 72 => ⟨S8x4x16x2048, .f32⟩
  | 73 => ⟨S8x4x16x2048, .f32⟩
  | 74 => ⟨S8x4x16x2048, .f32⟩
  | 75 => ⟨S8x4x16x2048, .bf16⟩
  | 76 => ⟨S8x4x144x2048, .bf16⟩
  | 77 => ⟨S4x64, .f32⟩
  | 78 => ⟨S8x16x128x512, .bf16⟩
  | 79 => ⟨S256, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S256, .i32⟩
  | 87 => ⟨S256, .i32⟩
  | 88 => ⟨S_, .i32⟩
  | 89 => ⟨S256, .i32⟩
  | 90 => ⟨S256, .i1⟩
  | 91 => ⟨S_, .i32⟩
  | 92 => ⟨S256, .i32⟩
  | 93 => ⟨S256, .i1⟩
  | 94 => ⟨S_, .i32⟩
  | 95 => ⟨S_, .i1⟩
  | 96 => ⟨S256, .i1⟩
  | 97 => ⟨S256, .i1⟩
  | 98 => ⟨S256, .i1⟩
  | 99 => ⟨S256, .i32⟩
  | 100 => ⟨S256, .i32⟩
  | 101 => ⟨S256, .i32⟩
  | 102 => ⟨S_, .i32⟩
  | 103 => ⟨S256, .i32⟩
  | 104 => ⟨S256, .i32⟩
  | 105 => ⟨S_, .i32⟩
  | 106 => ⟨S_, .i32⟩
  | 107 => ⟨S256, .i32⟩
  | 108 => ⟨S256, .i32⟩
  | 109 => ⟨S256, .i32⟩
  | 110 => ⟨S_, .i32⟩
  | 111 => ⟨S256, .i32⟩
  | 112 => ⟨S256, .i1⟩
  | 113 => ⟨S256, .i32⟩
  | 114 => ⟨S256, .i32⟩
  | 115 => ⟨S_, .i32⟩
  | 116 => ⟨S256, .i32⟩
  | 117 => ⟨S256, .i1⟩
  | 118 => ⟨S256, .i1⟩
  | 119 => ⟨S_, .i32⟩
  | 120 => ⟨S256, .i32⟩
  | 121 => ⟨S256, .i32⟩
  | 122 => ⟨S256, .i32⟩
  | 123 => ⟨S256, .i32⟩
  | 124 => ⟨S1x256, .i32⟩
  | 125 => ⟨S256x1, .i32⟩
  | 126 => ⟨S256x256, .i32⟩
  | 127 => ⟨S256x256, .i32⟩
  | _ => ⟨S8x2048x512, .bf16⟩

abbrev hbmTy0_1 (i : Nat) : BufTy := match i % 128 with
  | 0 => ⟨S256x256, .i1⟩
  | 1 => ⟨S256x256, .f32⟩
  | 2 => ⟨S256x256, .bf16⟩
  | 3 => ⟨S8x2048x512, .bf16⟩
  | _ => ⟨S8x2048x512, .bf16⟩

abbrev hbmTy (i : Nat) : BufTy := match i / 128 with
  | 0 => hbmTy0_0 i
  | 1 => hbmTy0_1 i
  | _ => ⟨S8x2048x512, .bf16⟩

abbrev bufTy : (tb : Table) → Fin (tcTables nBuf tb) → BufTy
  | .hbm, ⟨i, _⟩ => hbmTy i
  | .local _ .vmem, ⟨0, _⟩ => ⟨S4x64, .f32⟩
  | .local _ .vmem, ⟨1, _⟩ => ⟨S256x256, .bf16⟩
  | .local _ .vmem, ⟨2, _⟩ => ⟨S1x16x16x128, .bf16⟩
  | .local _ .vmem, ⟨3, _⟩ => ⟨S1x16x16x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x1x144x2048, .bf16⟩
  | .local _ .vmem, ⟨9, _⟩ => ⟨S1x1x144x2048, .bf16⟩
  | .local _ .vmem, ⟨10, _⟩ => ⟨S1x256x128, .bf16⟩
  | .local _ .vmem, ⟨11, _⟩ => ⟨S1x256x128, .bf16⟩
  | .local _ .vmem, ⟨12, _⟩ => ⟨S1x128, .f32⟩
  | .local _ .vmem, ⟨13, _⟩ => ⟨S1x256x128, .bf16⟩
  | .local _ .vmem, ⟨14, _⟩ => ⟨S1x256x128, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v8 : Ref sig .tc := ⟨.hbm, 40, rfl⟩
abbrev main_c_1 : Ref sig .tc := ⟨.hbm, 41, rfl⟩
abbrev main_v9 : Ref sig .tc := ⟨.hbm, 42, rfl⟩
abbrev main_v10 : Ref sig .tc := ⟨.hbm, 43, rfl⟩
abbrev main_c_2 : Ref sig .tc := ⟨.hbm, 44, rfl⟩
abbrev main_v11 : Ref sig .tc := ⟨.hbm, 45, rfl⟩
abbrev main_v12 : Ref sig .tc := ⟨.hbm, 46, rfl⟩
abbrev main_cst_3 : Ref sig .tc := ⟨.hbm, 47, rfl⟩
abbrev main_cst_4 : Ref sig .tc := ⟨.hbm, 48, rfl⟩
abbrev main_call1_v0 : Ref sig .tc := ⟨.hbm, 49, rfl⟩
abbrev main_call1_v1 : Ref sig .tc := ⟨.hbm, 50, rfl⟩
abbrev main_v13 : Ref sig .tc := ⟨.hbm, 51, rfl⟩
abbrev main_v14 : Ref sig .tc := ⟨.hbm, 52, rfl⟩
abbrev main_c_5 : Ref sig .tc := ⟨.hbm, 53, rfl⟩
abbrev main_v15 : Ref sig .tc := ⟨.hbm, 54, rfl⟩
abbrev main_v16 : Ref sig .tc := ⟨.hbm, 55, rfl⟩
abbrev main_cst_6 : Ref sig .tc := ⟨.hbm, 56, rfl⟩
abbrev main_cst_7 : Ref sig .tc := ⟨.hbm, 57, rfl⟩
abbrev main_call2_v0 : Ref sig .tc := ⟨.hbm, 58, rfl⟩
abbrev main_call2_v1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_c_8 : Ref sig .tc := ⟨.hbm, 67, rfl⟩
abbrev main_v24 : Ref sig .tc := ⟨.hbm, 68, rfl⟩
abbrev main_v25 : Ref sig .tc := ⟨.hbm, 69, rfl⟩
abbrev main_cst_9 : Ref sig .tc := ⟨.hbm, 70, rfl⟩
abbrev main_cst_10 : Ref sig .tc := ⟨.hbm, 71, rfl⟩
abbrev main_call5_v0 : Ref sig .tc := ⟨.hbm, 72, rfl⟩
abbrev main_call5_v1 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_11 : Ref sig .tc := ⟨.hbm, 80, rfl⟩
abbrev main_call6_v0 : Ref sig .tc := ⟨.hbm, 81, rfl⟩
abbrev main_call6_c : Ref sig .tc := ⟨.hbm, 82, rfl⟩
abbrev main_call6_v1 : Ref sig .tc := ⟨.hbm, 83, rfl⟩
abbrev main_call6_c_0 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_c_1 : Ref sig .tc := ⟨.hbm, 88, rfl⟩
abbrev main_call6_v5 : Ref sig .tc := ⟨.hbm, 89, rfl⟩
abbrev main_call6_v6 : Ref sig .tc := ⟨.hbm, 90, rfl⟩
abbrev main_call6_c_2 : Ref sig .tc := ⟨.hbm, 91, rfl⟩
abbrev main_call6_v7 : Ref sig .tc := ⟨.hbm, 92, rfl⟩
abbrev main_call6_v8 : Ref sig .tc := ⟨.hbm, 93, rfl⟩
abbrev main_call6_c_3 : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_v12 : Ref sig .tc := ⟨.hbm, 98, rfl⟩
abbrev main_call6_v13 : Ref sig .tc := ⟨.hbm, 99, rfl⟩
abbrev main_call6_v14 : Ref sig .tc := ⟨.hbm, 100, rfl⟩
abbrev main_v32 : Ref sig .tc := ⟨.hbm, 101, rfl⟩
abbrev main_c_12 : Ref sig .tc := ⟨.hbm, 102, rfl⟩
abbrev main_v33 : Ref sig .tc := ⟨.hbm, 103, rfl⟩
abbrev main_v34 : Ref sig .tc := ⟨.hbm, 104, rfl⟩
abbrev main_c_13 : Ref sig .tc := ⟨.hbm, 105, rfl⟩
abbrev main_call7_v0 : Ref sig .tc := ⟨.hbm, 106, rfl⟩
abbrev main_call7_v1 : Ref sig .tc := ⟨.hbm, 107, rfl⟩
abbrev main_call7_v2 : Ref sig .tc := ⟨.hbm, 108, rfl⟩
abbrev main_call7_v3 : Ref sig .tc := ⟨.hbm, 109, rfl⟩
abbrev main_call7_v4 : Ref sig .tc := ⟨.hbm, 110, rfl⟩
abbrev main_call7_v5 : Ref sig .tc := ⟨.hbm, 111, rfl⟩
abbrev main_call7_v6 : Ref sig .tc := ⟨.hbm, 112, rfl⟩
abbrev main_call7_v7 : Ref sig .tc := ⟨.hbm, 113, rfl⟩
abbrev main_call7_v8 : Ref sig .tc := ⟨.hbm, 114, rfl⟩
abbrev main_call7_c : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_c_0 : Ref sig .tc := ⟨.hbm, 119, rfl⟩
abbrev main_call7_v12 : Ref sig .tc := ⟨.hbm, 120, rfl⟩
abbrev main_call7_v13 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x16x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x144x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference2Ideal.lean ====
abbrev S8x2048x512 : Shape := ⟨3, ![8, 2048, 512]⟩
abbrev S1x64 : Shape := ⟨2, ![1, 64]⟩
abbrev S1x128 : Shape := ⟨2, ![1, 128]⟩
abbrev S8x2048x4x2x64 : Shape := ⟨5, ![8, 2048, 4, 2, 64]⟩
abbrev S2x8x4x2048x64 : Shape := ⟨5, ![2, 8, 4, 2048, 64]⟩
abbrev S8x2048x4x128 : Shape := ⟨4, ![8, 2048, 4, 128]⟩
abbrev S8x4x2048x128 : Shape := ⟨4, ![8, 4, 2048, 128]⟩
abbrev S64 : Shape := ⟨1, ![64]⟩
abbrev S_ : Shape := ⟨0, ![]⟩
abbrev S1x8x4x2048x64 : Shape := ⟨5, ![1, 8, 4, 2048, 64]⟩
abbrev S8x4x2048x64 : Shape := ⟨4, ![8, 4, 2048, 64]⟩
abbrev S8x4x2048x2048 : Shape := ⟨4, ![8, 4, 2048, 2048]⟩
abbrev S8x4x2048 : Shape := ⟨3, ![8, 4, 2048]⟩
abbrev S8x4x2048x1 : Shape := ⟨4, ![8, 4, 2048, 1]⟩
abbrev S8x4x16x128x128 : Shape := ⟨5, ![8, 4, 16, 128, 128]⟩
abbrev S8x128x16x4x128 : Shape := ⟨5, ![8, 128, 16, 4, 128]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S8x2048x4x2x64, .f32⟩
  | .hbm, ⟨14, _⟩ => ⟨S2x8x4x2048x64, .f32⟩
  | .hbm, ⟨15, _⟩ => ⟨S8x2048x4x2x64, .f32⟩
  | .hbm, ⟨16, _⟩ => ⟨S2x8x4x2048x64, .f32⟩
  | .hbm, ⟨17, _⟩ => ⟨S8x2048x4x128, .f32⟩
  | .hbm, ⟨18, _⟩ => ⟨S8x4x2048x128, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x8x4x2048x64, .f32⟩
  | .hbm, ⟨35, _⟩ => ⟨S8x4x2048x64, .f32⟩
  | .hbm, ⟨36, _⟩ => ⟨S1x8x4x2048x64, .f32⟩
  | .hbm, ⟨37, _⟩ => ⟨S8x4x2048x64, .f32⟩
  | .hbm, ⟨38, _⟩ => ⟨S8x4x2048x2048, .f32⟩
  | .hbm, ⟨39, _⟩ => ⟨S_, .f32⟩
  | .hbm, ⟨40, _⟩ => ⟨S8x4x2048x2048, .f32⟩
  | .hbm, ⟨41, _⟩ => ⟨S8x4x2048x2048, .f32⟩
  | .hbm, ⟨42, _⟩ => ⟨S1x8x4x2048x64, .f32⟩
  | .hbm, ⟨43, _⟩ => ⟨S8x4x2048x64, .f32⟩
  | .hbm, ⟨44, _⟩ => ⟨S1x8x4x2048x64, .f32⟩
  | .hbm, ⟨45, _⟩ => ⟨S8x4x2048x64, .f32⟩
  | .hbm, ⟨46, _⟩ => ⟨S8x4x2048x2048, .f32⟩
  | .hbm, ⟨47, _⟩ => ⟨S_, .f32⟩
  | .hbm, ⟨48, _⟩ => ⟨S8x4x2048x2048, .f32⟩
  | .hbm, ⟨49, _⟩ => ⟨S8x4x2048x2048, .f32⟩
  | .hbm, ⟨50, _⟩ => ⟨S_, .f32⟩
  | .hbm, ⟨51, _⟩ => ⟨S8x4x2048, .f32⟩
  | .hbm, ⟨52, _⟩ => ⟨S_, .f32⟩
  | .hbm, ⟨53, _⟩ => ⟨S8x4x2048, .f32⟩
  | .hbm, ⟨54, _⟩ => ⟨S8x4x2048, .f32⟩
  | .hbm, ⟨55, _⟩ => ⟨S8x4x2048x1, .f32⟩
  | .hbm, ⟨56, _⟩ => ⟨S8x4x2048x2048, .f32⟩
  | .hbm, ⟨57, _⟩ => ⟨S8x4x2048x2048, .f32⟩
  | .hbm, ⟨58, _⟩ => ⟨S8x4x2048x2048, .f32⟩
  | .hbm, ⟨59, _⟩ => ⟨S_, .f32⟩
  | .hbm, ⟨60, _⟩ => ⟨S8x4x2048, .f32⟩
  | .hbm, ⟨61, _⟩ => ⟨S8x4x2048x1, .f32⟩
  | .hbm, ⟨62, _⟩ => ⟨S8x4x2048x2048, .f32⟩
  | .hbm, ⟨63, _⟩ => ⟨S8x4x2048x2048, .f32⟩
  | .hbm, ⟨64, _⟩ => ⟨S_, .f32⟩
  | .hbm, ⟨65, _⟩ => ⟨S8x4x2048, .f32⟩
  | .hbm, ⟨66, _⟩ => ⟨S_, .f32⟩
  | .hbm, ⟨67, _⟩ => ⟨S8x4x2048, .f32⟩
  | .hbm, ⟨68, _⟩ => ⟨S8x4x2048, .f32⟩
  | .hbm, ⟨69, _⟩ => ⟨S8x4x2048x1, .f32⟩
  | .hbm, ⟨70, _⟩ => ⟨S8x4x2048x2048, .f32⟩
  | .hbm, ⟨71, _⟩ => ⟨S8x4x2048x2048, .f32⟩
  | .hbm, ⟨72, _⟩ => ⟨S8x4x2048x2048, .f32⟩
  | .hbm, ⟨73, _⟩ => ⟨S_, .f32⟩
  | .hbm, ⟨74, _⟩ => ⟨S8x4x2048, .f32⟩
  | .hbm, ⟨75, _⟩ => ⟨S8x4x2048x1, .f32⟩
  | .hbm, ⟨76, _⟩ => ⟨S8x4x2048x2048, .f32⟩
  | .hbm, ⟨77, _⟩ => ⟨S8x4x2048x2048, .f32⟩
  | .hbm, ⟨78, _⟩ => ⟨S8x4x2048x2048, .f32⟩
  | .hbm, ⟨79, _⟩ => ⟨S8x4x2048x2048, .f32⟩
  | .hbm, ⟨80, _⟩ => ⟨S8x4x2048x2048, .f32⟩
  | .hbm, ⟨81, _⟩ => ⟨S8x4x2048x128, .f32⟩
  | .hbm, ⟨82, _⟩ => ⟨S8x4x16x128x128, .f32⟩
  | .hbm, ⟨83, _⟩ => ⟨S8x128x16x4x128, .f32⟩
  | .hbm, ⟨84, _⟩ => ⟨S8x2048x4x128, .f32⟩
  | .hbm, ⟨85, _⟩ => ⟨S128, .f32⟩
  | .hbm, ⟨86, _⟩ => ⟨S8x2048x4x128, .f32⟩
  | .hbm, ⟨87, _⟩ => ⟨S_, .f32⟩
  | .hbm, ⟨88, _⟩ => ⟨S8x2048x4, .f32⟩
  | .hbm, ⟨89, _⟩ => ⟨S8x2048x4x1, .f32⟩
  | .hbm, ⟨90, _⟩ => ⟨S_, .f32⟩
  | .hbm, ⟨91, _⟩ => ⟨S8x2048x4x1, .f32⟩
  | .hbm, ⟨92, _⟩ => ⟨S8x2048x4x1, .f32⟩
  | .hbm, ⟨93, _⟩ => ⟨S_, .f32⟩
  | .hbm, ⟨94, _⟩ => ⟨S8x2048x4x1, .f32⟩
  | .hbm, ⟨95, _⟩ => ⟨S8x2048x4x1, .f32⟩
  | .hbm, ⟨96, _⟩ => ⟨S8x2048x4x1, .f32⟩
  | .hbm, ⟨97, _⟩ => ⟨S8x2048x4x128, .f32⟩
  | .hbm, ⟨98, _⟩ => ⟨S8x2048x4x128, .f32⟩
  | .hbm, ⟨99, _⟩ => ⟨S1x1x1x128, .f32⟩
  | .hbm, ⟨100, _⟩ => ⟨S8x2048x4x128, .f32⟩
  | .hbm, ⟨101, _⟩ => ⟨S8x2048x4x128, .f32⟩
  | .hbm, ⟨102, _⟩ => ⟨S_, .f32⟩
  | .hbm, ⟨103, _⟩ => ⟨S8x2048x4x128, .f32⟩
  | .hbm, ⟨104, _⟩ => ⟨S8x2048x4x128, .f32⟩
  | .hbm, ⟨105, _⟩ => ⟨S8x2048x512, .f32⟩
  | .hbm, ⟨106, _⟩ => ⟨S8x2048x512, .f32⟩
  | .hbm, ⟨107, _⟩ => ⟨S8x2048x512, .f32⟩
  | .hbm, ⟨108, _⟩ => ⟨S_, .f32⟩
  | .hbm, ⟨109, _⟩ => ⟨S8x2048x512, .f32⟩
  | .hbm, ⟨110, _⟩ => ⟨S8x2048x512, .f32⟩
  | .hbm, ⟨111, _⟩ => ⟨S_, .f32⟩
  | .hbm, ⟨112, _⟩ => ⟨S8x2048x512, .f32⟩
  | .hbm, ⟨113, _⟩ => ⟨S8x2048x512, .f32⟩
  | .hbm, ⟨114, _⟩ => ⟨S8x2048x512, .f32⟩
  | .hbm, ⟨115, _⟩ => ⟨S8x2048x512, .f32⟩
  | .hbm, ⟨116, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x3584 : Shape := ⟨3, ![1, 1024, 3584]⟩
abbrev S1024x3584 : Shape := ⟨2, ![1024, 3584]⟩
abbrev S1024x1536 : Shape := ⟨2, ![1024, 1536]⟩
abbrev S1024x512 : Shape := ⟨2, ![1024, 512]⟩
abbrev S1024x4x2x2x32 : Shape := ⟨5, ![1024, 4, 2, 2, 32]⟩
abbrev S1024x1024 : Shape := ⟨2, ![1024, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x1024 : Shape := ⟨2, ![16384, 1024]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 48
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3584, .f32⟩
  | .hbm, ⟨3, _⟩ => ⟨S1024x3584, .f32⟩
  | .hbm, ⟨4, _⟩ => ⟨S1024x1536, .f32⟩
  | .hbm, ⟨5, _⟩ => ⟨S1024x512, .f32⟩
  | .hbm, ⟨6, _⟩ => ⟨S1024x4x2x2x32, .f32⟩
  | .hbm, ⟨7, _⟩ => ⟨S1024x4x2x2x32, .f32⟩
  | .hbm, ⟨8, _⟩ => ⟨S1024x512, .f32⟩
  | .hbm, ⟨9, _⟩ => ⟨S1024x512, .f32⟩
  | .hbm, ⟨10, _⟩ => ⟨S1024x4x2x2x32, .f32⟩
  | .hbm, ⟨11, _⟩ => ⟨S1024x4x2x2x32, .f32⟩
  | .hbm, ⟨12, _⟩ => ⟨S1024x512, .f32⟩
  | .hbm, ⟨13, _⟩ => ⟨S1024x1024, .f32⟩
  | .hbm, ⟨14, _⟩ => ⟨S1024x3584, .f32⟩
  | .hbm, ⟨15, _⟩ => ⟨S1024x3584, .bf16⟩
  | .hbm, ⟨16, _⟩ => ⟨S2048, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x128, .f32⟩
  | .hbm, ⟨38, _⟩ => ⟨S2048x32, .f32⟩
  | .hbm, ⟨39, _⟩ => ⟨S2048x32, .f32⟩
  | .hbm, ⟨40, _⟩ => ⟨S2048x128, .f32⟩
  | .hbm, ⟨41, _⟩ => ⟨S16384x1024, .f32⟩
  | .hbm, ⟨42, _⟩ => ⟨S16384x512, .f32⟩
  | .hbm, ⟨43, _⟩ => ⟨S16384x512, .bf16⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev main_v35_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x2048x1024 : Shape := ⟨3, ![8, 2048, 1024]⟩
abbrev S1x1024 : Shape := ⟨2, ![1, 1024]⟩
abbrev S1x1024x3584 : Shape := ⟨3, ![1, 1024, 3584]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3584 : Shape := ⟨2, ![1024, 3584]⟩
abbrev S8x2048x3584 : Shape := ⟨3, ![8, 2048, 3584]⟩
abbrev S8x2048x512 : Shape := ⟨3, ![8, 2048, 512]⟩
abbrev S8x2048x8x64 : Shape := ⟨4, ![8, 2048, 8, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S8x2048x8x32 : Shape := ⟨4, ![8, 2048, 8, 32]⟩
abbrev S16384x512 : Shape := ⟨2, ![16384, 512]⟩
abbrev S8x2048x4x2x2x32 : Shape := ⟨6, ![8, 2048, 4, 2, 2, 32]⟩

abbrev nBuf : Space → Nat
  | .hbm => 142
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x3584, .f32⟩
  | 3 => ⟨S1024, .f32⟩
  | 4 => ⟨S8x2048x1024, .f32⟩
  | 5 => ⟨S_, .f32⟩
  | 6 => ⟨S8x2048, .f32⟩
  | 7 => ⟨S8x2048x1, .f32⟩
  | 8 => ⟨S_, .f32⟩
  | 9 => ⟨S8x2048x1, .f32⟩
  | 10 => ⟨S8x2048x1, .f32⟩
  | 11 => ⟨S_, .f32⟩
  | 12 => ⟨S8x2048x1, .f32⟩
  | 13 => ⟨S8x2048x1, .f32⟩
  | 14 => ⟨S8x2048x1, .f32⟩
  | 15 => ⟨S8x2048x1024, .f32⟩
  | 16 => ⟨S8x2048x1024, .f32⟩
  | 17 => ⟨S1x1x1024, .f32⟩
  | 18 => ⟨S8x2048x1024, .f32⟩
  | 19 => ⟨S8x2048x1024, .f32⟩
  | 20 => ⟨S1024x3584, .f32⟩
  | 21 => ⟨S8x2048x3584, .f32⟩
  | 22 => ⟨S8x2048x512, .f32⟩
  | 23 => ⟨S8x2048x512, .f32⟩
  | 24 => ⟨S8x2048x512, .f32⟩
  | 25 => ⟨S8x2048x512, .f32⟩
  | 26 => ⟨S8x2048x512, .f32⟩
  | 27 => ⟨S8x2048x512, .f32⟩
  | 28 => ⟨S8x2048x512, .f32⟩
  | 29 => ⟨S8x2048x512, .f32⟩
  | 30 => ⟨S8x2048x512, .f32⟩
  | 31 => ⟨S_, .f32⟩
  | 32 => ⟨S8x2048x512, .f32⟩
  | 33 => ⟨S8x2048x512, .f32⟩
  | 34 => ⟨S_, .f32⟩
  | 35 => ⟨S8x2048x512, .f32⟩
  | 36 => ⟨S8x2048x512, .f32⟩
  | 37 => ⟨S8x2048x512, .f32⟩
  | 38 => ⟨S8x2048x8x64, .f32⟩
  | 39 => ⟨S2048, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S2048x1, .f32⟩
  | 54 => ⟨S1x32, .f32⟩
  | 55 => ⟨S2048x32, .f32⟩
  | 56 => ⟨S2048x32, .f32⟩
  | 57 => ⟨S2048x32, .f32⟩
  | 58 => ⟨S2048x64, .f32⟩
  | 59 => ⟨S2048x64, .f32⟩
  | 60 => ⟨S1x2048x1x64, .f32⟩
  | 61 => ⟨S2048x64, .f32⟩
  | 62 => ⟨S1x2048x1x64, .f32⟩
  | 63 => ⟨S8x2048x8x32, .f32⟩
  | 64 => ⟨S8x2048x8x32, .f32⟩
  | 65 => ⟨S8x2048x8x32, .f32⟩
  | 66 => ⟨S8x2048x8x64, .f32⟩
  | 67 => ⟨S8x2048x8x64, .f32⟩
  | 68 => ⟨S8x2048x8x64, .f32⟩
  | 69 => ⟨S8x2048x8x64, .f32⟩
  | 70 => ⟨S8x2048x8x64, .f32⟩
  | 71 => ⟨S8x2048x8x64, .f32⟩
  | 72 => ⟨S_, .f32⟩
  | 73 => ⟨S8x2048x8x64, .f32⟩
  | 74 => ⟨S8x2048x8x64, .f32⟩
  | 75 => ⟨S8x2048x8x64, .f32⟩
  | 76 => ⟨S2048, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S2048x1, .f32⟩
  | 91 => ⟨S1x32, .f32⟩
  | 92 => ⟨S2048x32, .f32⟩
  | 93 => ⟨S2048x32, .f32⟩
  | 94 => ⟨S2048x32, .f32⟩
  | 95 => ⟨S2048x64, .f32⟩
  | 96 => ⟨S2048x64, .f32⟩
  | 97 => ⟨S1x2048x1x64, .f32⟩
  | 98 => ⟨S2048x64, .f32⟩
  | 99 => ⟨S1x2048x1x64, .f32⟩
  | 100 => ⟨S8x2048x8x32, .f32⟩
  | 101 => ⟨S8x2048x8x32, .f32⟩
  | 102 => ⟨S8x2048x8x32, .f32⟩
  | 103 => ⟨S8x2048x8x64, .f32⟩
  | 104 => ⟨S8x2048x8x64, .f32⟩
  | 105 => ⟨S8x2048x8x64, .f32⟩
  | 106 => ⟨S8x2048x8x64, .f32⟩
  | 107 => ⟨S8x2048x8x64, .f32⟩
  | 108 => ⟨S8x2048x8x64, .f32⟩
  | 109 => ⟨S16384x512, .f32⟩
  | 110 => ⟨S8x2048x512, .f32⟩
  | 111 => ⟨S8x2048x512, .f32⟩
  | 112 => ⟨S_, .f32⟩
  | 113 => ⟨S8x2048x512, .f32⟩
  | 114 => ⟨S8x2048x512, .f32⟩
  | 115 => ⟨S_, .f32⟩
  | 116 => ⟨S8x2048x512, .f32⟩
  | 117 => ⟨S8x2048x512, .f32⟩
  | 118 => ⟨S8x2048x512, .f32⟩
  | 119 => ⟨S16384x512, .f32⟩
  | 120 => ⟨S16384x512, .bf16⟩
  | 121 => ⟨S8x2048x4x2x2x32, .f32⟩
  | 122 => ⟨S8x2048x4x2x2x32, .f32⟩
  | 123 => ⟨S16384x512, .f32⟩
  | 124 => ⟨S16384x512, .bf16⟩
  | 125 => ⟨S8x2048x4x2x2x32, .f32⟩
  | 126 => ⟨S8x2048x4x2x2x32, .f32⟩
  | 127 => ⟨S16384x512, .f32⟩
  | _ => ⟨S8x2048x1024, .f32⟩

abbrev hbmTy0_1 (i : Nat) : BufTy := match i % 128 with
  | 0 => ⟨S16384x512, .bf16⟩
  | 1 => ⟨S16384x512, .f32⟩
  | 2 => ⟨S16384x512, .bf16⟩
  | 3 => ⟨S8x2048x512, .f32⟩
  | 4 => ⟨S8x2048x512, .f32⟩
  | 5 => ⟨S_, .f32⟩
  | 6 => ⟨S8x2048x512, .f32⟩
  | 7 => ⟨S8x2048x512, .f32⟩
  | 8 => ⟨S_, .f32⟩
  | 9 => ⟨S8x2048x512, .f32⟩
  | 10 => ⟨S8x2048x512, .f32⟩
  | 11 => ⟨S8x2048x512, .f32⟩
  | 12 => ⟨S16384x512, .f32⟩
  | 13 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_cst_10 : Ref sig .tc := ⟨.hbm, 81, rfl⟩
abbrev main_v67 : Ref sig .tc := ⟨.hbm, 82, rfl⟩
abbrev main_v68 : Ref sig .tc := ⟨.hbm, 83, rfl⟩
abbrev main_cst_11 : Ref sig .tc := ⟨.hbm, 84, rfl⟩
abbrev main_v69 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_call0_v0 : Ref sig .tc := ⟨.hbm, 110, rfl⟩
abbrev main_call0_v1 : Ref sig .tc := ⟨.hbm, 111, rfl⟩
abbrev main_call0_cst : Ref sig .tc := ⟨.hbm, 112, rfl⟩
abbrev main_call0_v2 : Ref sig .tc := ⟨.hbm, 113, rfl⟩
abbrev main_call0_v3 : Ref sig .tc := ⟨.hbm, 114, rfl⟩
abbrev main_call0_cst_0 : Ref sig .tc := ⟨.hbm, 115, rfl⟩
abbrev main_call0_v4 : Ref sig .tc := ⟨.hbm, 116, rfl⟩
abbrev main_call0_v5 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_call1_v0 : Ref sig .tc := ⟨.hbm, 131, rfl⟩
abbrev main_call1_v1 : Ref sig .tc := ⟨.hbm, 132, rfl⟩
abbrev main_call1_cst : Ref sig .tc := ⟨.hbm, 133, rfl⟩
abbrev main_call1_v2 : Ref sig .tc := ⟨.hbm, 134, rfl⟩
abbrev main_call1_v3 : Ref sig .tc := ⟨.hbm, 135, rfl⟩
abbrev main_call1_cst_0 : Ref sig .tc := ⟨.hbm, 136, rfl⟩
abbrev main_call1_v4 : Ref sig .tc := ⟨.hbm, 137, rfl⟩
abbrev main_call1_v5 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== Proof.Rules.lean ====
/-
  Rules of the separation logic stated for `owns` — a memref held together with what it READS — rather than for the
  buffer underneath: a load hands over the read values, a store overlays them, a local transfer's flight delivers its
  destination reading what the source read. The kernel's run (`Trip`, `Body`) is made of these, so no step of it
  speaks of the contents of a buffer outside the part the step touches.
-/
module

public import Idealize.ShloMosaic.Lib.Pipeline.FrameBody
public import Idealize.ShloMosaic.Lib.Transfers
public import Idealize.ShloMosaic.Lib.Ring
public import Idealize.ShloMosaic.Lib.Tactic

@[expose] public section

noncomputable section

namespace Cert.Proof.Rules

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Ix : Type} [DecidableEq Ix]
variable {U : Type} [URA U] {Lvl : Type} [Preorder Lvl] {Λ : Labels}
local notation "𝕄" => MT nD τ sig Ix Val ℕ U Lvl
variable {defs : Defs nD τ sig Val Λ} (𝒱 : Variants) (c : Thread nD τ) (bd : Option 𝒱.V)
variable {sp sp' : Space} {s : Shape} {e : EltTy} {α : Type} {Q : α → sProp (MT nD τ sig Ix Val ℕ U Lvl)}

/-- `owns`, opened. -/
theorem owns_unfold (m : Memref sig c.2.kind sp s e) (q : PosShare TreeShare) (X : s.Idx → Val e) :
    (owns c m q X : sProp 𝕄) = iprop(∃ f, ⌜m.view.read Val f = X⌝ ∗ (m.view.loc c ↦[m.view.set]{q} f)) := rfl

/-- A memref owned at what it reads of `f` is its elements at `f`. -/
theorem owns_elim (m : Memref sig c.2.kind sp s e) (q : PosShare TreeShare) (f : m.view.ty.Contents Val) :
    (owns c m q (m.view.read Val f) : sProp 𝕄) ⊢ (m.view.loc c ↦[m.view.set]{q} f) := by
  unfold owns
  iintro ⟨%g, %hg, H⟩
  have h : (m.view.loc c ↦[m.view.set]{q} g : sProp 𝕄) = (m.view.loc c ↦[m.view.set]{q} f) := by
    refine pointsTo_congr fun i hi => ?_
    obtain ⟨x, -, rfl⟩ := Finset.mem_map.mp hi
    have hx := congrFun hg x
    rw [View.read_apply, View.read_apply] at hx
    exact (cast_inj _).mp hx
  rw [← h]; iexact H

/-- A value returned into the rest of a program is that rest at the value. -/
theorem wp_ret_bind {β : Type} (a : β) (k : β → Prog (TpuEff nD τ sig Val Λ c.2) α) :
    (wp frame (wpE defs 𝒱 c bd) Set.univ (k a) Q : sProp 𝕄) ⊢ wp frame (wpE defs 𝒱 c bd) Set.univ ((Prog.ret a).bind k) Q :=
  Idealize.SL.BI.Entails.refl _

/-- A load through a rectangle of an owned memref reads its values there. -/
theorem load_owns {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k (View.ld X r)) Q)
        -∗ wp frame (wpE defs 𝒱 c bd) Set.univ (.op (.load m r hl) k) Q) := by
  rw [owns_unfold c m _ X]
  iintro ⟨%f, %hf, H⟩ HK
  subst hf
  iapply (wp_load 𝒱 c bd Set.univ (S := m.view.set) (f := f) (Finset.map_subset_map.mpr (Finset.subset_univ _))) $$ H
  iintro H
  iapply HK
  iexists f
  isplitr
  · ipureintro; rfl
  · iexact H

/-- An unmasked store through a rectangle of a memref owned whole overlays the stored values. -/
theorem store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  rw [owns_unfold c m _ X]
  iintro ⟨%f, %hf, H⟩ HK
  subst hf
  have hS : (m.access r).setOn (Finset.univ : Finset r.shape.Idx) ⊆ m.view.set := by
    change (m.view.slice r).set ⊆ _
    rw [View.set_slice]; exact Finset.map_subset_map.mpr (Finset.subset_univ _)
  iapply (wp_store 𝒱 c bd Set.univ (m := m) (r := r) (S := m.view.set) (f := f) hS) $$ H
  iintro H
  iapply HK
  unfold owns
  iexists (m.access r).write Val f w Finset.univ
  isplitr
  · ipureintro
    funext y
    by_cases hy : y ∈ Finset.univ.map r.emb
    · obtain ⟨x, -, rfl⟩ := Finset.mem_map.mp hy
      rw [View.read_slice_write_emb r f w (Finset.mem_univ x), Rect.overlay_emb]
    · rw [View.read_slice_write_of_not_mem r f w Finset.univ hy, Rect.overlay_of_not_mem _ _ _ (by rwa [← Rect.map_emb_univ])]
  · iexact H

/-- A local transfer between owned memrefs on a cell at zero: its flight delivers the destination reading what the
    source reads, and the source back. -/
theorem dma_owns (EC : UEmb Counters 𝕄) [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0 : sProp 𝕄)
      ⊢ iprop((Transfers.Flight EC c sm ι N iprop(owns c dst fullShare X ∗ owns c src q X)
              -∗ wp frame (wpE defs 𝒱 c bd) Set.univ (k ⟨⟩) Q)
          -∗ wp frame (wpE defs 𝒱 c bd) Set.univ (.op (.enqueueDmaAs src (.here dst) .same sm hsrc hdst hsem) k) Q) := by
  rw [owns_unfold c src q X, owns_unfold c dst fullShare Y]
  iintro ⟨⟨%f, %hf, Hs⟩, ⟨%g, %hg, Hd⟩, Hv⟩ HK
  subst hf
  iapply (Transfers.wp_dmaLocal EC 𝒱 c bd ι N hN hN0 (Finset.Subset.refl _)) $$ [Hs Hd Hv]
  · isplitl [Hs]; · iexact Hs
    isplitl [Hd] <;> iassumption
  iintro HF
  iapply HK
  have hD := BI.sep_mono (owns_intro (Ix := Ix) (Name := ℕ) (U := U) (Lvl := Lvl) c dst fullShare
    (dst.view.write Val g (src.view.read Val f) Finset.univ)) (owns_intro (Ix := Ix) (Name := ℕ) (U := U) (Lvl := Lvl) c src q f)
  rw [View.read_write_univ] at hD
  unfold owns at hD
  iapply (Transfers.Flight_mono EC c hD) $$ HF

end Cert.Proof.Rules
end
-- ==== Proof.Rings.lean ====
/-
  The two rings of a double-buffered stream of sixteen blocks, as resources, and one step of each at the head of a
  program.

  READ RING. Four slots, three blocks ahead. Before trip `k` blocks `k`, `k+1`, `k+2` (as far as they exist) are in
  flight, the slot of position `k+3` is free and every other block is home (`ring k`). The trip issues block `k+3` if
  there is one (`mid k`), waits for block `k` (the slot at the block's values, the block home again: `got k`) and
  hands the slot back at its end (`ring (k+1)`).

  WRITE RING. Two slots, one block behind. Before trip `k` block `k-1` is on its way out, every earlier block holds
  its final values, every later one is untouched, the slot of position `k` is free (`oring k`).
-/
module

public import proofs.«01_k».proof.Proof.Rules

@[expose] public section

noncomputable section

namespace Cert.Proof.Rings

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Rules

section Sep

variable {M : Type} [URA M] {n : ℕ}

/-- Families that agree off `i` share everything but their summand at `i`. -/
theorem bigSep_swap (i : Fin n) {Φ Ψ : Fin n → sProp M} (h : ∀ b, b ≠ i → Φ b = Ψ b) :
    bigSep Finset.univ Ψ = iprop(Ψ i ∗ bigSep (Finset.univ.erase i) Φ) := by
  rw [bigSep_univ_split i]
  congr 1
  exact bigSep_congr fun b hb => (h b (Finset.ne_of_mem_erase hb)).symm

/-- One summand apart. -/
theorem bigSep_take (i : Fin n) (Φ : Fin n → sProp M) :
    bigSep Finset.univ Φ = iprop(Φ i ∗ bigSep (Finset.univ.erase i) Φ) := bigSep_univ_split i

end Sep

variable {nD : Nat} {τ : Topo} {sig : RefSig} {Val : EltTy → Type}
variable {U : Type} [URA U] {Lvl : Type} [Preorder Lvl] {Λ : Labels}
local notation "𝕄" => MT nD τ sig Unit Val ℕ U Lvl
variable (EC : UEmb Counters (MT nD τ sig Unit Val ℕ U Lvl)) [EC.LandsIn (upEmb : UEmb _ (MT nD τ sig Unit Val ℕ U Lvl))]
variable {defs : Defs nD τ sig Val Λ} (𝒱 : Variants) (c : Dev nD) (bd : Option 𝒱.V)
variable {α : Type} {Q : α → sProp (MT nD τ sig Unit Val ℕ U Lvl)}
variable {s : Shape} {e : EltTy}

/-- A memref owned at some values. -/
def anyOf {sp : Space} (m : Memref sig .tc sp s e) : sProp 𝕄 := iprop(∃ Y, owns (c : Thread nD τ) m fullShare Y)

/-- What the core has waited for, whatever it is. -/
def owesAny : sProp 𝕄 := iprop(∃ W, owes (c : Thread nD τ) 0 W)

variable (cell : ℕ → SemLoc sig) (slot : ℕ → Memref sig .tc .vmem s e) (blk : ℕ → Memref sig .tc .hbm s e)
variable (X : ℕ → s.Idx → Val e)

/-- The slot of position `p`, free: at some values, its cell at zero. -/
def free (p : ℕ) : sProp 𝕄 := iprop(anyOf c (slot p) ∗ semVal ((c : Thread nD τ), cell p) 0)

/-- Block `b` home, at its values. -/
def home (b : ℕ) : sProp 𝕄 := owns (c : Thread nD τ) (blk b) fullShare (X b)

/-- Block `p` on its way into the slot of position `p`. -/
def fly (p : ℕ) : sProp 𝕄 :=
  Transfers.Flight EC (c : Thread nD τ) (cell p) () (slot p).view.dmaCredit
    iprop(owns (c : Thread nD τ) (slot p) fullShare (X p) ∗ owns (c : Thread nD τ) (blk p) fullShare (X p))

/-- Position `p`'s slot: in flight while there is a block for it, else free. -/
def role (p : ℕ) : sProp 𝕄 := if p < 16 then fly EC c cell slot blk X p else free c cell slot p

/-- The blocks home while `lo … hi - 1` are out. -/
def homes (lo hi : ℕ) : sProp 𝕄 :=
  bigSep (Finset.univ : Finset (Fin 16)) fun b => if lo ≤ b.val ∧ b.val < hi then BI.emp else home c blk X b

/-- The read ring before trip `k`. -/
def ring (k : ℕ) : sProp 𝕄 :=
  iprop(homes c blk X k (k + 3) ∗ role EC c cell slot blk X k ∗ role EC c cell slot blk X (k + 1)
    ∗ role EC c cell slot blk X (k + 2) ∗ free c cell slot (k + 3))

/-- The read ring within trip `k`, after the issue. -/
def mid (k : ℕ) : sProp 𝕄 :=
  iprop(homes c blk X k (k + 4) ∗ role EC c cell slot blk X k ∗ role EC c cell slot blk X (k + 1)
    ∗ role EC c cell slot blk X (k + 2) ∗ role EC c cell slot blk X (k + 3))

/-- The read ring within trip `k`, after the wait, but for the slot of position `k`. -/
def got (k : ℕ) : sProp 𝕄 :=
  iprop(homes c blk X (k + 1) (k + 4) ∗ semVal ((c : Thread nD τ), cell k) 0 ∗ role EC c cell slot blk X (k + 1)
    ∗ role EC c cell slot blk X (k + 2) ∗ role EC c cell slot blk X (k + 3))

theorem homes_out (lo hi : ℕ) (h : hi < 16) (hl : lo ≤ hi) :
    (homes c blk X lo hi : sProp 𝕄) ⊢ iprop(home c blk X hi ∗ homes c blk X lo (hi + 1)) := by
  have e := bigSep_swap (M := 𝕄) (⟨hi, h⟩ : Fin 16)
    (Φ := fun b => if lo ≤ b.val ∧ b.val < hi + 1 then BI.emp else home c blk X b)
    (Ψ := fun b => if lo ≤ b.val ∧ b.val < hi then BI.emp else home c blk X b)
    (fun b hb => by
      have : b.val ≠ hi := fun h' => hb (Fin.ext h')
      by_cases h1 : lo ≤ b.val ∧ b.val < hi
      · rw [if_pos h1, if_pos ⟨h1.1, by omega⟩]
      · rw [if_neg h1, if_neg (by omega)])
  have e' := bigSep_take (M := 𝕄) (⟨hi, h⟩ : Fin 16)
    (fun b : Fin 16 => if lo ≤ b.val ∧ b.val < hi + 1 then BI.emp else home c blk X b)
  unfold homes
  rw [e, e']
  beta_reduce
  rw [if_neg (show ¬ (lo ≤ hi ∧ hi < hi) by omega), if_pos (show lo ≤ hi ∧ hi < hi + 1 from ⟨hl, by omega⟩)]
  iintro ⟨H, HR⟩
  isplitl [H]; · iexact H
  isplitr; · iempintro
  iexact HR

theorem homes_tail (lo hi : ℕ) (h : 16 ≤ hi) : (homes c blk X lo hi : sProp 𝕄) ⊢ homes c blk X lo (hi + 1) := by
  unfold homes
  refine bigSep_mono fun b _ => ?_
  have := b.isLt
  by_cases h1 : lo ≤ b.val
  · rw [if_pos ⟨h1, by omega⟩, if_pos ⟨h1, by omega⟩]; exact Idealize.SL.BI.Entails.refl _
  · rw [if_neg (by omega), if_neg (by omega)]; exact Idealize.SL.BI.Entails.refl _

theorem homes_in (lo hi : ℕ) (h : lo < 16) (hl : lo < hi) :
    iprop(home c blk X lo ∗ homes c blk X lo hi) ⊢ (homes c blk X (lo + 1) hi : sProp 𝕄) := by
  have e := bigSep_swap (M := 𝕄) (⟨lo, h⟩ : Fin 16)
    (Φ := fun b => if lo ≤ b.val ∧ b.val < hi then BI.emp else home c blk X b)
    (Ψ := fun b => if lo + 1 ≤ b.val ∧ b.val < hi then BI.emp else home c blk X b)
    (fun b hb => by
      have : b.val ≠ lo := fun h' => hb (Fin.ext h')
      by_cases h1 : lo ≤ b.val ∧ b.val < hi
      · rw [if_pos h1, if_pos ⟨by omega, by omega⟩]
      · rw [if_neg h1, if_neg (by omega)])
  have e' := bigSep_take (M := 𝕄) (⟨lo, h⟩ : Fin 16)
    (fun b : Fin 16 => if lo ≤ b.val ∧ b.val < hi then BI.emp else home c blk X b)
  unfold homes
  rw [e, e']
  beta_reduce
  rw [if_neg (show ¬ (lo + 1 ≤ lo ∧ lo < hi) by omega), if_pos (show lo ≤ lo ∧ lo < hi from ⟨by omega, hl⟩)]
  iintro ⟨H, HE, HR⟩
  isplitl [H]; · iexact H
  iexact HR

/-- Nothing out: every block home. -/
theorem homes_all (lo : ℕ) (h : lo = 0 ∨ 16 ≤ lo) :
    (homes c blk X lo lo : sProp 𝕄) = bigSep (Finset.univ : Finset (Fin 16)) fun b => home c blk X b := by
  unfold homes
  exact bigSep_congr fun b _ => if_neg (by omega)

/-- THE ISSUE, when there is a block to issue. -/
theorem wp_issue {src : Memref sig .tc .hbm s e} {dst : Memref sig .tc .vmem s e} {sm : SemLoc sig}
    {hsrc : src.view.WordExact} {hdst : dst.view.WordExact} {hsem : DmaTarget.Typed (nD := nD) (p := (c : Thread nD τ).2) Space.hbm sm (.here dst)}
    {kk : PUnit → Prog (TpuEff nD τ sig Val Λ .tc) α} (k : ℕ) (hk : k + 3 < 16) (h0 : 0 < s.numel)
    (hdma : ∀ p, ∃ d, cell p = .dma d)
    (hs : src = blk (k + 3)) (hd : dst = slot (k + 3)) (hm : sm = cell (k + 3)) :
    (ring EC c cell slot blk X k : sProp 𝕄)
      ⊢ iprop((mid EC c cell slot blk X k -∗ wp frame (wpE defs 𝒱 (c : Thread nD τ) bd) Set.univ (kk ⟨⟩) Q)
          -∗ wp frame (wpE defs 𝒱 (c : Thread nD τ) bd) Set.univ (.op (.enqueueDmaAs src (.here dst) .same sm hsrc hdst hsem) kk) Q) := by
  subst hs hd hm
  unfold ring mid free anyOf
  iintro ⟨HH, H0, H1, H2, ⟨%Y, HS⟩, HC⟩ HK
  ihave HH' := (homes_out c blk X k (k + 3) hk (by omega)) $$ HH
  icases HH' with ⟨HB, HH⟩
  unfold home
  iapply (dma_owns 𝒱 (c : Thread nD τ) bd EC () (slot (k + 3)).view.dmaCredit
    (by obtain ⟨d, hd⟩ := hdma (k + 3); rw [hd]) ((slot (k + 3)).view.dmaCredit_pos h0)) $$ [HB HS HC]
  · isplitl [HB]; · iexact HB
    isplitl [HS]; · iexact HS
    iexact HC
  iintro HF
  iapply HK
  isplitl [HH]; · iexact HH
  isplitl [H0]; · iexact H0
  isplitl [H1]; · iexact H1
  isplitl [H2]; · iexact H2
  unfold role
  rw [if_pos hk]
  unfold fly
  iexact HF

/-- An issue before the loop: the next block into a slot still free. -/
theorem wp_first {src : Memref sig .tc .hbm s e} {dst : Memref sig .tc .vmem s e} {sm : SemLoc sig}
    {hsrc : src.view.WordExact} {hdst : dst.view.WordExact} {hsem : DmaTarget.Typed (nD := nD) (p := (c : Thread nD τ).2) Space.hbm sm (.here dst)}
    {kk : PUnit → Prog (TpuEff nD τ sig Val Λ .tc) α} (p : ℕ) (hp : p < 16) (h0 : 0 < s.numel)
    (hdma : ∀ p, ∃ d, cell p = .dma d)
    (hs : src = blk p) (hd : dst = slot p) (hm : sm = cell p) :
    iprop(homes c blk X 0 p ∗ free c cell slot p : sProp 𝕄)
      ⊢ iprop((homes c blk X 0 (p + 1) ∗ role EC c cell slot blk X p -∗ wp frame (wpE defs 𝒱 (c : Thread nD τ) bd) Set.univ (kk ⟨⟩) Q)
          -∗ wp frame (wpE defs 𝒱 (c : Thread nD τ) bd) Set.univ (.op (.enqueueDmaAs src (.here dst) .same sm hsrc hdst hsem) kk) Q) := by
  subst hs hd hm
  unfold free anyOf
  iintro ⟨HH, ⟨%Y, HS⟩, HC⟩ HK
  ihave HH' := (homes_out c blk X 0 p hp (by omega)) $$ HH
  icases HH' with ⟨HB, HH⟩
  unfold home
  iapply (dma_owns 𝒱 (c : Thread nD τ) bd EC () (slot p).view.dmaCredit
    (by obtain ⟨d, hd⟩ := hdma p; rw [hd]) ((slot p).view.dmaCredit_pos h0)) $$ [HB HS HC]
  · isplitl [HB]; · iexact HB
    isplitl [HS]; · iexact HS
    iexact HC
  iintro HF
  iapply HK
  isplitl [HH]; · iexact HH
  unfold role
  rw [if_pos hp]
  unfold fly
  iexact HF

/-- After the last trip: every block home, every slot free. -/
theorem ring_last : (ring EC c cell slot blk X 16 : sProp 𝕄)
    ⊢ iprop(homes c blk X 0 0 ∗ free c cell slot 16 ∗ free c cell slot 17 ∗ free c cell slot 18 ∗ free c cell slot 19) := by
  have e : (homes c blk X 16 19 : sProp 𝕄) = homes c blk X 0 0 := by
    unfold homes
    exact bigSep_congr fun b _ => by have := b.isLt; rw [if_neg (by omega), if_neg (by omega)]
  unfold ring role
  rw [if_neg (by decide), if_neg (by decide), if_neg (by decide), e]

/-- With no block left nothing is issued. -/
theorem mid_of_ring (k : ℕ) (hk : 16 ≤ k + 3) : (ring EC c cell slot blk X k : sProp 𝕄) ⊢ mid EC c cell slot blk X k := by
  unfold ring mid
  iintro ⟨HH, H0, H1, H2, HS⟩
  isplitl [HH]; · iapply (homes_tail c blk X k (k + 3) hk) $$ HH
  isplitl [H0]; · iexact H0
  isplitl [H1]; · iexact H1
  isplitl [H2]; · iexact H2
  conv_rhs => unfold role
  rw [if_neg (by omega)]
  iexact HS

/-- THE WAIT: block `k` has landed. -/
theorem wp_got {sp sp' : Space} {s' s'' : Shape} {e' e'' : EltTy} {κ' : Kind} {sem : DmaSem sig}
    {srcw : Memref sig .tc sp' s' e'} {dstw : Memref sig κ' sp s'' e''} {hsrc : srcw.view.WordExact} {hdst : dstw.view.WordExact}
    {kk : PUnit → Prog (TpuEff nD τ sig Val Λ .tc) α} (k : ℕ) (hk : k < 16)
    (hm : cell k = .dma sem) (hN : dstw.view.dmaCredit = (slot k).view.dmaCredit) :
    iprop(mid EC c cell slot blk X k ∗ owesAny c : sProp 𝕄)
      ⊢ iprop(((got EC c cell slot blk X k ∗ owns (c : Thread nD τ) (slot k) fullShare (X k) ∗ owesAny c)
            -∗ wp frame (wpE defs 𝒱 (c : Thread nD τ) bd) Set.univ (kk ⟨⟩) Q)
          -∗ wp frame (wpE defs 𝒱 (c : Thread nD τ) bd) Set.univ (.op (.waitDma2 sem srcw dstw hsrc hdst) kk) Q) := by
  unfold mid got owesAny
  have e0 : (role EC c cell slot blk X k : sProp 𝕄) = Transfers.Flight EC (c : Thread nD τ) (.dma sem) () (slot k).view.dmaCredit
      iprop(owns (c : Thread nD τ) (slot k) fullShare (X k) ∗ owns (c : Thread nD τ) (blk k) fullShare (X k)) := by
    unfold role fly; rw [if_pos hk, hm]
  rw [e0]
  iintro ⟨⟨HH, H0, H1, H2, H3⟩, ⟨%W, HW⟩⟩ HK
  iapply (Transfers.wp_waitLocal EC 𝒱 (c : Thread nD τ) bd () hN) $$ [H0 HW]
  · isplitl [H0] <;> iassumption
  iintro ⟨⟨HS, HB⟩, HC, HW⟩
  iapply HK
  isplitr [HS HW]
  · isplitl [HH HB]
    · iapply (homes_in c blk X k (k + 4) hk (by omega))
      isplitl [HB]; · unfold home; iexact HB
      iexact HH
    isplitl [HC]; · rw [hm]; iexact HC
    isplitl [H1]; · iexact H1
    isplitl [H2]; · iexact H2
    iexact H3
  isplitl [HS]; · iexact HS
  iexists _; iexact HW

/-- The slot handed back: the ring before trip `k + 1`. -/
theorem ring_succ (k : ℕ) (hc : cell (k + 4) = cell k) (hs : slot (k + 4) = slot k) :
    iprop(got EC c cell slot blk X k ∗ owns (c : Thread nD τ) (slot k) fullShare (X k)) ⊢ (ring EC c cell slot blk X (k + 1) : sProp 𝕄) := by
  unfold ring got free anyOf
  rw [show k + 1 + 3 = k + 4 from rfl, hc, hs]
  iintro ⟨⟨HH, HC, H1, H2, H3⟩, HS⟩
  isplitl [HH]; · iexact HH
  isplitl [H1]; · iexact H1
  isplitl [H2]; · iexact H2
  isplitl [H3]; · iexact H3
  isplitl [HS]; · iexists _; iexact HS
  iexact HC

/-! ## The write ring -/

/-- Block `p` on its way out of the slot of position `p`. -/
def ofly (p : ℕ) : sProp 𝕄 :=
  Transfers.Flight EC (c : Thread nD τ) (cell p) () (blk p).view.dmaCredit
    iprop(owns (c : Thread nD τ) (blk p) fullShare (X p) ∗ owns (c : Thread nD τ) (slot p) fullShare (X p))

/-- The output's blocks: those below `lo` final, those from `hi` on at anything. -/
def oblocks (lo hi : ℕ) : sProp 𝕄 :=
  bigSep (Finset.univ : Finset (Fin 16)) fun b =>
    if b.val < lo then home c blk X b else if hi ≤ b.val then anyOf c (blk b) else BI.emp

/-- The write ring before trip `k`. -/
def oring (k : ℕ) : sProp 𝕄 :=
  iprop(oblocks c blk X (k - 1) k ∗ free c cell slot k
    ∗ (if k = 0 then free c cell slot (k + 1) else ofly EC c cell slot blk X (k - 1)))

/-- The write ring within trip `k`, after the issue. -/
def omid (k : ℕ) : sProp 𝕄 :=
  iprop(oblocks c blk X (k - 1) (k + 1) ∗ ofly EC c cell slot blk X k
    ∗ (if k = 0 then free c cell slot (k + 1) else ofly EC c cell slot blk X (k - 1)))

/-- The write ring within trip `k`, the slot of position `k` taken out to be written. -/
def oout (k : ℕ) : sProp 𝕄 :=
  iprop(oblocks c blk X (k - 1) k ∗ semVal ((c : Thread nD τ), cell k) 0
    ∗ (if k = 0 then free c cell slot (k + 1) else ofly EC c cell slot blk X (k - 1)))

theorem oblocks_out (lo hi : ℕ) (h : hi < 16) (hl : lo ≤ hi) :
    (oblocks c blk X lo hi : sProp 𝕄) ⊢ iprop(anyOf c (blk hi) ∗ oblocks c blk X lo (hi + 1)) := by
  have e := bigSep_swap (M := 𝕄) (⟨hi, h⟩ : Fin 16)
    (Φ := fun b => if b.val < lo then home c blk X b else if hi + 1 ≤ b.val then anyOf c (blk b) else BI.emp)
    (Ψ := fun b => if b.val < lo then home c blk X b else if hi ≤ b.val then anyOf c (blk b) else BI.emp)
    (fun b hb => by
      have : b.val ≠ hi := fun h' => hb (Fin.ext h')
      by_cases h1 : b.val < lo
      · rw [if_pos h1, if_pos h1]
      · rw [if_neg h1, if_neg h1]
        by_cases h2 : hi ≤ b.val
        · rw [if_pos h2, if_pos (by omega)]
        · rw [if_neg h2, if_neg (by omega)])
  have e' := bigSep_take (M := 𝕄) (⟨hi, h⟩ : Fin 16)
    (fun b : Fin 16 => if b.val < lo then home c blk X b else if hi + 1 ≤ b.val then anyOf c (blk b) else BI.emp)
  unfold oblocks
  rw [e, e']
  beta_reduce
  rw [if_neg (show ¬ hi < lo by omega), if_pos (show hi ≤ hi from le_rfl), if_neg (show ¬ hi < lo by omega), if_neg (show ¬ (hi + 1 ≤ hi) by omega)]
  iintro ⟨H, HR⟩
  isplitl [H]; · iexact H
  isplitr; · iempintro
  iexact HR

theorem oblocks_in (lo hi : ℕ) (h : lo < 16) (hl : lo < hi) :
    iprop(home c blk X lo ∗ oblocks c blk X lo hi) ⊢ (oblocks c blk X (lo + 1) hi : sProp 𝕄) := by
  have e := bigSep_swap (M := 𝕄) (⟨lo, h⟩ : Fin 16)
    (Φ := fun b => if b.val < lo then home c blk X b else if hi ≤ b.val then anyOf c (blk b) else BI.emp)
    (Ψ := fun b => if b.val < lo + 1 then home c blk X b else if hi ≤ b.val then anyOf c (blk b) else BI.emp)
    (fun b hb => by
      have : b.val ≠ lo := fun h' => hb (Fin.ext h')
      by_cases h1 : b.val < lo
      · rw [if_pos h1, if_pos (by omega)]
      · rw [if_neg h1, if_neg (show ¬ b.val < lo + 1 by omega)])
  have e' := bigSep_take (M := 𝕄) (⟨lo, h⟩ : Fin 16)
    (fun b : Fin 16 => if b.val < lo then home c blk X b else if hi ≤ b.val then anyOf c (blk b) else BI.emp)
  unfold oblocks
  rw [e, e']
  beta_reduce
  rw [if_pos (show lo < lo + 1 by omega), if_neg (show ¬ lo < lo by omega), if_neg (show ¬ (hi ≤ lo) by omega)]
  iintro ⟨H, HE, HR⟩
  isplitl [H]; · iexact H
  iexact HR

/-- Every block at anything, before the first trip; -/
theorem oblocks_none : (oblocks c blk X 0 0 : sProp 𝕄) = bigSep (Finset.univ : Finset (Fin 16)) fun b => anyOf c (blk b) := by
  unfold oblocks
  exact bigSep_congr fun b _ => by rw [if_neg (by omega), if_pos (by omega)]

/-- every block final, after the last. -/
theorem oblocks_all (hi : ℕ) : (oblocks c blk X 16 hi : sProp 𝕄) = bigSep (Finset.univ : Finset (Fin 16)) fun b => home c blk X b := by
  unfold oblocks
  exact bigSep_congr fun b _ => by rw [if_pos b.isLt]

/-- Taking the slot of trip `k` out to write it. -/
theorem oring_out (k : ℕ) : (oring EC c cell slot blk X k : sProp 𝕄) ⊢ iprop(oout EC c cell slot blk X k ∗ anyOf c (slot k)) := by
  unfold oring oout free
  iintro ⟨HH, ⟨HS, HC⟩, HP⟩
  isplitr [HS]
  · isplitl [HH]; · iexact HH
    isplitl [HC] <;> iassumption
  iexact HS

/-- THE ISSUE of block `k`, its slot at the block's values. -/
theorem wp_oissue {src : Memref sig .tc .vmem s e} {dst : Memref sig .tc .hbm s e} {sm : SemLoc sig}
    {hsrc : src.view.WordExact} {hdst : dst.view.WordExact} {hsem : DmaTarget.Typed (nD := nD) (p := (c : Thread nD τ).2) Space.vmem sm (.here dst)}
    {kk : PUnit → Prog (TpuEff nD τ sig Val Λ .tc) α} (k : ℕ) (hk : k < 16) (h0 : 0 < s.numel)
    (hdma : ∀ p, ∃ d, cell p = .dma d)
    (hs : src = slot k) (hd : dst = blk k) (hm : sm = cell k) :
    iprop(oout EC c cell slot blk X k ∗ owns (c : Thread nD τ) (slot k) fullShare (X k) : sProp 𝕄)
      ⊢ iprop((omid EC c cell slot blk X k -∗ wp frame (wpE defs 𝒱 (c : Thread nD τ) bd) Set.univ (kk ⟨⟩) Q)
          -∗ wp frame (wpE defs 𝒱 (c : Thread nD τ) bd) Set.univ (.op (.enqueueDmaAs src (.here dst) .same sm hsrc hdst hsem) kk) Q) := by
  subst hs hd hm
  unfold oout omid
  iintro ⟨⟨HH, HC, HP⟩, HS⟩ HK
  ihave HH' := (oblocks_out c blk X (k - 1) k hk (by omega)) $$ HH
  icases HH' with ⟨HB, HH⟩
  unfold anyOf
  icases HB with ⟨%Y, HB⟩
  iapply (dma_owns 𝒱 (c : Thread nD τ) bd EC () (blk k).view.dmaCredit
    (by obtain ⟨d, hd⟩ := hdma k; rw [hd]) ((blk k).view.dmaCredit_pos h0)) $$ [HB HS HC]
  · isplitl [HS]; · iexact HS
    isplitl [HB]; · iexact HB
    iexact HC
  iintro HF
  iapply HK
  isplitl [HH]; · iexact HH
  isplitl [HF]; · unfold ofly; iexact HF
  iexact HP

/-- THE WAIT for block `k - 1`: the ring before trip `k + 1`. -/
theorem wp_odone {sp sp' : Space} {s' s'' : Shape} {e' e'' : EltTy} {κ' : Kind} {sem : DmaSem sig}
    {srcw : Memref sig .tc sp' s' e'} {dstw : Memref sig κ' sp s'' e''} {hsrc : srcw.view.WordExact} {hdst : dstw.view.WordExact}
    {kk : PUnit → Prog (TpuEff nD τ sig Val Λ .tc) α} (k : ℕ) (hk : k < 16) (hk0 : k ≠ 0)
    (hm : cell (k - 1) = .dma sem) (hN : dstw.view.dmaCredit = (blk (k - 1)).view.dmaCredit)
    (hc : cell (k + 1) = cell (k - 1)) (hs : slot (k + 1) = slot (k - 1)) :
    iprop(omid EC c cell slot blk X k ∗ owesAny c : sProp 𝕄)
      ⊢ iprop(((oring EC c cell slot blk X (k + 1) ∗ owesAny c)
            -∗ wp frame (wpE defs 𝒱 (c : Thread nD τ) bd) Set.univ (kk ⟨⟩) Q)
          -∗ wp frame (wpE defs 𝒱 (c : Thread nD τ) bd) Set.univ (.op (.waitDma2 sem srcw dstw hsrc hdst) kk) Q) := by
  unfold omid oring owesAny
  rw [if_neg hk0, if_neg (by omega), show k + 1 - 1 = k from by omega]
  have e0 : (ofly EC c cell slot blk X (k - 1) : sProp 𝕄) = Transfers.Flight EC (c : Thread nD τ) (.dma sem) () (blk (k - 1)).view.dmaCredit
      iprop(owns (c : Thread nD τ) (blk (k - 1)) fullShare (X (k - 1)) ∗ owns (c : Thread nD τ) (slot (k - 1)) fullShare (X (k - 1))) := by
    unfold ofly; rw [hm]
  rw [e0]
  iintro ⟨⟨HH, HF, HP⟩, ⟨%W, HW⟩⟩ HK
  iapply (Transfers.wp_waitLocal EC 𝒱 (c : Thread nD τ) bd () hN) $$ [HP HW]
  · isplitl [HP] <;> iassumption
  iintro ⟨⟨HB, HS⟩, HC, HW⟩
  iapply HK
  isplitr [HW]
  · isplitl [HH HB]
    · have hin := oblocks_in (Lvl := Lvl) (U := U) (τ := τ) c blk X (k - 1) (k + 1) (by omega) (by omega)
      rw [show k - 1 + 1 = k from by omega] at hin
      iapply hin
      isplitl [HB]; · unfold home; iexact HB
      iexact HH
    isplitl [HS HC]
    · unfold free anyOf
      rw [hc, hs, hm]
      isplitl [HS]; · iexists _; iexact HS
      iexact HC
    iexact HF
  iexists _; iexact HW

/-- At the first trip there is nothing to wait for. -/
theorem oring_one : (omid EC c cell slot blk X 0 : sProp 𝕄) ⊢ oring EC c cell slot blk X 1 := by
  unfold omid oring
  rw [if_pos rfl, if_neg (by decide)]
  iintro ⟨HH, HF, HP⟩
  isplitl [HH]; · iexact HH
  isplitl [HP]; · iexact HP
  iexact HF

/-- After the last trip, THE WAIT for the last block: every block final, both slots free. -/
theorem wp_olast {sp sp' : Space} {s' s'' : Shape} {e' e'' : EltTy} {κ' : Kind} {sem : DmaSem sig}
    {srcw : Memref sig .tc sp' s' e'} {dstw : Memref sig κ' sp s'' e''} {hsrc : srcw.view.WordExact} {hdst : dstw.view.WordExact}
    {kk : PUnit → Prog (TpuEff nD τ sig Val Λ .tc) α}
    (hm : cell 15 = .dma sem) (hN : dstw.view.dmaCredit = (blk 15).view.dmaCredit) :
    iprop(oring EC c cell slot blk X 16 ∗ owesAny c : sProp 𝕄)
      ⊢ iprop((((bigSep (Finset.univ : Finset (Fin 16)) fun b => home c blk X b) ∗ free c cell slot 16 ∗ free c cell slot 15 ∗ owesAny c)
            -∗ wp frame (wpE defs 𝒱 (c : Thread nD τ) bd) Set.univ (kk ⟨⟩) Q)
          -∗ wp frame (wpE defs 𝒱 (c : Thread nD τ) bd) Set.univ (.op (.waitDma2 sem srcw dstw hsrc hdst) kk) Q) := by
  unfold oring owesAny
  rw [if_neg (by decide), show 16 - 1 = 15 from rfl]
  have e0 : (ofly EC c cell slot blk X 15 : sProp 𝕄) = Transfers.Flight EC (c : Thread nD τ) (.dma sem) () (blk 15).view.dmaCredit
      iprop(owns (c : Thread nD τ) (blk 15) fullShare (X 15) ∗ owns (c : Thread nD τ) (slot 15) fullShare (X 15)) := by
    unfold ofly; rw [hm]
  rw [e0]
  iintro ⟨⟨HH, HF, HP⟩, ⟨%W, HW⟩⟩ HK
  iapply (Transfers.wp_waitLocal EC 𝒱 (c : Thread nD τ) bd () hN) $$ [HP HW]
  · isplitl [HP] <;> iassumption
  iintro ⟨⟨HB, HS⟩, HC, HW⟩
  iapply HK
  isplitl [HH HB]
  · have hin := oblocks_in (Lvl := Lvl) (U := U) (τ := τ) c blk X 15 16 (by omega) (by omega)
    rw [oblocks_all] at hin
    iapply hin
    isplitl [HB]; · unfold home; iexact HB
    iexact HH
  isplitl [HF]; · iexact HF
  isplitl [HS HC]
  · unfold free anyOf
    rw [hm]
    isplitl [HS]; · iexists _; iexact HS
    iexact HC
  iexists _; iexact HW

end Cert.Proof.Rings
end
-- ==== Proof.Names.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Rings
public import Idealize.ShloMosaic.Lib.Ring.Trips

/-! # The rings of the pipeline, named by position

The pipeline walks 16 blocks of 1024 rows. Position `p` of an input ring is served by buffer slot `p mod 4`
and semaphore cell `p mod 4`; of the output ring by slot and cell `p mod 2`. Here are those slots, cells and
blocks as functions of the position, their periods, and the facts of the loop's own index words: what it
carries before trip `k`, and which of its conditions hold there. -/

@[expose] public section

noncomputable section

namespace Cert.Proof.Names

open Cert.KernelIdeal Cert.KernelIdeal.Gen
open Idealize.ShloMosaic
open Idealize.ShloMosaic.TcCoe

variable {F : FTy → Type} [FloatOps F]

/-! ## Slots, cells and blocks -/

/-- The slot a word picks. -/
abbrev at4 (w : BitVec 32) : ℕ := (Scalar.remui w 4#32).toNat
abbrev at2 (w : BitVec 32) : ℕ := (Scalar.remui w 2#32).toNat

theorem at4_lt (w : BitVec 32) : at4 w < 4 := by
  have h := Ring.remui_ofNat_eq_sl w.toNat 4 w.isLt (by decide)
  rw [BitVec.ofNat_toNat, BitVec.setWidth_eq] at h
  exact h.trans_lt (Ring.sl 4 w.toNat).isLt

theorem at2_lt (w : BitVec 32) : at2 w < 2 := by
  have h := Ring.remui_ofNat_eq_sl w.toNat 2 w.isLt (by decide)
  rw [BitVec.ofNat_toNat, BitVec.setWidth_eq] at h
  exact h.trans_lt (Ring.sl 2 w.toNat).isLt

theorem slot4_inb (w : BitVec 32) (n : ℕ) : ∀ a : Fin 3, (![at4 w, 0, 0] : Fin 3 → ℕ) a + (![1, 1024, n] : Fin 3 → ℕ) a ≤ (![4, 1024, n] : Fin 3 → ℕ) a := by
  intro a; have := at4_lt w
  fin_cases a <;> simp <;> omega

theorem slot2_inb (w : BitVec 32) (n : ℕ) : ∀ a : Fin 3, (![at2 w, 0, 0] : Fin 3 → ℕ) a + (![1, 1024, n] : Fin 3 → ℕ) a ≤ (![2, 1024, n] : Fin 3 → ℕ) a := by
  intro a; have := at2_lt w
  fin_cases a <;> simp <;> omega

/-- A slot of one of the three 512-wide input rings. -/
def slotN (a : Memref sig .tc .vmem S4x1024x512 .bf16) (w : BitVec 32) : Memref sig .tc .vmem S1024x512 .bf16 :=
  (a.slice (Rect.unit (s := S4x1024x512) ![at4 w, 0, 0] S1x1024x512.size (slot4_inb w 512)) (fun _ => rfl)).squeeze S1024x512 squeezes_S1x1024x512_S1024x512

/-- A slot of the 1024-wide input ring. -/
def slotW (a : Memref sig .tc .vmem S4x1024x1024 .f32) (w : BitVec 32) : Memref sig .tc .vmem S1024x1024 .f32 :=
  (a.slice (Rect.unit (s := S4x1024x1024) ![at4 w, 0, 0] S1x1024x1024.size (slot4_inb w 1024)) (fun _ => rfl)).squeeze S1024x1024 squeezes_S1x1024x1024_S1024x1024

/-- A slot of the output ring. -/
def slotO (a : Memref sig .tc .vmem S2x1024x1024 .f32) (w : BitVec 32) : Memref sig .tc .vmem S1024x1024 .f32 :=
  (a.slice (Rect.unit (s := S2x1024x1024) ![at2 w, 0, 0] S1x1024x1024.size (slot2_inb w 1024)) (fun _ => rfl)).squeeze S1024x1024 squeezes_S1x1024x1024_S1024x1024

/-- A cell of an input ring. -/
def cell4 (v : DmaSems sig S4) (w : BitVec 32) : DmaSem sig :=
  ((v.slice (Rect.unit (s := S4) ![at4 w] S1.size (fun a => by have := at4_lt w; fin_cases a; simp; omega))).squeeze S_ squeezes_S1_S_).sem

/-- A cell of the output ring. -/
def cell2 (v : DmaSems sig S2) (w : BitVec 32) : DmaSem sig :=
  ((v.slice (Rect.unit (s := S2) ![at2 w] S1.size (fun a => by have := at2_lt w; fin_cases a; simp; omega))).squeeze S_ squeezes_S1_S_).sem

theorem rows_inb (b n : ℕ) : ∀ a : Fin 2, (![1024 * (b % 16), 0] : Fin 2 → ℕ) a + (![1024, n] : Fin 2 → ℕ) a ≤ (![16384, n] : Fin 2 → ℕ) a := by
  intro a; have := Nat.mod_lt b (show 0 < 16 by decide)
  fin_cases a <;> simp <;> omega

/-- The rows of block `b` of a 512-wide array. -/
abbrev rowsN (b : ℕ) : Rect S16384x512 := Rect.unit (s := S16384x512) ![1024 * (b % 16), 0] S1024x512.size (rows_inb b 512)
/-- The rows of block `b` of a 1024-wide array. -/
abbrev rowsW (b : ℕ) : Rect S16384x1024 := Rect.unit (s := S16384x1024) ![1024 * (b % 16), 0] S1024x1024.size (rows_inb b 1024)

/-- Block `b` of a 512-wide array. -/
def blkN (m : Memref sig .tc .hbm S16384x512 .bf16) (b : ℕ) : Memref sig .tc .hbm S1024x512 .bf16 := m.slice (rowsN b) (fun _ => rfl)
/-- Block `b` of a 1024-wide array. -/
def blkW (m : Memref sig .tc .hbm S16384x1024 .f32) (b : ℕ) : Memref sig .tc .hbm S1024x1024 .f32 := m.slice (rowsW b) (fun _ => rfl)

/-- By position. -/
def cellI (v : DmaSems sig S4) (p : ℕ) : SemLoc sig := .dma (cell4 v (BitVec.ofNat 32 p))
def cellO (v : DmaSems sig S2) (p : ℕ) : SemLoc sig := .dma (cell2 v (BitVec.ofNat 32 p))
def slotsN (a : Memref sig .tc .vmem S4x1024x512 .bf16) (p : ℕ) := slotN a (BitVec.ofNat 32 p)
def slotsW (a : Memref sig .tc .vmem S4x1024x1024 .f32) (p : ℕ) := slotW a (BitVec.ofNat 32 p)
def slotsO (a : Memref sig .tc .vmem S2x1024x1024 .f32) (p : ℕ) := slotO a (BitVec.ofNat 32 p)

/-! ## Periods -/

theorem at4_eq (p : ℕ) (h : p < 2 ^ 32) : at4 (BitVec.ofNat 32 p) = p % 4 := by
  have h' := Ring.remui_ofNat_eq_sl p 4 h (by decide)
  exact h'.trans rfl
theorem at2_eq (p : ℕ) (h : p < 2 ^ 32) : at2 (BitVec.ofNat 32 p) = p % 2 := by
  have h' := Ring.remui_ofNat_eq_sl p 2 h (by decide)
  exact h'.trans rfl

section
variable {w w' : BitVec 32}
theorem slotN_congr (a) (h : at4 w = at4 w') : slotN a w = slotN a w' := by
  unfold slotN; rw [Memref.slice_unit_congr (s := S4x1024x512) (off' := ![at4 w', 0, 0]) _ (by rw [h]) _ (slot4_inb w' 512)]
theorem slotW_congr (a) (h : at4 w = at4 w') : slotW a w = slotW a w' := by
  unfold slotW; rw [Memref.slice_unit_congr (s := S4x1024x1024) (off' := ![at4 w', 0, 0]) _ (by rw [h]) _ (slot4_inb w' 1024)]
theorem slotO_congr (a) (h : at2 w = at2 w') : slotO a w = slotO a w' := by
  unfold slotO; rw [Memref.slice_unit_congr (s := S2x1024x1024) (off' := ![at2 w', 0, 0]) _ (by rw [h]) _ (slot2_inb w' 1024)]
theorem cell4_congr (v) (h : at4 w = at4 w') : cell4 v w = cell4 v w' := by
  unfold cell4; rw [SemArray.slice_unit_congr (s := S4) (off' := ![at4 w']) _ (by rw [h]) _ (fun a => by have := at4_lt w'; fin_cases a; simp; omega)]
theorem cell2_congr (v) (h : at2 w = at2 w') : cell2 v w = cell2 v w' := by
  unfold cell2; rw [SemArray.slice_unit_congr (s := S2) (off' := ![at2 w']) _ (by rw [h]) _ (fun a => by have := at2_lt w'; fin_cases a; simp; omega)]
end

theorem per4 (p : ℕ) (h : p < 16) : at4 (BitVec.ofNat 32 (p + 4)) = at4 (BitVec.ofNat 32 p) := by
  rw [at4_eq _ (by omega), at4_eq _ (by omega)]; omega
theorem per2 (p : ℕ) (h : p < 16) (h0 : p ≠ 0) : at2 (BitVec.ofNat 32 (p + 1)) = at2 (BitVec.ofNat 32 (p - 1)) := by
  rw [at2_eq _ (by omega), at2_eq _ (by omega)]; omega

/-! ## The words -/

/-- What the loop carries before trip `k`: for each input ring the next block to issue and the next to wait
for, for the output ring the next slot to fill and the next to wait for, and the grid point. -/
def accAt (k : ℕ) : BitVec 32 × BitVec 32 × BitVec 32 × BitVec 32 × BitVec 32 × BitVec 32 × BitVec 32 × BitVec 32 × BitVec 32 × BitVec 32 × BitVec 32 :=
  (BitVec.ofNat 32 (min (k+3) 16), BitVec.ofNat 32 k, BitVec.ofNat 32 (min (k+3) 16), BitVec.ofNat 32 k,
   BitVec.ofNat 32 (min (k+3) 16), BitVec.ofNat 32 k, BitVec.ofNat 32 (min (k+3) 16), BitVec.ofNat 32 k,
   BitVec.ofNat 32 k, BitVec.ofNat 32 (k-1), BitVec.ofNat 32 (k % 16))

local notation "T" => Fin k0_t1_loop.trips
/-- The word of the next block to issue. -/
abbrev wi (k : T) : BitVec 32 := BitVec.ofNat 32 (min (k.val+3) 16)
/-- The word of the block of trip `k`. -/
abbrev wk (k : T) : BitVec 32 := BitVec.ofNat 32 k.val
/-- The word of the block before. -/
abbrev wp (k : T) : BitVec 32 := BitVec.ofNat 32 (k.val - 1)
/-- The grid point's word. -/
abbrev wg (k : T) : BitVec 32 := BitVec.ofNat 32 (k.val % 16)

theorem trips_lt (k : T) : k.val < 16 := k.isLt

set_option maxRecDepth 65536 in
theorem chk1 : ∀ k : T, k0_chk1 k (wi k) (wk k) (wi k) (wk k) (wi k) (wk k) (wi k) (wk k) (wk k) (wp k) (wg k) := by decide +kernel
set_option maxRecDepth 65536 in
theorem chk2 : ∀ k : T, k0_chk2 (wk k) := by decide +kernel
set_option maxRecDepth 65536 in
theorem chk3 : ∀ k : T, k0_chk3 (wk k) := by decide +kernel
set_option maxRecDepth 65536 in
theorem chk4 : ∀ k : T, k0_chk4 (wk k) := by decide +kernel
set_option maxRecDepth 65536 in
theorem chk5 : ∀ k : T, k0_chk5 (wk k) := by decide +kernel
set_option maxRecDepth 65536 in
theorem chk6 : ∀ k : T, k0_chk6 (wk k) := by decide +kernel

set_option maxRecDepth 65536 in
theorem cond_issue : ∀ k : T, (k0_cond9 k (wg k) = 1#1 ↔ k.val + 3 < 16) ∧ (k0_cond10 k (wg k) = 1#1 ↔ k.val + 3 < 16)
    ∧ (k0_cond11 k (wg k) = 1#1 ↔ k.val + 3 < 16) ∧ (k0_cond12 k (wg k) = 1#1 ↔ k.val + 3 < 16) := by decide +kernel
set_option maxRecDepth 65536 in
theorem cond_wait : ∀ k : T, k0_cond13 k (wg k) = 1#1 ∧ k0_cond14 k (wg k) = 1#1
    ∧ k0_cond15 k (wg k) = 1#1 ∧ k0_cond16 k (wg k) = 1#1 ∧ k0_cond22 k (wg k) = 1#1 := by decide +kernel
set_option maxRecDepth 65536 in
theorem cond_done : ∀ k : T, (k0_cond27 k (wg k) = 1#1 ↔ k.val ≠ 0) := by decide +kernel

set_option maxRecDepth 65536 in
theorem offs : ∀ k : T, k.val + 3 < 16 → k0_off30 (wg k) = ![1024 * ((k.val + 3) % 16), 0] ∧ k0_off33 (wg k) = ![1024 * ((k.val + 3) % 16), 0]
    ∧ k0_off36 (wg k) = ![1024 * ((k.val + 3) % 16), 0] ∧ k0_off39 (wg k) = ![1024 * ((k.val + 3) % 16), 0] := by decide +kernel
set_option maxRecDepth 65536 in
theorem off62 : ∀ k : T, k0_off62 (wg k) = ![1024 * (k.val % 16), 0] := by decide +kernel

theorem wi_eq (k : T) (h : k.val + 3 < 16) : wi k = BitVec.ofNat 32 (k.val + 3) := by
  unfold wi; rw [min_eq_left (by omega)]

/-- A block under the offset the program computes. -/
theorem blkN_of (m : Memref sig .tc .hbm S16384x512 .bf16) {off : Fin 2 → ℕ} {b : ℕ} (h : off = ![1024 * (b % 16), 0])
    (p : ∀ a, off a + S1024x512.size a ≤ S16384x512.size a) (hs) :
    m.slice (Rect.unit (s := S16384x512) off S1024x512.size p) hs = blkN m b := by subst h; rfl
theorem blkW_of (m : Memref sig .tc .hbm S16384x1024 .f32) {off : Fin 2 → ℕ} {b : ℕ} (h : off = ![1024 * (b % 16), 0])
    (p : ∀ a, off a + S1024x1024.size a ≤ S16384x1024.size a) (hs) :
    m.slice (Rect.unit (s := S16384x1024) off S1024x1024.size p) hs = blkW m b := by subst h; rfl

/-- Every block of an array takes as long to copy as any other. -/
theorem credit_blkW (m : Memref sig .tc .hbm S16384x1024 .f32) {off : Fin 2 → ℕ} (b : ℕ)
    (p : ∀ a, off a + S1024x1024.size a ≤ S16384x1024.size a) (hs) :
    (m.slice (Rect.unit (s := S16384x1024) off S1024x1024.size p) hs).view.dmaCredit = (blkW m b).view.dmaCredit := rfl

/-- A slot or a cell under the offset the program computes. -/
theorem slotsN_of (a : Memref sig .tc .vmem S4x1024x512 .bf16) {off : Fin 3 → ℕ} {p : ℕ} (h : off = ![at4 (BitVec.ofNat 32 p), 0, 0])
    (inb : ∀ a, off a + S1x1024x512.size a ≤ S4x1024x512.size a) (hs) (hq) :
    (a.slice (Rect.unit (s := S4x1024x512) off S1x1024x512.size inb) hs).squeeze S1024x512 hq = slotsN a p := by subst h; rfl
theorem slotsW_of (a : Memref sig .tc .vmem S4x1024x1024 .f32) {off : Fin 3 → ℕ} {p : ℕ} (h : off = ![at4 (BitVec.ofNat 32 p), 0, 0])
    (inb : ∀ a, off a + S1x1024x1024.size a ≤ S4x1024x1024.size a) (hs) (hq) :
    (a.slice (Rect.unit (s := S4x1024x1024) off S1x1024x1024.size inb) hs).squeeze S1024x1024 hq = slotsW a p := by subst h; rfl
theorem cellI_of (v : DmaSems sig S4) {off : Fin 1 → ℕ} {p : ℕ} (h : off = ![at4 (BitVec.ofNat 32 p)])
    (inb : ∀ a, off a + S1.size a ≤ S4.size a) (hq) :
    SemLoc.dma ((v.slice (Rect.unit (s := S4) off S1.size inb)).squeeze S_ hq).sem = cellI v p := by subst h; rfl

/-- The conditions before the loop hold: there are blocks 1 and 2. -/
theorem cond_first : k0_cond1 = 1#1 ∧ k0_cond2 = 1#1 ∧ k0_cond3 = 1#1 ∧ k0_cond4 = 1#1
    ∧ k0_cond5 = 1#1 ∧ k0_cond6 = 1#1 ∧ k0_cond7 = 1#1 ∧ k0_cond8 = 1#1 := by decide +kernel

/-- What the words assumed after the loop name is there. -/
theorem chk8 : k0_chk8 (BitVec.ofNat 32 (16 % 16)) := by decide +kernel
theorem chk7 : k0_chk7 (BitVec.ofNat 32 (16 - 1)) := by decide +kernel

theorem slotsN_next (a) (k : T) (h : k.val + 3 < 16) : slotN a (wi k) = slotsN a (k.val + 3) := by rw [wi_eq k h]; rfl
theorem slotsW_next (a) (k : T) (h : k.val + 3 < 16) : slotW a (wi k) = slotsW a (k.val + 3) := by rw [wi_eq k h]; rfl
theorem cellI_next (v) (k : T) (h : k.val + 3 < 16) : SemLoc.dma (cell4 v (wi k)) = cellI v (k.val + 3) := by rw [wi_eq k h]; rfl

theorem cellI_dma (v : DmaSems sig S4) (p : ℕ) : ∃ d, cellI v p = .dma d := ⟨_, rfl⟩
theorem cellO_dma (v : DmaSems sig S2) (p : ℕ) : ∃ d, cellO v p = .dma d := ⟨_, rfl⟩

theorem cellI_per (v) (p : ℕ) (h : p < 16) : cellI v (p + 4) = cellI v p := congrArg SemLoc.dma (cell4_congr v (per4 p h))
theorem slotsN_per (a) (p : ℕ) (h : p < 16) : slotsN a (p + 4) = slotsN a p := slotN_congr a (per4 p h)
theorem slotsW_per (a) (p : ℕ) (h : p < 16) : slotsW a (p + 4) = slotsW a p := slotW_congr a (per4 p h)
theorem cellO_per (v) (p : ℕ) (h : p < 16) (h0 : p ≠ 0) : cellO v (p + 1) = cellO v (p - 1) := congrArg SemLoc.dma (cell2_congr v (per2 p h h0))
theorem slotsO_per (a) (p : ℕ) (h : p < 16) (h0 : p ≠ 0) : slotsO a (p + 1) = slotsO a (p - 1) := slotO_congr a (per2 p h h0)

end Cert.Proof.Names
end
-- ==== Proof.Issue.lean ====
module

public import proofs.«01_k».proof.Proof.Names

/-! # A trip's issues

The second and third stages of a trip's text: while there is a block three ahead, its four copies are enqueued;
the third then waits for the four copies of the trip's own block. -/

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Rules Cert.Proof.Rings Cert.Proof.Names

variable {F : FTy → Type} [FloatOps F]

abbrev UU : Type := Pipeline.UD sig nD τ
local notation "𝕄" => MT nD τ sig Unit (Elt F) ℕ UU ℕ
abbrev 𝒱₀ : Variants := Variants.none
/-- The counters the flights are kept by. -/
abbrev EC : UEmb Counters (MT nD τ sig Unit (Elt F) ℕ UU ℕ) := countersEmb
local notation "T" => Fin k0_t1_loop.trips

variable (c : Dev nD)
variable (arg0 : Memref sig .tc .hbm S16384x512 .bf16) (harg0 : arg0.IsWhole) (arg1 : Memref sig .tc .vmem S1x512 .f32) (harg1 : arg1.IsWhole) (arg2 : Memref sig .tc .vmem S1x512
  .f32) (harg2 : arg2.IsWhole) (arg3 : Memref sig .tc .hbm S16384x512 .bf16) (harg3 : arg3.IsWhole) (arg4 : Memref sig .tc .vmem S1x512x512 .f32) (harg4 : arg4.IsWhole)
  (arg5 : Memref sig .tc .vmem S1x512 .f32) (harg5 : arg5.IsWhole) (arg6 : Memref sig .tc .hbm S16384x512 .bf16) (harg6 : arg6.IsWhole) (arg7 : Memref sig .tc .vmem
  S1x1024x1024 .f32) (harg7 : arg7.IsWhole) (arg8 : Memref sig .tc .hbm S16384x1024 .f32) (harg8 : arg8.IsWhole) (arg9 : Memref sig .tc .vmem S1x1024 .f32) (harg9 :
  arg9.IsWhole) (arg10 : Memref sig .tc .hbm S16384x1024 .f32) (harg10 : arg10.IsWhole) (arg11 : Memref sig .tc .vmem S512x512 .bf16) (harg11 : arg11.IsWhole) (arg12 :
  Memref sig .tc .vmem S1024x1024 .bf16) (harg12 : arg12.IsWhole) (alloca : Memref sig .tc .vmem S4x1024x512 .bf16) (halloca : alloca.IsWhole) (v12 : DmaSems sig S4)
  (alloca_9 : Memref sig .tc .vmem S4x1024x512 .bf16) (halloca_9 : alloca_9.IsWhole) (v13 : DmaSems sig S4) (alloca_10 : Memref sig .tc .vmem S4x1024x512 .bf16) (halloca_10
  : alloca_10.IsWhole) (v14 : DmaSems sig S4) (alloca_11 : Memref sig .tc .vmem S4x1024x1024 .f32) (halloca_11 : alloca_11.IsWhole) (v15 : DmaSems sig S4) (alloca_12 :
  Memref sig .tc .vmem S2x1024x1024 .f32) (halloca_12 : alloca_12.IsWhole) (v16 : DmaSems sig S2)

variable (X0 X3 X6 : ℕ → S1024x512.Idx → Elt F .bf16) (X8 : ℕ → S1024x1024.Idx → Elt F .f32)

theorem part2_run (k : T) (a13 a b d : BitVec 32) (e : BitVec 1) (z : BitVec 32)
    {Q : (Σ' (_ : BitVec 32) (_ : BitVec 32) (_ : BitVec 32), BitVec 1) → sProp 𝕄} :
    iprop(ring EC c (cellI v12) (slotsN alloca) (blkN arg0) X0 k.val ∗ ring EC c (cellI v13) (slotsN alloca_9) (blkN arg3) X3 k.val
        ∗ ring EC c (cellI v14) (slotsN alloca_10) (blkN arg6) X6 k.val)
      ⊢ iprop((mid EC c (cellI v12) (slotsN alloca) (blkN arg0) X0 k.val ∗ mid EC c (cellI v13) (slotsN alloca_9) (blkN arg3) X3 k.val
          ∗ mid EC c (cellI v14) (slotsN alloca_10) (blkN arg6) X6 k.val
        -∗ Q (let g := Scalar.andi (Scalar.cmpi .ne a b) (Scalar.xori (Scalar.cmpi .sge a13 13#32) 1#1)
          ⟨Scalar.select (Scalar.andi g 1#1) (Scalar.addi (wi k) 1#32) (wi k), Scalar.select (Scalar.andi g 1#1) (Scalar.addi (wi k) 1#32) (wi k),
            Scalar.select (Scalar.andi g 1#1) (Scalar.addi (wi k) 1#32) (wi k), g⟩))
      -∗ wp frame (wpE (defs₀ (F := F)) 𝒱₀ (c : Thread nD τ) none) Set.univ
        (k0_part2 (F := F) arg0 harg0 arg1 harg1 arg2 harg2 arg3 harg3 arg4 harg4 arg5 harg5 arg6 harg6 arg7 harg7 arg8 harg8 arg9 harg9 arg10 harg10 arg11
          harg11 arg12 harg12 alloca halloca v12 alloca_9 halloca_9 v13 alloca_10 halloca_10 v14 alloca_11 halloca_11 v15 alloca_12 halloca_12 v16 k (wi k) (wk
          k) (wi k) (wk k) (wi k) (wk k) (wi k) (wk k) (wk k) (wp k) (wg k) (chk1 k) a13 a b d e z) Q) := by
  obtain ⟨c9, c10, c11, -⟩ := cond_issue k
  by_cases hk : k.val + 3 < 16
  · have h9 := c9.mpr hk
    have h10 := c10.mpr hk
    have h11 := c11.mpr hk
    obtain ⟨o1, o2, o3, -⟩ := offs k hk
    iintro ⟨R0, R3, R6⟩ HQ
    rw [k0_part2_eq_skeleton]
    sl_unfold [k0_part2_skel]
    sl_exec
    iapply (wp_issue EC 𝒱₀ c none (cellI v12) (slotsN alloca) (blkN arg0) X0 k.val hk (by decide) (cellI_dma v12)
      (blkN_of arg0 o1 _ _) (slotsN_next alloca k hk) (cellI_next v12 k hk)) $$ R0
    iintro R0
    sl_exec
    iapply (wp_issue EC 𝒱₀ c none (cellI v13) (slotsN alloca_9) (blkN arg3) X3 k.val hk (by decide) (cellI_dma v13)
      (blkN_of arg3 o2 _ _) (slotsN_next alloca_9 k hk) (cellI_next v13 k hk)) $$ R3
    iintro R3
    sl_exec
    iapply (wp_issue EC 𝒱₀ c none (cellI v14) (slotsN alloca_10) (blkN arg6) X6 k.val hk (by decide) (cellI_dma v14)
      (blkN_of arg6 o3 _ _) (slotsN_next alloca_10 k hk) (cellI_next v14 k hk)) $$ R6
    iintro R6
    sl_exec
    rw [wp_ret]; imodintro
    sl_unfold_words
    iapply HQ
    isplitl [R0]; · iexact R0
    isplitl [R3]; · iexact R3
    iexact R6
  · have h9 := mt c9.mp hk
    have h10 := mt c10.mp hk
    have h11 := mt c11.mp hk
    iintro ⟨R0, R3, R6⟩ HQ
    sl_unfold [k0_part2]
    sl_exec
    rw [wp_ret]; imodintro
    sl_unfold_words
    iapply HQ
    isplitl [R0]; · iapply (mid_of_ring EC c _ _ _ _ k.val (by omega)) $$ R0
    isplitl [R3]; · iapply (mid_of_ring EC c _ _ _ _ k.val (by omega)) $$ R3
    iapply (mid_of_ring EC c _ _ _ _ k.val (by omega)) $$ R6

theorem part3_run (k : T) (a13 : BitVec 32) (g : BitVec 1) (a b d e : BitVec 32) (h : BitVec 1)
    {Q : (Σ' (_ : BitVec 32) (_ : BitVec 32), BitVec 32) → sProp 𝕄} :
    iprop(mid EC c (cellI v12) (slotsN alloca) (blkN arg0) X0 k.val ∗ mid EC c (cellI v13) (slotsN alloca_9) (blkN arg3) X3 k.val
          ∗ mid EC c (cellI v14) (slotsN alloca_10) (blkN arg6) X6 k.val ∗ ring EC c (cellI v15) (slotsW alloca_11) (blkW arg8) X8 k.val ∗ owesAny c)
      ⊢ iprop((got EC c (cellI v12) (slotsN alloca) (blkN arg0) X0 k.val ∗ got EC c (cellI v13) (slotsN alloca_9) (blkN arg3) X3 k.val
          ∗ got EC c (cellI v14) (slotsN alloca_10) (blkN arg6) X6 k.val ∗ got EC c (cellI v15) (slotsW alloca_11) (blkW arg8) X8 k.val
          ∗ owns (c : Thread nD τ) (slotsN alloca k.val) fullShare (X0 k.val) ∗ owns (c : Thread nD τ) (slotsN alloca_9 k.val) fullShare (X3 k.val)
          ∗ owns (c : Thread nD τ) (slotsN alloca_10 k.val) fullShare (X6 k.val) ∗ owns (c : Thread nD τ) (slotsW alloca_11 k.val) fullShare (X8 k.val)
          ∗ owesAny c
        -∗ Q ⟨Scalar.select (Scalar.andi h 1#1) (Scalar.addi (wi k) 1#32) (wi k),
            Scalar.extui (Scalar.andi (Scalar.ori (Scalar.cmpi .ne a b) g) (Scalar.cmpi .sge a13 0#32)), 0#32⟩)
      -∗ wp frame (wpE (defs₀ (F := F)) 𝒱₀ (c : Thread nD τ) none) Set.univ
        (k0_part3 (F := F) arg0 harg0 arg1 harg1 arg2 harg2 arg3 harg3 arg4 harg4 arg5 harg5 arg6 harg6 arg7 harg7 arg8 harg8 arg9 harg9 arg10 harg10 arg11
          harg11 arg12 harg12 alloca halloca v12 alloca_9 halloca_9 v13 alloca_10 halloca_10 v14 alloca_11 halloca_11 v15 alloca_12 halloca_12 v16 k (wi k) (wk
          k) (wi k) (wk k) (wi k) (wk k) (wi k) (wk k) (wk k) (wp k) (wg k) (chk1 k) a13 g a b d e h) Q) := by
  obtain ⟨-, -, -, c12⟩ := cond_issue k
  obtain ⟨h13, h14, h15, h16, -⟩ := cond_wait k
  by_cases hk : k.val + 3 < 16
  · have h12 := c12.mpr hk
    obtain ⟨-, -, -, o4⟩ := offs k hk
    iintro ⟨R0, R3, R6, R8, HO⟩ HQ
    sl_unfold [k0_part3]
    sl_exec
    iapply (wp_issue EC 𝒱₀ c none (cellI v15) (slotsW alloca_11) (blkW arg8) X8 k.val hk (by decide) (cellI_dma v15)
      (blkW_of arg8 o4 _ _) (slotsW_next alloca_11 k hk) (cellI_next v15 k hk)) $$ R8
    iintro R8
    sl_exec
    iapply (wp_got EC 𝒱₀ c none (cellI v12) (slotsN alloca) (blkN arg0) X0 k.val (trips_lt k) rfl rfl) $$ [R0 HO]
    · isplitl [R0] <;> iassumption
    iintro ⟨R0, S0, HO⟩
    sl_exec
    iapply (wp_got EC 𝒱₀ c none (cellI v13) (slotsN alloca_9) (blkN arg3) X3 k.val (trips_lt k) rfl rfl) $$ [R3 HO]
    · isplitl [R3] <;> iassumption
    iintro ⟨R3, S3, HO⟩
    sl_exec
    iapply (wp_got EC 𝒱₀ c none (cellI v14) (slotsN alloca_10) (blkN arg6) X6 k.val (trips_lt k) rfl rfl) $$ [R6 HO]
    · isplitl [R6] <;> iassumption
    iintro ⟨R6, S6, HO⟩
    sl_exec
    iapply (wp_got EC 𝒱₀ c none (cellI v15) (slotsW alloca_11) (blkW arg8) X8 k.val (trips_lt k) rfl rfl) $$ [R8 HO]
    · isplitl [R8] <;> iassumption
    iintro ⟨R8, S8, HO⟩
    sl_exec
    rw [wp_ret]; imodintro
    sl_unfold_words
    iapply HQ
    isplitl [R0]; · iexact R0
    isplitl [R3]; · iexact R3
    isplitl [R6]; · iexact R6
    isplitl [R8]; · iexact R8
    isplitl [S0]; · iexact S0
    isplitl [S3]; · iexact S3
    isplitl [S6]; · iexact S6
    isplitl [S8]; · iexact S8
    iexact HO
  · have h12 := mt c12.mp hk
    iintro ⟨R0, R3, R6, R8, HO⟩ HQ
    ihave R8 := (mid_of_ring EC c (cellI v15) (slotsW alloca_11) (blkW arg8) X8 k.val (by omega)) $$ R8
    sl_unfold [k0_part3]
    sl_exec
    iapply (wp_got EC 𝒱₀ c none (cellI v12) (slotsN alloca) (blkN arg0) X0 k.val (trips_lt k) rfl rfl) $$ [R0 HO]
    · isplitl [R0] <;> iassumption
    iintro ⟨R0, S0, HO⟩
    sl_exec
    iapply (wp_got EC 𝒱₀ c none (cellI v13) (slotsN alloca_9) (blkN arg3) X3 k.val (trips_lt k) rfl rfl) $$ [R3 HO]
    · isplitl [R3] <;> iassumption
    iintro ⟨R3, S3, HO⟩
    sl_exec
    iapply (wp_got EC 𝒱₀ c none (cellI v14) (slotsN alloca_10) (blkN arg6) X6 k.val (trips_lt k) rfl rfl) $$ [R6 HO]
    · isplitl [R6] <;> iassumption
    iintro ⟨R6, S6, HO⟩
    sl_exec
    iapply (wp_got EC 𝒱₀ c none (cellI v15) (slotsW alloca_11) (blkW arg8) X8 k.val (trips_lt k) rfl rfl) $$ [R8 HO]
    · isplitl [R8] <;> iassumption
    iintro ⟨R8, S8, HO⟩
    sl_exec
    rw [wp_ret]; imodintro
    sl_unfold_words
    iapply HQ
    isplitl [R0]; · iexact R0
    isplitl [R3]; · iexact R3
    isplitl [R6]; · iexact R6
    isplitl [R8]; · iexact R8
    isplitl [S0]; · iexact S0
    isplitl [S3]; · iexact S3
    isplitl [S6]; · iexact S6
    isplitl [S8]; · iexact S8
    iexact HO

/-- The last stage of a trip: from the second trip on, the wait for the result block of the trip before. -/
theorem part9_run (Y : ℕ → S1024x1024.Idx → Elt F .f32) (k : T) (g g1 : BitVec 1) (a b d : BitVec 32) (h h1 : BitVec 1)
    {Q : (Σ' (_ : BitVec 32) (_ : BitVec 32), BitVec 32) → sProp 𝕄} :
    iprop(omid EC c (cellO v16) (slotsO alloca_12) (blkW arg10) Y k.val ∗ owesAny c)
      ⊢ iprop((oring EC c (cellO v16) (slotsO alloca_12) (blkW arg10) Y (k.val + 1) ∗ owesAny c
        -∗ Q ⟨Scalar.select (Scalar.andi (Scalar.andi (Scalar.cmpi .ne a b) (Scalar.xori g 1#1)) 1#1) (Scalar.addi (wp k) 1#32) (wp k),
            Scalar.select (Scalar.ori (Scalar.cmpi .ne a d) g1) (Scalar.addi (wk k) 1#32) (wk k),
            Scalar.select (Scalar.ori (Scalar.cmpi .ne a d) g1) (Scalar.addi (wk k) 1#32) (wk k)⟩)
      -∗ wp frame (wpE (defs₀ (F := F)) 𝒱₀ (c : Thread nD τ) none) Set.univ
        (k0_part9 (F := F) arg0 harg0 arg1 harg1 arg2 harg2 arg3 harg3 arg4 harg4 arg5 harg5 arg6 harg6 arg7 harg7 arg8 harg8 arg9 harg9 arg10 harg10 arg11
          harg11 arg12 harg12 alloca halloca v12 alloca_9 halloca_9 v13 alloca_10 halloca_10 v14 alloca_11 halloca_11 v15 alloca_12 halloca_12 v16 k (wi k) (wk
          k) (wi k) (wk k) (wi k) (wk k) (wi k) (wk k) (wk k) (wp k) (wg k) (chk1 k) g g1 a b d h h1) Q) := by
  by_cases hk : k.val = 0
  · have h27 := mt (cond_done k).mp (not_not.mpr hk)
    iintro ⟨R, HO⟩ HQ
    sl_unfold [k0_part9]
    sl_exec
    simp only [ite_self]
    sl_exec
    rw [wp_ret]; imodintro
    sl_unfold_words
    iapply HQ
    rw [hk]
    isplitl [R]; · iapply (oring_one EC c _ _ _ _) $$ R
    iexact HO
  · have h27 := (cond_done k).mpr hk
    iintro ⟨R, HO⟩ HQ
    sl_unfold [k0_part9]
    sl_exec
    simp only [ite_self]
    iapply (wp_odone EC 𝒱₀ c none (cellO v16) (slotsO alloca_12) (blkW arg10) Y k.val (trips_lt k) hk rfl (credit_blkW arg10 _ _ _)
      (cellO_per v16 k.val (trips_lt k) hk) (slotsO_per alloca_12 k.val (trips_lt k) hk)) $$ [R HO]
    · isplitl [R] <;> iassumption
    iintro ⟨R, HO⟩
    sl_exec
    rw [wp_ret]; imodintro
    sl_unfold_words
    iapply HQ
    isplitl [R] <;> iassumption

end Cert.Proof.Run
end
-- ==== Proof.Values.lean ====
module

public import proofs.«01_k».proof.Proof.Names

/-! # What a trip writes

A trip handles the 1024 rows of its block in two halves of 512 rows. Each half is the same computation on its
rows of the four input blocks; the result block is the two halves one over the other. -/

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Rules Cert.Proof.Rings Cert.Proof.Names

variable {F : FTy → Type} [FloatOps F]

/-- The two halves' rows of a 512-wide block. -/
abbrev loN : Rect S1024x512 := Rect.unit (s := S1024x512) ![0, 0] S512x512.size inb_S1024x512_S512x512_0_0
abbrev hiN : Rect S1024x512 := Rect.unit (s := S1024x512) ![512, 0] S512x512.size inb_S1024x512_S512x512_512_0
/-- The two halves' rows of a 1024-wide block. -/
abbrev loW : Rect S1024x1024 := Rect.unit (s := S1024x1024) ![0, 0] S512x1024.size inb_S1024x1024_S512x1024_0_0
abbrev hiW : Rect S1024x1024 := Rect.unit (s := S1024x1024) ![512, 0] S512x1024.size inb_S1024x1024_S512x1024_512_0
/-- The windows whole. -/
abbrev allG : Rect S1x512 := Rect.unit (s := S1x512) ![0, 0] S1x512.size inb_S1x512_S1x512_0_0
abbrev allF : Rect S1x1024 := Rect.unit (s := S1x1024) ![0, 0] S1x1024.size inb_S1x1024_S1x1024_0_0
abbrev allP : Rect S512x512 := Rect.unit (s := S512x512) ![0, 0] S512x512.size inb_S512x512_S512x512_0_0

section
variable (V1 V2 V5 : S1x512.Idx → Elt F .f32) (V9 : S1x1024.Idx → Elt F .f32)
  (W11 : S512x512.Idx → Elt F .bf16) (W12 : S1024x1024.Idx → Elt F .bf16)
  (x0 x3 x6 : S1024x512.Idx → Elt F .bf16) (x8 : S1024x1024.Idx → Elt F .f32)

/-- The first half of a trip's result. -/
def halfLo : Vec F S512x1024 .f32 :=
  k0_pay3 (k0_pay2 (k0_pay1 (View.ld x0 loN) (View.ld V1 allG) (View.ld V2 allG) (View.ld W11 allP))
    (View.ld V5 allG) (View.ld x3 loN) (View.ld W12 loW) (View.ld x6 loN) (View.ld W12 hiW) (View.ld x8 loW)) (View.ld V9 allF)

/-- The second half. -/
def halfHi : Vec F S512x1024 .f32 :=
  k0_pay6 (k0_pay5 (k0_pay4 (View.ld x0 hiN) (View.ld V1 allG) (View.ld V2 allG)) (View.ld W11 allP) (constant S512x512 .f32 0x00000000#32)
    (View.ld V5 allG) (View.ld x3 hiN) (View.ld W12 loW) (View.ld x6 hiN) (View.ld W12 hiW) (View.ld x8 hiW)) (View.ld V9 allF)

/-- The result block: the first half's rows, then the second's. -/
def outBlk : S1024x1024.Idx → Elt F .f32 :=
  hiW.overlay (loW.overlay x8 (halfLo V1 V2 V5 V9 W11 W12 x0 x3 x6 x8)) (halfHi V1 V2 V5 V9 W11 W12 x0 x3 x6 x8)
end

theorem emb_of_mem {sh : Shape} (r : Rect sh) {i : sh.Idx} (h : i ∈ r.set) : ∃ j, r.emb j = i := by
  rw [← r.map_emb_univ, Finset.mem_map] at h
  obtain ⟨j, -, hj⟩ := h
  exact ⟨j, hj⟩

theorem mem_loW (i : S1024x1024.Idx) (h : (i 0).val < 512) : i ∈ loW.set := by
  rw [Rect.mem_set_unit]
  exact Fin.forall_fin_two.mpr ⟨⟨Nat.zero_le _, by show (i 0).val < 0 + 512; omega⟩, Nat.zero_le _, by have : (i 1).val < 1024 := (i 1).isLt; show (i 1).val < 0 + 1024; omega⟩

theorem mem_hiW (i : S1024x1024.Idx) (h : 512 ≤ (i 0).val) : i ∈ hiW.set := by
  rw [Rect.mem_set_unit]
  exact Fin.forall_fin_two.mpr ⟨⟨h, by have : (i 0).val < 1024 := (i 0).isLt; show (i 0).val < 512 + 512; omega⟩, Nat.zero_le _, by have : (i 1).val < 1024 := (i 1).isLt; show (i 1).val < 0 + 1024; omega⟩

/-- What lay in the slot before does not matter: the two halves are all its rows. -/
theorem overlay_halves (Y Y' : S1024x1024.Idx → Elt F .f32) (a b : Vec F S512x1024 .f32) :
    hiW.overlay (loW.overlay Y a) b = hiW.overlay (loW.overlay Y' a) b := by
  funext i
  by_cases hm : i ∈ hiW.set
  · obtain ⟨j, rfl⟩ := emb_of_mem hiW hm
    rw [Rect.overlay_emb, Rect.overlay_emb]
  · have hlt : (i 0).val < 512 := by by_contra hc; exact hm (mem_hiW i (by omega))
    rw [Rect.overlay_of_not_mem _ _ _ hm, Rect.overlay_of_not_mem _ _ _ hm]
    obtain ⟨j, rfl⟩ := emb_of_mem loW (mem_loW i hlt)
    rw [Rect.overlay_emb, Rect.overlay_emb]

end Cert.Proof.Run
end
-- ==== Proof.Trip.lean ====
module

public import proofs.«01_k».proof.Proof.Issue
public import proofs.«01_k».proof.Proof.Values

/-! # One trip of the pipeline

Before trip `k` the four input rings stand at `k` (three blocks on their way, one slot free), the output ring
at `k` (the block of the trip before on its way out). The trip issues the copies three blocks ahead, waits for
its own blocks, computes the result block into the output slot, sends it, and waits for the one before. -/

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Rules Cert.Proof.Rings Cert.Proof.Names

variable {F : FTy → Type} [FloatOps F]

local notation "𝕄" => MT nD τ sig Unit (Elt F) ℕ UU ℕ
local notation "T" => Fin k0_t1_loop.trips

variable (c : Dev nD)
variable (arg0 : Memref sig .tc .hbm S16384x512 .bf16) (harg0 : arg0.IsWhole) (arg1 : Memref sig .tc .vmem S1x512 .f32) (harg1 : arg1.IsWhole) (arg2 : Memref sig .tc .vmem S1x512
  .f32) (harg2 : arg2.IsWhole) (arg3 : Memref sig .tc .hbm S16384x512 .bf16) (harg3 : arg3.IsWhole) (arg4 : Memref sig .tc .vmem S1x512x512 .f32) (harg4 : arg4.IsWhole)
  (arg5 : Memref sig .tc .vmem S1x512 .f32) (harg5 : arg5.IsWhole) (arg6 : Memref sig .tc .hbm S16384x512 .bf16) (harg6 : arg6.IsWhole) (arg7 : Memref sig .tc .vmem
  S1x1024x1024 .f32) (harg7 : arg7.IsWhole) (arg8 : Memref sig .tc .hbm S16384x1024 .f32) (harg8 : arg8.IsWhole) (arg9 : Memref sig .tc .vmem S1x1024 .f32) (harg9 :
  arg9.IsWhole) (arg10 : Memref sig .tc .hbm S16384x1024 .f32) (harg10 : arg10.IsWhole) (arg11 : Memref sig .tc .vmem S512x512 .bf16) (harg11 : arg11.IsWhole) (arg12 :
  Memref sig .tc .vmem S1024x1024 .bf16) (harg12 : arg12.IsWhole) (alloca : Memref sig .tc .vmem S4x1024x512 .bf16) (halloca : alloca.IsWhole) (v12 : DmaSems sig S4)
  (alloca_9 : Memref sig .tc .vmem S4x1024x512 .bf16) (halloca_9 : alloca_9.IsWhole) (v13 : DmaSems sig S4) (alloca_10 : Memref sig .tc .vmem S4x1024x512 .bf16) (halloca_10
  : alloca_10.IsWhole) (v14 : DmaSems sig S4) (alloca_11 : Memref sig .tc .vmem S4x1024x1024 .f32) (halloca_11 : alloca_11.IsWhole) (v15 : DmaSems sig S4) (alloca_12 :
  Memref sig .tc .vmem S2x1024x1024 .f32) (halloca_12 : alloca_12.IsWhole) (v16 : DmaSems sig S2)

variable (X0 X3 X6 : ℕ → S1024x512.Idx → Elt F .bf16) (X8 : ℕ → S1024x1024.Idx → Elt F .f32)
variable (V1 V2 V5 : S1x512.Idx → Elt F .f32) (V9 : S1x1024.Idx → Elt F .f32)
  (W11 : S512x512.Idx → Elt F .bf16) (W12 : S1024x1024.Idx → Elt F .bf16)

/-- The result block of position `p`. -/
def outAt (p : ℕ) : S1024x1024.Idx → Elt F .f32 := outBlk V1 V2 V5 V9 W11 W12 (X0 p) (X3 p) (X6 p) (X8 p)

/-- What a trip only reads: the four staged windows and the two weights cast to bf16. -/
def keep : sProp 𝕄 :=
  iprop(owns (c : Thread nD τ) arg1 fullShare V1 ∗ owns (c : Thread nD τ) arg2 fullShare V2 ∗ owns (c : Thread nD τ) arg5 fullShare V5
    ∗ owns (c : Thread nD τ) arg9 fullShare V9 ∗ owns (c : Thread nD τ) arg11 fullShare W11 ∗ owns (c : Thread nD τ) arg12 fullShare W12)

/-- What holds before trip `k`. -/
def invAt (k : ℕ) : sProp 𝕄 :=
  iprop(keep c arg1 arg2 arg5 arg9 arg11 arg12 V1 V2 V5 V9 W11 W12
    ∗ ring EC c (cellI v12) (slotsN alloca) (blkN arg0) X0 k ∗ ring EC c (cellI v13) (slotsN alloca_9) (blkN arg3) X3 k
    ∗ ring EC c (cellI v14) (slotsN alloca_10) (blkN arg6) X6 k ∗ ring EC c (cellI v15) (slotsW alloca_11) (blkW arg8) X8 k
    ∗ oring EC c (cellO v16) (slotsO alloca_12) (blkW arg10) (outAt X0 X3 X6 X8 V1 V2 V5 V9 W11 W12) k
    ∗ owesAny c)

theorem owns_out (x0 x3 x6 : S1024x512.Idx → Elt F .bf16) (x8 Y : S1024x1024.Idx → Elt F .f32)
    (m : Memref sig .tc .vmem S1024x1024 .f32) :
    (owns (c : Thread nD τ) m fullShare (hiW.overlay (loW.overlay Y (halfLo V1 V2 V5 V9 W11 W12 x0 x3 x6 x8)) (halfHi V1 V2 V5 V9 W11 W12 x0 x3 x6 x8)) : sProp 𝕄)
      ⊢ (owns (c : Thread nD τ) m fullShare (outBlk V1 V2 V5 V9 W11 W12 x0 x3 x6 x8) : sProp 𝕄) := by
  rw [overlay_halves Y x8]
  exact Idealize.SL.BI.Entails.refl _

theorem trip (u1 u2 u3 u4 z1 z2 : BitVec 32) (k : T)  :
    invAt c arg0 arg1 arg2 arg3 arg5 arg6 arg8 arg9 arg10 arg11 arg12 alloca v12 alloca_9 v13 alloca_10 v14 alloca_11 v15 alloca_12 v16
        X0 X3 X6 X8 V1 V2 V5 V9 W11 W12 k.val
      ⊢ wp frame (wpE (defs₀ (F := F)) 𝒱₀ (c : Thread nD τ) none) Set.univ
        (k0_t1_body (F := F) arg0 harg0 arg1 harg1 arg2 harg2 arg3 harg3 arg4 harg4 arg5 harg5 arg6 harg6 arg7 harg7 arg8 harg8 arg9 harg9 arg10 harg10 arg11
          harg11 arg12 harg12 alloca halloca v12 alloca_9 halloca_9 v13 alloca_10 halloca_10 v14 alloca_11 halloca_11 v15 alloca_12 halloca_12 v16 u1 u2 u3 u4
          z1 z2 k (accAt k.val))
        fun acc => iprop(⌜acc = accAt (k.val + 1)⌝
          ∗ invAt c arg0 arg1 arg2 arg3 arg5 arg6 arg8 arg9 arg10 arg11 arg12 alloca v12 alloca_9 v13 alloca_10 v14 alloca_11 v15 alloca_12 v16
            X0 X3 X6 X8 V1 V2 V5 V9 W11 W12 (k.val + 1)) := by
  unfold invAt keep
  have h1 := chk1 k
  have h2 := chk2 k
  have h3 := chk3 k
  have h4 := chk4 k
  have h5 := chk5 k
  have h6 := chk6 k
  obtain ⟨-, -, -, -, h22⟩ := cond_wait k
  have hk := trips_lt k
  unfold accAt
  iintro ⟨⟨I1, I2, I5, I9, I11, I12⟩, R0, R3, R6, R8, RO, HO⟩
  sl_unfold [k0_t1_body]
  set_option sl_exec.stopBefore "k0_part2" in sl_exec
  dsimp only
  rw [wp_bind]
  iapply (part2_run c arg0 harg0 arg1 harg1 arg2 harg2 arg3 harg3 arg4 harg4 arg5 harg5 arg6 harg6 arg7 harg7 arg8 harg8 arg9 harg9 arg10 harg10 arg11 harg11 arg12 harg12 alloca halloca v12 alloca_9 halloca_9 v13 alloca_10 halloca_10 v14 alloca_11 halloca_11 v15 alloca_12 halloca_12 v16 X0 X3 X6 k) $$ [R0 R3 R6]
  · isplitl [R0]; · iexact R0
    isplitl [R3] <;> iassumption
  iintro ⟨R0, R3, R6⟩
  dsimp only
  rw [wp_bind]
  iapply (part3_run c arg0 harg0 arg1 harg1 arg2 harg2 arg3 harg3 arg4 harg4 arg5 harg5 arg6 harg6 arg7 harg7 arg8 harg8 arg9 harg9 arg10 harg10 arg11 harg11 arg12 harg12 alloca halloca v12 alloca_9 halloca_9 v13 alloca_10 halloca_10 v14 alloca_11 halloca_11 v15 alloca_12 halloca_12 v16 X0 X3 X6 X8 k) $$ [R0 R3 R6 R8 HO]
  · isplitl [R0]; · iexact R0
    isplitl [R3]; · iexact R3
    isplitl [R6]; · iexact R6
    isplitl [R8] <;> iassumption
  iintro ⟨R0, R3, R6, R8, S0, S3, S6, S8, HO⟩
  dsimp only
  ihave RO := (oring_out EC c (cellO v16) (slotsO alloca_12) (blkW arg10) (outAt X0 X3 X6 X8 V1 V2 V5 V9 W11 W12) k.val) $$ RO
  icases RO with ⟨RO, SO⟩
  unfold anyOf
  icases SO with ⟨%Y, SO⟩
  try sl_exec
  iapply (load_owns 𝒱₀ c none) $$ S0
  iintro S0
  try sl_exec
  iapply (load_owns 𝒱₀ c none) $$ I1
  iintro I1
  try sl_exec
  iapply (load_owns 𝒱₀ c none) $$ I2
  iintro I2
  try sl_exec
  iapply (load_owns 𝒱₀ c none) $$ I11
  iintro I11
  iapply (wp_ret_bind 𝒱₀ c none)
  try sl_exec
  iapply (load_owns 𝒱₀ c none) $$ I5
  iintro I5
  try sl_exec
  iapply (load_owns 𝒱₀ c none) $$ S3
  iintro S3
  try sl_exec
  iapply (load_owns 𝒱₀ c none) $$ I12
  iintro I12
  try sl_exec
  iapply (load_owns 𝒱₀ c none) $$ S6
  iintro S6
  try sl_exec
  iapply (load_owns 𝒱₀ c none) $$ I12
  iintro I12
  try sl_exec
  iapply (load_owns 𝒱₀ c none) $$ S8
  iintro S8
  iapply (wp_ret_bind 𝒱₀ c none)
  try sl_exec
  iapply (load_owns 𝒱₀ c none) $$ I9
  iintro I9
  try sl_exec
  iapply (load_owns 𝒱₀ c none) $$ SO
  iintro SO
  try sl_exec
  iapply (store_owns 𝒱₀ c none) $$ SO
  iintro SO
  try sl_exec
  iapply (load_owns 𝒱₀ c none) $$ S0
  iintro S0
  try sl_exec
  iapply (load_owns 𝒱₀ c none) $$ I1
  iintro I1
  try sl_exec
  iapply (load_owns 𝒱₀ c none) $$ I2
  iintro I2
  try sl_exec
  iapply (load_owns 𝒱₀ c none) $$ I11
  iintro I11
  iapply (wp_ret_bind 𝒱₀ c none)
  try sl_exec
  iapply (load_owns 𝒱₀ c none) $$ I5
  iintro I5
  try sl_exec
  iapply (load_owns 𝒱₀ c none) $$ S3
  iintro S3
  try sl_exec
  iapply (load_owns 𝒱₀ c none) $$ I12
  iintro I12
  try sl_exec
  iapply (load_owns 𝒱₀ c none) $$ S6
  iintro S6
  try sl_exec
  iapply (load_owns 𝒱₀ c none) $$ I12
  iintro I12
  try sl_exec
  iapply (load_owns 𝒱₀ c none) $$ S8
  iintro S8
  iapply (wp_ret_bind 𝒱₀ c none)
  try sl_exec
  iapply (load_owns 𝒱₀ c none) $$ I9
  iintro I9
  try sl_exec
  iapply (load_owns 𝒱₀ c none) $$ SO
  iintro SO
  try sl_exec
  iapply (store_owns 𝒱₀ c none) $$ SO
  iintro SO
  iapply (wp_ret_bind 𝒱₀ c none)
  sl_exec
  simp only [ite_self]
  try sl_exec
  sl_unfold_words
  have eSO := owns_out c V1 V2 V5 V9 W11 W12 (X0 k.val) (X3 k.val) (X6 k.val) (X8 k.val) Y (slotsO alloca_12 k.val)
  unfold halfLo halfHi at eSO
  ihave SO := eSO $$ SO
  iapply (wp_oissue EC 𝒱₀ c none (cellO v16) (slotsO alloca_12) (blkW arg10) (outAt X0 X3 X6 X8 V1 V2 V5 V9 W11 W12) k.val hk (by decide)
    (cellO_dma v16) rfl (blkW_of arg10 (off62 k) _ _) rfl) $$ [RO SO]
  · isplitl [RO]; · iexact RO
    iexact SO
  iintro RO
  set_option sl_exec.stopBefore "k0_part9" in sl_exec
  rw [wp_bind]
  iapply (part9_run c arg0 harg0 arg1 harg1 arg2 harg2 arg3 harg3 arg4 harg4 arg5 harg5 arg6 harg6 arg7 harg7 arg8 harg8 arg9 harg9 arg10 harg10 arg11 harg11 arg12 harg12 alloca halloca v12 alloca_9 halloca_9 v13 alloca_10 halloca_10 v14 alloca_11 halloca_11 v15 alloca_12 halloca_12 v16 (outAt X0 X3 X6 X8 V1 V2 V5 V9 W11 W12) k) $$ [RO HO]
  · isplitl [RO] <;> iassumption
  iintro ⟨RO, HO⟩
  sl_exec
  rw [wp_ret]; imodintro
  isplitr
  · ipureintro
    sl_unfold_words
    clear * -
    refine Prod.ext ?_ (Prod.ext ?_ (Prod.ext ?_ (Prod.ext ?_ (Prod.ext ?_ (Prod.ext ?_ (Prod.ext ?_ (Prod.ext ?_ (Prod.ext ?_ (Prod.ext ?_ ?_))))))))) <;> (dsimp only; revert k; decide +kernel)
  isplitl [I1 I2 I5 I9 I11 I12]
  · isplitl [I1]; · iexact I1
    isplitl [I2]; · iexact I2
    isplitl [I5]; · iexact I5
    isplitl [I9]; · iexact I9
    isplitl [I11] <;> iassumption
  isplitl [R0 S0]
  · iapply (ring_succ EC c (cellI v12) (slotsN alloca) (blkN arg0) X0 k.val (cellI_per v12 k.val hk) (slotsN_per alloca k.val hk))
    isplitl [R0] <;> iassumption
  isplitl [R3 S3]
  · iapply (ring_succ EC c (cellI v13) (slotsN alloca_9) (blkN arg3) X3 k.val (cellI_per v13 k.val hk) (slotsN_per alloca_9 k.val hk))
    isplitl [R3] <;> iassumption
  isplitl [R6 S6]
  · iapply (ring_succ EC c (cellI v14) (slotsN alloca_10) (blkN arg6) X6 k.val (cellI_per v14 k.val hk) (slotsN_per alloca_10 k.val hk))
    isplitl [R6] <;> iassumption
  isplitl [R8 S8]
  · iapply (ring_succ EC c (cellI v15) (slotsW alloca_11) (blkW arg8) X8 k.val (cellI_per v15 k.val hk) (slotsW_per alloca_11 k.val hk))
    isplitl [R8] <;> iassumption
  isplitl [RO] <;> iassumption

end Cert.Proof.Run
end
-- ==== Proof.Body.lean ====
module

public import proofs.«01_k».proof.Proof.Trip

/-! # The whole body

The weights are cast once, the copies of the first three blocks of each input are issued, the sixteen trips run,
and the last block's copy is waited for. -/

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Rules Cert.Proof.Rings Cert.Proof.Names

variable {F : FTy → Type} [FloatOps F]

local notation "𝕄" => MT nD τ sig Unit (Elt F) ℕ UU ℕ

variable (c : Dev nD)
variable (arg0 : Memref sig .tc .hbm S16384x512 .bf16) (harg0 : arg0.IsWhole) (arg1 : Memref sig .tc .vmem S1x512 .f32) (harg1 : arg1.IsWhole) (arg2 : Memref sig .tc .vmem S1x512
  .f32) (harg2 : arg2.IsWhole) (arg3 : Memref sig .tc .hbm S16384x512 .bf16) (harg3 : arg3.IsWhole) (arg4 : Memref sig .tc .vmem S1x512x512 .f32) (harg4 : arg4.IsWhole)
  (arg5 : Memref sig .tc .vmem S1x512 .f32) (harg5 : arg5.IsWhole) (arg6 : Memref sig .tc .hbm S16384x512 .bf16) (harg6 : arg6.IsWhole) (arg7 : Memref sig .tc .vmem
  S1x1024x1024 .f32) (harg7 : arg7.IsWhole) (arg8 : Memref sig .tc .hbm S16384x1024 .f32) (harg8 : arg8.IsWhole) (arg9 : Memref sig .tc .vmem S1x1024 .f32) (harg9 :
  arg9.IsWhole) (arg10 : Memref sig .tc .hbm S16384x1024 .f32) (harg10 : arg10.IsWhole) (arg11 : Memref sig .tc .vmem S512x512 .bf16) (harg11 : arg11.IsWhole) (arg12 :
  Memref sig .tc .vmem S1024x1024 .bf16) (harg12 : arg12.IsWhole) (alloca : Memref sig .tc .vmem S4x1024x512 .bf16) (halloca : alloca.IsWhole) (v12 : DmaSems sig S4)
  (alloca_9 : Memref sig .tc .vmem S4x1024x512 .bf16) (halloca_9 : alloca_9.IsWhole) (v13 : DmaSems sig S4) (alloca_10 : Memref sig .tc .vmem S4x1024x512 .bf16) (halloca_10
  : alloca_10.IsWhole) (v14 : DmaSems sig S4) (alloca_11 : Memref sig .tc .vmem S4x1024x1024 .f32) (halloca_11 : alloca_11.IsWhole) (v15 : DmaSems sig S4) (alloca_12 :
  Memref sig .tc .vmem S2x1024x1024 .f32) (halloca_12 : alloca_12.IsWhole) (v16 : DmaSems sig S2)

variable (X0 X3 X6 : ℕ → S1024x512.Idx → Elt F .bf16) (X8 : ℕ → S1024x1024.Idx → Elt F .f32)
variable (V1 V2 V5 : S1x512.Idx → Elt F .f32) (V9 : S1x1024.Idx → Elt F .f32)
  (V4 : S1x512x512.Idx → Elt F .f32) (V7 : S1x1024x1024.Idx → Elt F .f32)

/-- The weights as the trips read them. -/
abbrev allW4 : Rect S1x512x512 := Rect.unit (s := S1x512x512) ![0, 0, 0] S1x512x512.size inb_S1x512x512_S1x512x512_0_0_0
abbrev allW7 : Rect S1x1024x1024 := Rect.unit (s := S1x1024x1024) ![0, 0, 0] S1x1024x1024.size inb_S1x1024x1024_S1x1024x1024_0_0_0
abbrev allO : Rect S1024x1024 := Rect.unit (s := S1024x1024) ![0, 0] S1024x1024.size inb_S1024x1024_S1024x1024_0_0
def cast11 : S512x512.Idx → Elt F .bf16 := k0_pay7 (View.ld V4 allW4)
def cast12 : S1024x1024.Idx → Elt F .bf16 := k0_pay8 (View.ld V7 allW7)

/-- A store over all of an array leaves what is stored. -/
theorem overlay_allP (Y : S512x512.Idx → Elt F .bf16) (w : S512x512.Idx → Elt F .bf16) : allP.overlay Y w = w := by
  funext i
  have h : allP.emb i = i := by
    funext a; apply Fin.ext; rw [Rect.emb_apply]; revert a
    exact Fin.forall_fin_two.mpr ⟨by show 0 + 1 * (i 0).val = _; omega, by show 0 + 1 * (i 1).val = _; omega⟩
  conv_lhs => rw [← h]
  exact Rect.overlay_emb _ _ _ _
theorem overlay_allO (Y : S1024x1024.Idx → Elt F .bf16) (w : S1024x1024.Idx → Elt F .bf16) : allO.overlay Y w = w := by
  funext i
  have h : allO.emb i = i := by
    funext a; apply Fin.ext; rw [Rect.emb_apply]; revert a
    exact Fin.forall_fin_two.mpr ⟨by show 0 + 1 * (i 0).val = _; omega, by show 0 + 1 * (i 1).val = _; omega⟩
  conv_lhs => rw [← h]
  exact Rect.overlay_emb _ _ _ _

/-- A ring at rest: every block home, every slot free. -/
def rest {s : Shape} {e : EltTy} (cell : ℕ → SemLoc sig) (slot : ℕ → Memref sig .tc .vmem s e) (blk : ℕ → Memref sig .tc .hbm s e)
    (X : ℕ → s.Idx → Elt F e) : sProp 𝕄 :=
  iprop(homes c blk X 0 0 ∗ free c cell slot 0 ∗ free c cell slot 1 ∗ free c cell slot 2 ∗ free c cell slot 3)

theorem rest_open {s : Shape} {e : EltTy} (cell : ℕ → SemLoc sig) (slot : ℕ → Memref sig .tc .vmem s e) (blk : ℕ → Memref sig .tc .hbm s e)
    (X : ℕ → s.Idx → Elt F e) : (rest c cell slot blk X : sProp 𝕄)
      ⊢ iprop(homes c blk X 0 0 ∗ free c cell slot 0 ∗ free c cell slot 1 ∗ free c cell slot 2 ∗ free c cell slot 3) := by
  unfold rest; exact Idealize.SL.BI.Entails.refl _

/-- Three copies issued, the ring stands at trip 0. -/
theorem ring_zero {s : Shape} {e : EltTy} (cell : ℕ → SemLoc sig) (slot : ℕ → Memref sig .tc .vmem s e) (blk : ℕ → Memref sig .tc .hbm s e)
    (X : ℕ → s.Idx → Elt F e) :
    iprop(homes c blk X 0 3 ∗ role EC c cell slot blk X 0 ∗ role EC c cell slot blk X 1 ∗ role EC c cell slot blk X 2 ∗ free c cell slot 3 : sProp 𝕄)
      ⊢ (ring EC c cell slot blk X 0 : sProp 𝕄) := by
  unfold ring
  exact Idealize.SL.BI.Entails.refl _

/-- After sixteen trips the ring is at rest. -/
theorem ring_rest {s : Shape} {e : EltTy} (cell : ℕ → SemLoc sig) (slot : ℕ → Memref sig .tc .vmem s e) (blk : ℕ → Memref sig .tc .hbm s e)
    (X : ℕ → s.Idx → Elt F e) (hc : ∀ p, p < 16 → cell (p + 4) = cell p) (hs : ∀ p, p < 16 → slot (p + 4) = slot p) :
    (ring EC c cell slot blk X 16 : sProp 𝕄) ⊢ (rest c cell slot blk X : sProp 𝕄) := by
  have e : ∀ p, p < 4 → (free c cell slot (16 + p) : sProp 𝕄) = free c cell slot p := by
    intro p hp
    have h1 := hc (p + 12) (by omega); have h2 := hc (p + 8) (by omega); have h3 := hc (p + 4) (by omega); have h4 := hc p (by omega)
    have g1 := hs (p + 12) (by omega); have g2 := hs (p + 8) (by omega); have g3 := hs (p + 4) (by omega); have g4 := hs p (by omega)
    unfold free
    rw [show 16 + p = p + 12 + 4 from by omega, h1, g1, show p + 12 = p + 8 + 4 from rfl, h2, g2, show p + 8 = p + 4 + 4 from rfl, h3, g3, h4, g4]
  have h := ring_last (Lvl := ℕ) (U := UU) EC c cell slot blk X
  rw [show (16 : ℕ) = 16 + 0 from rfl, show (17 : ℕ) = 16 + 1 from rfl, show (18 : ℕ) = 16 + 2 from rfl, show (19 : ℕ) = 16 + 3 from rfl,
    e 0 (by decide), e 1 (by decide), e 2 (by decide), e 3 (by decide)] at h
  exact h

/-- Nothing written yet, the output ring stands at trip 0. -/
theorem oring_zero (v16 : DmaSems sig S2) (alloca_12 : Memref sig .tc .vmem S2x1024x1024 .f32) (arg10 : Memref sig .tc .hbm S16384x1024 .f32)
    (X : ℕ → S1024x1024.Idx → Elt F .f32) :
    iprop(oblocks c (blkW arg10) X 0 0 ∗ free c (cellO v16) (slotsO alloca_12) 0 ∗ free c (cellO v16) (slotsO alloca_12) 1 : sProp 𝕄)
      ⊢ (oring EC c (cellO v16) (slotsO alloca_12) (blkW arg10) X 0 : sProp 𝕄) := by
  unfold oring
  rw [if_pos rfl]

set_option maxHeartbeats 2000000 in

theorem body_run (Q : PUnit → sProp (MT nD τ sig Unit (Elt F) ℕ UU ℕ)) :
    iprop(owns (c : Thread nD τ) arg1 fullShare V1 ∗ owns (c : Thread nD τ) arg2 fullShare V2 ∗ owns (c : Thread nD τ) arg4 fullShare V4
        ∗ owns (c : Thread nD τ) arg5 fullShare V5 ∗ owns (c : Thread nD τ) arg7 fullShare V7 ∗ owns (c : Thread nD τ) arg9 fullShare V9
        ∗ anyOf c arg11 ∗ anyOf c arg12
        ∗ rest c (cellI v12) (slotsN alloca) (blkN arg0) X0 ∗ rest c (cellI v13) (slotsN alloca_9) (blkN arg3) X3
        ∗ rest c (cellI v14) (slotsN alloca_10) (blkN arg6) X6 ∗ rest c (cellI v15) (slotsW alloca_11) (blkW arg8) X8
        ∗ (bigSep (Finset.univ : Finset (Fin 16)) fun b => anyOf c (blkW arg10 b))
        ∗ free c (cellO v16) (slotsO alloca_12) 0 ∗ free c (cellO v16) (slotsO alloca_12) 1 ∗ owesAny c : sProp 𝕄)
      ⊢ iprop((owns (c : Thread nD τ) arg1 fullShare V1 ∗ owns (c : Thread nD τ) arg2 fullShare V2 ∗ owns (c : Thread nD τ) arg4 fullShare V4
        ∗ owns (c : Thread nD τ) arg5 fullShare V5 ∗ owns (c : Thread nD τ) arg7 fullShare V7 ∗ owns (c : Thread nD τ) arg9 fullShare V9
        ∗ anyOf c arg11 ∗ anyOf c arg12
        ∗ rest c (cellI v12) (slotsN alloca) (blkN arg0) X0 ∗ rest c (cellI v13) (slotsN alloca_9) (blkN arg3) X3
        ∗ rest c (cellI v14) (slotsN alloca_10) (blkN arg6) X6 ∗ rest c (cellI v15) (slotsW alloca_11) (blkW arg8) X8
        ∗ (bigSep (Finset.univ : Finset (Fin 16)) fun b => home c (blkW arg10) (outAt X0 X3 X6 X8 V1 V2 V5 V9 (cast11 V4) (cast12 V7)) b)
        ∗ free c (cellO v16) (slotsO alloca_12) 0 ∗ free c (cellO v16) (slotsO alloca_12) 1 ∗ owesAny c -∗ Q ⟨⟩)
        -∗ wp frame (wpE (defs₀ (F := F)) 𝒱₀ (c : Thread nD τ) none) Set.univ
          (cc0_out_proj (F := F) arg0 harg0 arg1 harg1 arg2 harg2 arg3 harg3 arg4 harg4 arg5 harg5 arg6 harg6 arg7 harg7 arg8 harg8 arg9 harg9 arg10 harg10 arg11
            harg11 arg12 harg12 alloca halloca v12 alloca_9 halloca_9 v13 alloca_10 halloca_10 v14 alloca_11 halloca_11 v15 alloca_12 halloca_12 v16) Q) := by
  obtain ⟨c1, c2, c3, c4, c5, c6, c7, c8⟩ := cond_first
  have e11 := overlay_allP (F := F)
  have e12 := overlay_allO (F := F)
  rw [← oblocks_none (X := outAt X0 X3 X6 X8 V1 V2 V5 V9 (cast11 V4) (cast12 V7))]
  iintro ⟨I1, I2, I4, I5, I7, I9, I11, I12, R0, R3, R6, R8, OB, O0, O1, HO⟩ HQ
  ihave R0 := (rest_open c (cellI v12) (slotsN alloca) (blkN arg0) X0) $$ R0
  icases R0 with ⟨H0, F00, F01, F02, F03⟩
  ihave R3 := (rest_open c (cellI v13) (slotsN alloca_9) (blkN arg3) X3) $$ R3
  icases R3 with ⟨H3, F30, F31, F32, F33⟩
  ihave R6 := (rest_open c (cellI v14) (slotsN alloca_10) (blkN arg6) X6) $$ R6
  icases R6 with ⟨H6, F60, F61, F62, F63⟩
  ihave R8 := (rest_open c (cellI v15) (slotsW alloca_11) (blkW arg8) X8) $$ R8
  icases R8 with ⟨H8, F80, F81, F82, F83⟩
  unfold anyOf
  icases I11 with ⟨%Y11, I11⟩
  icases I12 with ⟨%Y12, I12⟩
  sl_unfold [cc0_out_proj]
  try sl_exec
  iapply (load_owns 𝒱₀ c none) $$ I4
  iintro I4
  try sl_exec
  iapply (load_owns 𝒱₀ c none) $$ I11
  iintro I11
  try sl_exec
  iapply (store_owns 𝒱₀ c none) $$ I11
  iintro I11
  try sl_exec
  iapply (load_owns 𝒱₀ c none) $$ I7
  iintro I7
  try sl_exec
  iapply (load_owns 𝒱₀ c none) $$ I12
  iintro I12
  try sl_exec
  iapply (store_owns 𝒱₀ c none) $$ I12
  iintro I12
  iapply (wp_ret_bind 𝒱₀ c none)
  try sl_exec
  iapply (wp_first EC 𝒱₀ c none (cellI v12) (slotsN alloca) (blkN arg0) X0 0 (by decide) (by decide) (cellI_dma v12)
    (blkN_of arg0 (b := 0) rfl _ _) (slotsN_of alloca (p := 0) (show k0_off2 = _ by decide +kernel) _ _ _)
    (cellI_of v12 (p := 0) (show k0_off1 = _ by decide +kernel) _ _)) $$ [H0 F00]
  · isplitl [H0] <;> iassumption
  iintro ⟨H0, F00⟩
  try sl_exec
  iapply (wp_first EC 𝒱₀ c none (cellI v13) (slotsN alloca_9) (blkN arg3) X3 0 (by decide) (by decide) (cellI_dma v13)
    (blkN_of arg3 (b := 0) rfl _ _) (slotsN_of alloca_9 (p := 0) (show k0_off2 = _ by decide +kernel) _ _ _)
    (cellI_of v13 (p := 0) (show k0_off1 = _ by decide +kernel) _ _)) $$ [H3 F30]
  · isplitl [H3] <;> iassumption
  iintro ⟨H3, F30⟩
  try sl_exec
  iapply (wp_first EC 𝒱₀ c none (cellI v14) (slotsN alloca_10) (blkN arg6) X6 0 (by decide) (by decide) (cellI_dma v14)
    (blkN_of arg6 (b := 0) rfl _ _) (slotsN_of alloca_10 (p := 0) (show k0_off2 = _ by decide +kernel) _ _ _)
    (cellI_of v14 (p := 0) (show k0_off1 = _ by decide +kernel) _ _)) $$ [H6 F60]
  · isplitl [H6] <;> iassumption
  iintro ⟨H6, F60⟩
  try sl_exec
  iapply (wp_first EC 𝒱₀ c none (cellI v15) (slotsW alloca_11) (blkW arg8) X8 0 (by decide) (by decide) (cellI_dma v15)
    (blkW_of arg8 (b := 0) rfl _ _) (slotsW_of alloca_11 (p := 0) (show k0_off3 = _ by decide +kernel) _ _ _)
    (cellI_of v15 (p := 0) (show k0_off1 = _ by decide +kernel) _ _)) $$ [H8 F80]
  · isplitl [H8] <;> iassumption
  iintro ⟨H8, F80⟩
  try sl_exec
  iapply (wp_first EC 𝒱₀ c none (cellI v12) (slotsN alloca) (blkN arg0) X0 1 (by decide) (by decide) (cellI_dma v12)
    (blkN_of arg0 (b := 1) (show k0_off6 = _ by decide +kernel) _ _) (slotsN_of alloca (p := 1) (show k0_off5 = _ by decide +kernel) _ _ _)
    (cellI_of v12 (p := 1) (show k0_off4 = _ by decide +kernel) _ _)) $$ [H0 F01]
  · isplitl [H0] <;> iassumption
  iintro ⟨H0, F01⟩
  try sl_exec
  iapply (wp_first EC 𝒱₀ c none (cellI v13) (slotsN alloca_9) (blkN arg3) X3 1 (by decide) (by decide) (cellI_dma v13)
    (blkN_of arg3 (b := 1) (show k0_off9 = _ by decide +kernel) _ _) (slotsN_of alloca_9 (p := 1) (show k0_off8 = _ by decide +kernel) _ _ _)
    (cellI_of v13 (p := 1) (show k0_off7 = _ by decide +kernel) _ _)) $$ [H3 F31]
  · isplitl [H3] <;> iassumption
  iintro ⟨H3, F31⟩
  try sl_exec
  iapply (wp_first EC 𝒱₀ c none (cellI v14) (slotsN alloca_10) (blkN arg6) X6 1 (by decide) (by decide) (cellI_dma v14)
    (blkN_of arg6 (b := 1) (show k0_off12 = _ by decide +kernel) _ _) (slotsN_of alloca_10 (p := 1) (show k0_off11 = _ by decide +kernel) _ _ _)
    (cellI_of v14 (p := 1) (show k0_off10 = _ by decide +kernel) _ _)) $$ [H6 F61]
  · isplitl [H6] <;> iassumption
  iintro ⟨H6, F61⟩
  try sl_exec
  iapply (wp_first EC 𝒱₀ c none (cellI v15) (slotsW alloca_11) (blkW arg8) X8 1 (by decide) (by decide) (cellI_dma v15)
    (blkW_of arg8 (b := 1) (show k0_off15 = _ by decide +kernel) _ _) (slotsW_of alloca_11 (p := 1) (show k0_off14 = _ by decide +kernel) _ _ _)
    (cellI_of v15 (p := 1) (show k0_off13 = _ by decide +kernel) _ _)) $$ [H8 F81]
  · isplitl [H8] <;> iassumption
  iintro ⟨H8, F81⟩
  try sl_exec
  iapply (wp_first EC 𝒱₀ c none (cellI v12) (slotsN alloca) (blkN arg0) X0 2 (by decide) (by decide) (cellI_dma v12)
    (blkN_of arg0 (b := 2) (show k0_off18 = _ by decide +kernel) _ _) (slotsN_of alloca (p := 2) (show k0_off17 = _ by decide +kernel) _ _ _)
    (cellI_of v12 (p := 2) (show k0_off16 = _ by decide +kernel) _ _)) $$ [H0 F02]
  · isplitl [H0] <;> iassumption
  iintro ⟨H0, F02⟩
  try sl_exec
  iapply (wp_first EC 𝒱₀ c none (cellI v13) (slotsN alloca_9) (blkN arg3) X3 2 (by decide) (by decide) (cellI_dma v13)
    (blkN_of arg3 (b := 2) (show k0_off21 = _ by decide +kernel) _ _) (slotsN_of alloca_9 (p := 2) (show k0_off20 = _ by decide +kernel) _ _ _)
    (cellI_of v13 (p := 2) (show k0_off19 = _ by decide +kernel) _ _)) $$ [H3 F32]
  · isplitl [H3] <;> iassumption
  iintro ⟨H3, F32⟩
  try sl_exec
  iapply (wp_first EC 𝒱₀ c none (cellI v14) (slotsN alloca_10) (blkN arg6) X6 2 (by decide) (by decide) (cellI_dma v14)
    (blkN_of arg6 (b := 2) (show k0_off24 = _ by decide +kernel) _ _) (slotsN_of alloca_10 (p := 2) (show k0_off23 = _ by decide +kernel) _ _ _)
    (cellI_of v14 (p := 2) (show k0_off22 = _ by decide +kernel) _ _)) $$ [H6 F62]
  · isplitl [H6] <;> iassumption
  iintro ⟨H6, F62⟩
  try sl_exec
  iapply (wp_first EC 𝒱₀ c none (cellI v15) (slotsW alloca_11) (blkW arg8) X8 2 (by decide) (by decide) (cellI_dma v15)
    (blkW_of arg8 (b := 2) (show k0_off27 = _ by decide +kernel) _ _) (slotsW_of alloca_11 (p := 2) (show k0_off26 = _ by decide +kernel) _ _ _)
    (cellI_of v15 (p := 2) (show k0_off25 = _ by decide +kernel) _ _)) $$ [H8 F82]
  · isplitl [H8] <;> iassumption
  iintro ⟨H8, F82⟩

  ihave R0 := (ring_zero c (cellI v12) (slotsN alloca) (blkN arg0) X0) $$ [H0 F00 F01 F02 F03]
  · isplitl [H0]; · iexact H0
    isplitl [F00]; · iexact F00
    isplitl [F01]; · iexact F01
    isplitl [F02] <;> iassumption
  ihave R3 := (ring_zero c (cellI v13) (slotsN alloca_9) (blkN arg3) X3) $$ [H3 F30 F31 F32 F33]
  · isplitl [H3]; · iexact H3
    isplitl [F30]; · iexact F30
    isplitl [F31]; · iexact F31
    isplitl [F32] <;> iassumption
  ihave R6 := (ring_zero c (cellI v14) (slotsN alloca_10) (blkN arg6) X6) $$ [H6 F60 F61 F62 F63]
  · isplitl [H6]; · iexact H6
    isplitl [F60]; · iexact F60
    isplitl [F61]; · iexact F61
    isplitl [F62] <;> iassumption
  ihave R8 := (ring_zero c (cellI v15) (slotsW alloca_11) (blkW arg8) X8) $$ [H8 F80 F81 F82 F83]
  · isplitl [H8]; · iexact H8
    isplitl [F80]; · iexact F80
    isplitl [F81]; · iexact F81
    isplitl [F82] <;> iassumption
  ihave RO := (oring_zero c v16 alloca_12 arg10 (outAt X0 X3 X6 X8 V1 V2 V5 V9 (cast11 V4) (cast12 V7))) $$ [OB O0 O1]
  · isplitl [OB]; · iexact OB
    isplitl [O0] <;> iassumption
  sl_unfold_words
  have k11 : ∀ Y, allP.overlay Y (k0_pay7 (View.ld V4 allW4)) = cast11 V4 := fun Y => overlay_allP Y _
  have k12 : ∀ Y, allO.overlay Y (k0_pay8 (View.ld V7 allW7)) = cast12 V7 := fun Y => overlay_allO Y _
  rw [k11, k12]
  set_option sl_exec.stopBefore "Scf.for" in sl_exec
  iapply (Scf.wp_for_bind _ _ _ _ _ _ _ _ _ (fun k acc => iprop(⌜acc = accAt k⌝ ∗ invAt c arg0 arg1 arg2 arg3 arg5 arg6 arg8 arg9 arg10 arg11 arg12 alloca v12 alloca_9 v13 alloca_10 v14 alloca_11 v15 alloca_12 v16
        X0 X3 X6 X8 V1 V2 V5 V9 (cast11 V4) (cast12 V7) k)) (fun k acc => by
    istart
    iintro ⟨%hacc, HI⟩
    subst hacc
    iapply (trip c arg0 harg0 arg1 harg1 arg2 harg2 arg3 harg3 arg4 harg4 arg5 harg5 arg6 harg6 arg7 harg7 arg8 harg8 arg9 harg9 arg10 harg10 arg11 harg11 arg12 harg12 alloca halloca v12 alloca_9 halloca_9 v13 alloca_10 halloca_10 v14 alloca_11 halloca_11 v15 alloca_12 halloca_12 v16 X0 X3 X6 X8 V1 V2 V5 V9 (cast11 V4) (cast12 V7) _ _ _ _ _ _ k) $$ HI)) $$ [I1 I2 I5 I9 I11 I12 R0 R3 R6 R8 RO HO]
  · isplitr
    · ipureintro
      sl_unfold_words
      clear * -
      refine Prod.ext ?_ (Prod.ext ?_ (Prod.ext ?_ (Prod.ext ?_ (Prod.ext ?_ (Prod.ext ?_ (Prod.ext ?_ (Prod.ext ?_ (Prod.ext ?_ (Prod.ext ?_ ?_))))))))) <;> (dsimp only; decide +kernel)
    unfold invAt keep
    isplitl [I1 I2 I5 I9 I11 I12]
    · isplitl [I1]; · iexact I1
      isplitl [I2]; · iexact I2
      isplitl [I5]; · iexact I5
      isplitl [I9]; · iexact I9
      isplitl [I11] <;> iassumption
    isplitl [R0]; · iexact R0
    isplitl [R3]; · iexact R3
    isplitl [R6]; · iexact R6
    isplitl [R8]; · iexact R8
    isplitl [RO]; · iexact RO
    unfold owesAny
    iexact HO
  iintro %acc ⟨%hacc, HI⟩
  rw [show Scf.trips _ _ _ = 16 from (by decide : k0_t1_loop.trips = 16)] at hacc
  rw [show Scf.trips _ _ _ = 16 from (by decide : k0_t1_loop.trips = 16)]
  subst hacc
  have h7 := chk7
  have h8 := chk8
  unfold invAt keep accAt
  icases HI with ⟨⟨I1, I2, I5, I9, I11, I12⟩, R0, R3, R6, R8, RO, HO⟩
  dsimp only
  sl_exec
  iapply (wp_olast EC 𝒱₀ c none (cellO v16) (slotsO alloca_12) (blkW arg10) (outAt X0 X3 X6 X8 V1 V2 V5 V9 (cast11 V4) (cast12 V7))
    rfl (credit_blkW arg10 _ _ _)) $$ [RO HO]
  · isplitl [RO] <;> iassumption
  have ec0 : cellO v16 16 = cellO v16 0 := congrArg SemLoc.dma (cell2_congr v16 (by decide))
  have ec1 : cellO v16 15 = cellO v16 1 := congrArg SemLoc.dma (cell2_congr v16 (by decide))
  have es0 : slotsO alloca_12 16 = slotsO alloca_12 0 := slotO_congr alloca_12 (by decide)
  have es1 : slotsO alloca_12 15 = slotsO alloca_12 1 := slotO_congr alloca_12 (by decide)
  iintro ⟨OB, O0, O1, HO⟩
  have f0 : (free c (cellO v16) (slotsO alloca_12) 16 : sProp 𝕄) = free c (cellO v16) (slotsO alloca_12) 0 := by
    unfold free; rw [ec0, es0]
  have f1 : (free c (cellO v16) (slotsO alloca_12) 15 : sProp 𝕄) = free c (cellO v16) (slotsO alloca_12) 1 := by
    unfold free; rw [ec1, es1]
  dsimp only
  rw [wp_pure]; imodintro
  iapply HQ
  isplitl [I1]; · iexact I1
  isplitl [I2]; · iexact I2
  isplitl [I4]; · iexact I4
  isplitl [I5]; · iexact I5
  isplitl [I7]; · iexact I7
  isplitl [I9]; · iexact I9
  isplitl [I11]; · iexists _; iexact I11
  isplitl [I12]; · iexists _; iexact I12
  isplitl [R0]; · iapply (ring_rest c (cellI v12) (slotsN alloca) (blkN arg0) X0 (cellI_per v12) (slotsN_per alloca)) $$ R0
  isplitl [R3]; · iapply (ring_rest c (cellI v13) (slotsN alloca_9) (blkN arg3) X3 (cellI_per v13) (slotsN_per alloca_9)) $$ R3
  isplitl [R6]; · iapply (ring_rest c (cellI v14) (slotsN alloca_10) (blkN arg6) X6 (cellI_per v14) (slotsN_per alloca_10)) $$ R6
  isplitl [R8]; · iapply (ring_rest c (cellI v15) (slotsW alloca_11) (blkW arg8) X8 (cellI_per v15) (slotsW_per alloca_11)) $$ R8
  isplitl [OB]; · iexact OB
  isplitl [O0]; · rw [← f0]; iexact O0
  isplitl [O1]; · rw [← f1]; iexact O1
  iexact HO

end Cert.Proof.Run
end
-- ==== Proof.Blocks.lean ====
module

public import proofs.«01_k».proof.Proof.Body

/-! # Arrays as blocks, buffers as slots

An array owned whole is its sixteen row blocks, each owned at its part; a ring's buffer is its slots; and a whole
result is what its sixteen blocks hold. -/

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Rules Cert.Proof.Rings Cert.Proof.Names

variable {F : FTy → Type} [FloatOps F]

local notation "𝕄" => MT nD τ sig Unit (Elt F) ℕ UU ℕ

variable (c : Dev nD)

/-! ## Slots -/

/-- A memref at anything is its elements at anything. -/
theorem anyOf_open {sp : Space} {s : Shape} {e : EltTy} (m : Memref sig .tc sp s e) :
    (anyOf c m : sProp 𝕄) ⊢ (iprop(∃ f, m.view.loc (c : Thread nD τ) ↦[m.view.set]{fullShare} f) : sProp 𝕄) := by
  unfold anyOf owns
  iintro ⟨%Y, %f, -, H⟩
  iexists f; iexact H
theorem anyOf_close {sp : Space} {s : Shape} {e : EltTy} (m : Memref sig .tc sp s e) :
    (iprop(∃ f, m.view.loc (c : Thread nD τ) ↦[m.view.set]{fullShare} f) : sProp 𝕄) ⊢ (anyOf c m : sProp 𝕄) := by
  unfold anyOf owns
  iintro ⟨%f, H⟩
  iexists _; iexists f
  isplitr; · ipureintro; rfl
  iexact H
theorem anyOf_eq {sp : Space} {s : Shape} {e : EltTy} (m : Memref sig .tc sp s e) :
    (anyOf c m : sProp 𝕄) = iprop(∃ f, m.view.loc (c : Thread nD τ) ↦[m.view.set]{fullShare} f) :=
  BI.equiv_iff.mp ⟨anyOf_open c m, anyOf_close c m⟩

section
variable {sp : Space} {s s' : Shape} {e : EltTy} {n : ℕ} (a : Memref sig .tc sp s e) (r : Fin n → Rect s) (hr : ∀ t a, (r t).stride a = 1)
  (hd : ∀ t t', t ≠ t' → Disjoint (r t).set (r t').set)
  (hcov : (Finset.univ : Finset (Fin n)).biUnion (fun t => (r t).set) = Finset.univ)
include hd hcov

/-- A memref at anything is each rectangle of a family that tiles it at anything. -/
theorem anyOf_rects : (anyOf c a : sProp 𝕄) ⊢ bigSep Finset.univ fun t => anyOf c (a.slice (r t) (hr t)) := by
  unfold anyOf
  refine Idealize.SL.BI.BIClass.exists_elim fun Y => ?_
  refine (owns_rects (c : Thread nD τ) a fullShare r hr hd hcov Y).trans (bigSep_mono fun t _ => ?_)
  exact Idealize.SL.BI.BIClass.exists_intro (Φ := fun Z => (owns (c : Thread nD τ) (a.slice (r t) (hr t)) fullShare Z : sProp 𝕄)) _

/-- And back. -/
theorem anyOf_of_rects : (bigSep Finset.univ fun t => anyOf c (a.slice (r t) (hr t)) : sProp 𝕄) ⊢ anyOf c a := by
  rw [anyOf_eq, bigSep_congr (fun t _ => anyOf_eq c (a.slice (r t) (hr t)))]
  have hset : (Finset.univ : Finset (Fin n)).biUnion (fun t => (a.view.slice (r t)).set) = a.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  exact Ring.pointsTo_sub_blocks_join_exists (ℓ := a.view.loc (c : Thread nD τ)) (fun t => (a.view.slice (r t)).set)
    (fun t t' h => by
      rw [View.set_slice, View.set_slice]; exact (Finset.disjoint_map _).mpr (hd t t' h)) a.view.set hset (fun _ => Classical.arbitrary _)
end

/-- Dropping an axis of length one changes nothing. -/
theorem anyOf_squeeze {sp : Space} {s s' : Shape} {e : EltTy} (m : Memref sig .tc sp s e) (h : s.Squeezes s') :
    (anyOf c (m.squeeze s' h) : sProp 𝕄) = anyOf c m := by
  rw [anyOf_eq, anyOf_eq]
  have hs : (m.squeeze s' h).view.set = m.view.set := View.set_reshape m.view h.numel_eq
  rw [hs]

/-- The slots' rectangles. -/
abbrev rectN (t : Fin 4) : Rect S4x1024x512 := Rect.unit (s := S4x1024x512) ![at4 (BitVec.ofNat 32 t.val), 0, 0] S1x1024x512.size (slot4_inb _ 512)
abbrev rectW (t : Fin 4) : Rect S4x1024x1024 := Rect.unit (s := S4x1024x1024) ![at4 (BitVec.ofNat 32 t.val), 0, 0] S1x1024x1024.size (slot4_inb _ 1024)
abbrev rectO (t : Fin 2) : Rect S2x1024x1024 := Rect.unit (s := S2x1024x1024) ![at2 (BitVec.ofNat 32 t.val), 0, 0] S1x1024x1024.size (slot2_inb _ 1024)

theorem at4_fin (b : Fin 4) : at4 (BitVec.ofNat 32 b.val) = 1 * b.val := by
  have := b.isLt; rw [at4_eq _ (by omega)]; omega
theorem at2_fin (b : Fin 2) : at2 (BitVec.ofNat 32 b.val) = 1 * b.val := by
  have := b.isLt; rw [at2_eq _ (by omega)]; omega

theorem off3 {n : ℕ} (f : Fin n → ℕ) (b : Fin n) (a : Fin 3) (h : a ≠ 0) : (![f b, 0, 0] : Fin 3 → ℕ) a = 0 := by
  fin_cases a
  · exact absurd rfl h
  · rfl
  · rfl

theorem slotsN_any (a : Memref sig .tc .vmem S4x1024x512 .bf16) :
    (anyOf c a : sProp 𝕄) = bigSep (Finset.univ : Finset (Fin 4)) fun t => anyOf c (slotsN a t.val) := by
  have hd := Ring.lead_disjoint (s := S4x1024x512) (NB := 4) 0 1 (fun t => ![at4 (BitVec.ofNat 32 t.val), 0, 0]) S1x1024x512.size
    (fun t => slot4_inb _ 512) at4_fin rfl
  have hcov := Ring.lead_cover (s := S4x1024x512) (NB := 4) 0 1 (fun t => ![at4 (BitVec.ofNat 32 t.val), 0, 0]) S1x1024x512.size
    (fun t => slot4_inb _ 512) at4_fin (fun b a h => off3 (fun b : Fin 4 => at4 (BitVec.ofNat 32 b.val)) b a h) rfl (by decide) rfl
  have e : ∀ t : Fin 4, (anyOf c (slotsN a t.val) : sProp 𝕄) = anyOf c (a.slice (rectN t) (fun _ => rfl)) := fun t => by
    unfold slotsN slotN; exact anyOf_squeeze c _ _
  rw [bigSep_congr (fun t _ => e t)]
  exact BI.equiv_iff.mp ⟨anyOf_rects c a rectN (fun _ _ => rfl) hd hcov, anyOf_of_rects c a rectN (fun _ _ => rfl) hd hcov⟩

theorem slotsW_any (a : Memref sig .tc .vmem S4x1024x1024 .f32) :
    (anyOf c a : sProp 𝕄) = bigSep (Finset.univ : Finset (Fin 4)) fun t => anyOf c (slotsW a t.val) := by
  have hd := Ring.lead_disjoint (s := S4x1024x1024) (NB := 4) 0 1 (fun t => ![at4 (BitVec.ofNat 32 t.val), 0, 0]) S1x1024x1024.size
    (fun t => slot4_inb _ 1024) at4_fin rfl
  have hcov := Ring.lead_cover (s := S4x1024x1024) (NB := 4) 0 1 (fun t => ![at4 (BitVec.ofNat 32 t.val), 0, 0]) S1x1024x1024.size
    (fun t => slot4_inb _ 1024) at4_fin (fun b a h => off3 (fun b : Fin 4 => at4 (BitVec.ofNat 32 b.val)) b a h) rfl (by decide) rfl
  have e : ∀ t : Fin 4, (anyOf c (slotsW a t.val) : sProp 𝕄) = anyOf c (a.slice (rectW t) (fun _ => rfl)) := fun t => by
    unfold slotsW slotW; exact anyOf_squeeze c _ _
  rw [bigSep_congr (fun t _ => e t)]
  exact BI.equiv_iff.mp ⟨anyOf_rects c a rectW (fun _ _ => rfl) hd hcov, anyOf_of_rects c a rectW (fun _ _ => rfl) hd hcov⟩

theorem slotsO_any (a : Memref sig .tc .vmem S2x1024x1024 .f32) :
    (anyOf c a : sProp 𝕄) = bigSep (Finset.univ : Finset (Fin 2)) fun t => anyOf c (slotsO a t.val) := by
  have hd := Ring.lead_disjoint (s := S2x1024x1024) (NB := 2) 0 1 (fun t => ![at2 (BitVec.ofNat 32 t.val), 0, 0]) S1x1024x1024.size
    (fun t => slot2_inb _ 1024) at2_fin rfl
  have hcov := Ring.lead_cover (s := S2x1024x1024) (NB := 2) 0 1 (fun t => ![at2 (BitVec.ofNat 32 t.val), 0, 0]) S1x1024x1024.size
    (fun t => slot2_inb _ 1024) at2_fin (fun b a h => off3 (fun b : Fin 2 => at2 (BitVec.ofNat 32 b.val)) b a h) rfl (by decide) rfl
  have e : ∀ t : Fin 2, (anyOf c (slotsO a t.val) : sProp 𝕄) = anyOf c (a.slice (rectO t) (fun _ => rfl)) := fun t => by
    unfold slotsO slotO; exact anyOf_squeeze c _ _
  rw [bigSep_congr (fun t _ => e t)]
  exact BI.equiv_iff.mp ⟨anyOf_rects c a rectO (fun _ _ => rfl) hd hcov, anyOf_of_rects c a rectO (fun _ _ => rfl) hd hcov⟩

/-! ## Blocks -/

theorem rows_fin (b : Fin 16) : 1024 * (b.val % 16) = 1024 * b.val := by
  rw [Nat.mod_eq_of_lt b.isLt]
theorem off2 (b : Fin 16) (a : Fin 2) (h : a ≠ 0) : (![1024 * (b.val % 16), 0] : Fin 2 → ℕ) a = 0 := by
  fin_cases a
  · exact absurd rfl h
  · rfl

theorem rowsN_disj : ∀ t t' : Fin 16, t ≠ t' → Disjoint (rowsN t.val).set (rowsN t'.val).set :=
  Ring.lead_disjoint (s := S16384x512) (NB := 16) 0 1024 (fun t => ![1024 * (t.val % 16), 0]) S1024x512.size (fun t => rows_inb t.val 512) rows_fin rfl
theorem rowsN_cover : (Finset.univ : Finset (Fin 16)).biUnion (fun t => (rowsN t.val).set) = Finset.univ :=
  Ring.lead_cover (s := S16384x512) (NB := 16) 0 1024 (fun t => ![1024 * (t.val % 16), 0]) S1024x512.size (fun t => rows_inb t.val 512) rows_fin off2 rfl (by decide) rfl
theorem rowsW_disj : ∀ t t' : Fin 16, t ≠ t' → Disjoint (rowsW t.val).set (rowsW t'.val).set :=
  Ring.lead_disjoint (s := S16384x1024) (NB := 16) 0 1024 (fun t => ![1024 * (t.val % 16), 0]) S1024x1024.size (fun t => rows_inb t.val 1024) rows_fin rfl
theorem rowsW_cover : (Finset.univ : Finset (Fin 16)).biUnion (fun t => (rowsW t.val).set) = Finset.univ :=
  Ring.lead_cover (s := S16384x1024) (NB := 16) 0 1024 (fun t => ![1024 * (t.val % 16), 0]) S1024x1024.size (fun t => rows_inb t.val 1024) rows_fin off2 rfl (by decide) rfl

/-- The blocks' values, by position. -/
def partN (X : S16384x512.Idx → Elt F .bf16) (p : ℕ) : S1024x512.Idx → Elt F .bf16 := fun j => X ((rowsN p).emb j)
def partW (X : S16384x1024.Idx → Elt F .f32) (p : ℕ) : S1024x1024.Idx → Elt F .f32 := fun j => X ((rowsW p).emb j)

theorem blocksN (m : Memref sig .tc .hbm S16384x512 .bf16) (X : S16384x512.Idx → Elt F .bf16) :
    (owns (c : Thread nD τ) m fullShare X : sProp 𝕄) = homes c (blkN m) (partN X) 0 0 := by
  rw [homes_all c (blkN m) (partN X) 0 (Or.inl rfl)]
  exact BI.equiv_iff.mp ⟨owns_rects (c : Thread nD τ) m fullShare (fun t : Fin 16 => rowsN t.val) (fun _ _ => rfl) rowsN_disj rowsN_cover X,
    owns_of_rects (c : Thread nD τ) m fullShare (fun t : Fin 16 => rowsN t.val) (fun _ _ => rfl) rowsN_disj rowsN_cover X⟩

theorem blocksW (m : Memref sig .tc .hbm S16384x1024 .f32) (X : S16384x1024.Idx → Elt F .f32) :
    (owns (c : Thread nD τ) m fullShare X : sProp 𝕄) = homes c (blkW m) (partW X) 0 0 := by
  rw [homes_all c (blkW m) (partW X) 0 (Or.inl rfl)]
  exact BI.equiv_iff.mp ⟨owns_rects (c : Thread nD τ) m fullShare (fun t : Fin 16 => rowsW t.val) (fun _ _ => rfl) rowsW_disj rowsW_cover X,
    owns_of_rects (c : Thread nD τ) m fullShare (fun t : Fin 16 => rowsW t.val) (fun _ _ => rfl) rowsW_disj rowsW_cover X⟩

/-- A result at anything is its blocks at anything. -/
theorem blocksO (m : Memref sig .tc .hbm S16384x1024 .f32) :
    (anyOf c m : sProp 𝕄) ⊢ bigSep (Finset.univ : Finset (Fin 16)) fun b => anyOf c (blkW m b) :=
  anyOf_rects c m (fun t : Fin 16 => rowsW t.val) (fun _ _ => rfl) rowsW_disj rowsW_cover

/-- The place of a row within its block. -/
def inBlk (i : S16384x1024.Idx) : S1024x1024.Idx := fun a =>
  ⟨(![(i 0).val % 1024, (i 1).val] : Fin 2 → ℕ) a, by
    revert a
    exact Fin.forall_fin_two.mpr ⟨Nat.mod_lt _ (by decide), (i 1).isLt⟩⟩

/-- The array whose block `p` is `Y p`. -/
def glue (Y : ℕ → S1024x1024.Idx → Elt F .f32) : S16384x1024.Idx → Elt F .f32 := fun i => Y ((i 0).val / 1024) (inBlk i)

theorem part_glue (Y : ℕ → S1024x1024.Idx → Elt F .f32) (p : ℕ) (hp : p < 16) : partW (glue Y) p = Y p := by
  funext j
  have h0 : (((rowsW p).emb j) 0).val = 1024 * (p % 16) + 1 * (j 0).val := Rect.emb_apply _ _ _
  have h1 : (((rowsW p).emb j) 1).val = 0 + 1 * (j 1).val := Rect.emb_apply _ _ _
  have hj : (j 0).val < 1024 := (j 0).isLt
  have e1 : (((rowsW p).emb j) 0).val / 1024 = p := by rw [h0]; omega
  have e2 : inBlk ((rowsW p).emb j) = j := by
    funext a; apply Fin.ext; revert a
    refine Fin.forall_fin_two.mpr ⟨?_, ?_⟩
    · show (((rowsW p).emb j) 0).val % 1024 = (j 0).val
      rw [h0]; omega
    · show (((rowsW p).emb j) 1).val = (j 1).val
      rw [h1]; omega
  unfold partW glue
  rw [e1, e2]

/-- The result from its blocks. -/
theorem blocks_glue (m : Memref sig .tc .hbm S16384x1024 .f32) (Y : ℕ → S1024x1024.Idx → Elt F .f32) :
    (bigSep (Finset.univ : Finset (Fin 16)) fun b => home c (blkW m) Y b : sProp 𝕄) ⊢ (owns (c : Thread nD τ) m fullShare (glue Y) : sProp 𝕄) := by
  rw [blocksW, homes_all c (blkW m) (partW (glue Y)) 0 (Or.inl rfl)]
  refine bigSep_mono fun b _ => ?_
  unfold home
  rw [part_glue Y b.val b.isLt]
  exact Idealize.SL.BI.Entails.refl _

end Cert.Proof.Run
end
-- ==== Proof.Launch.lean ====
module

public import proofs.«01_k».proof.Proof.Blocks
public import proofs.«01_k».proof.Proof.Gen.KernelIdeal.Frame
public import Idealize.ShloMosaic.Lib.Pipeline.FrameValue

/-! # The launch

The body's obligation from its run, and from it the run of the whole program: what every argument and the
result hold at the end, for any float values. -/

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rules Cert.Proof.Rings Cert.Proof.Names

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## A ring at rest -/

theorem four (Φ : Fin 4 → sProp (MT nD τ sig Unit (Elt F) ℕ UU ℕ)) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem assoc_l (P Q R : sProp (MT nD τ sig Unit (Elt F) ℕ UU ℕ)) : (iprop((P ∗ Q) ∗ R) : sProp 𝕄) ⊢ (iprop(P ∗ Q ∗ R) : sProp 𝕄) := by
  iintro ⟨⟨A, B⟩, C⟩
  isplitl [A]; · iexact A
  isplitl [B]; · iexact B
  iexact C
theorem assoc_r (P Q R : sProp (MT nD τ sig Unit (Elt F) ℕ UU ℕ)) : (iprop(P ∗ Q ∗ R) : sProp 𝕄) ⊢ (iprop((P ∗ Q) ∗ R) : sProp 𝕄) := by
  iintro ⟨A, B, C⟩
  isplitl [A B]
  · isplitl [A]; · iexact A
    iexact B
  iexact C
theorem assoc_eq (P Q R : sProp (MT nD τ sig Unit (Elt F) ℕ UU ℕ)) : (iprop((P ∗ Q) ∗ R) : sProp 𝕄) = iprop(P ∗ Q ∗ R) :=
  BI.equiv_iff.mp ⟨assoc_l P Q R, assoc_r P Q R⟩

section
variable {s : Shape} {e : EltTy} (cell : ℕ → SemLoc sig) (slot : ℕ → Memref sig .tc .vmem s e) (blk : ℕ → Memref sig .tc .hbm s e)
  (X : ℕ → s.Idx → Elt F e)

/-- The four cells of a ring at zero. -/
def zero4 : sProp 𝕄 :=
  iprop(semVal ((c : Thread nD τ), cell 0) 0 ∗ semVal ((c : Thread nD τ), cell 1) 0 ∗ semVal ((c : Thread nD τ), cell 2) 0
    ∗ semVal ((c : Thread nD τ), cell 3) 0)

theorem rest_in : (iprop(homes c blk X 0 0 ∗ (bigSep (Finset.univ : Finset (Fin 4)) fun t => anyOf c (slot t.val)) ∗ zero4 c cell) : sProp 𝕄)
    ⊢ (rest c cell slot blk X : sProp 𝕄) := by
  rw [four]
  unfold rest free zero4
  iintro ⟨H, ⟨A0, A1, A2, A3⟩, S0, S1, S2, S3⟩
  isplitl [H]; · iexact H
  isplitl [A0 S0]; · isplitl [A0]; · iexact A0
                     iexact S0
  isplitl [A1 S1]; · isplitl [A1]; · iexact A1
                     iexact S1
  isplitl [A2 S2]; · isplitl [A2]; · iexact A2
                     iexact S2
  isplitl [A3]; · iexact A3
  iexact S3

theorem rest_out : (rest c cell slot blk X : sProp 𝕄)
    ⊢ (iprop(homes c blk X 0 0 ∗ (bigSep (Finset.univ : Finset (Fin 4)) fun t => anyOf c (slot t.val)) ∗ zero4 c cell) : sProp 𝕄) := by
  rw [four]
  unfold rest free zero4
  iintro ⟨H, ⟨A0, S0⟩, ⟨A1, S1⟩, ⟨A2, S2⟩, A3, S3⟩
  isplitl [H]; · iexact H
  isplitl [A0 A1 A2 A3]
  · isplitl [A0]; · iexact A0
    isplitl [A1]; · iexact A1
    isplitl [A2]; · iexact A2
    iexact A3
  isplitl [S0]; · iexact S0
  isplitl [S1]; · iexact S1
  isplitl [S2]; · iexact S2
  iexact S3

theorem rest_eq : (rest c cell slot blk X : sProp 𝕄)
    = iprop(homes c blk X 0 0 ∗ (bigSep (Finset.univ : Finset (Fin 4)) fun t => anyOf c (slot t.val)) ∗ zero4 c cell) :=
  BI.equiv_iff.mp ⟨rest_out c cell slot blk X, rest_in c cell slot blk X⟩
end

/-- An input ring at rest is its array, its buffer at anything and its cells at zero. -/
theorem restN_eq (v : DmaSems sig S4) (a : Memref sig .tc .vmem S4x1024x512 .bf16) (b : Memref sig .tc .hbm S16384x512 .bf16)
    (X : S16384x512.Idx → Elt F .bf16) :
    (rest c (cellI v) (slotsN a) (blkN b) (partN X) : sProp 𝕄) = iprop(owns (c : Thread nD τ) b fullShare X ∗ anyOf c a ∗ zero4 c (cellI v)) := by
  rw [rest_eq, ← slotsN_any, ← blocksN]
theorem restW_eq (v : DmaSems sig S4) (a : Memref sig .tc .vmem S4x1024x1024 .f32) (b : Memref sig .tc .hbm S16384x1024 .f32)
    (X : S16384x1024.Idx → Elt F .f32) :
    (rest c (cellI v) (slotsW a) (blkW b) (partW X) : sProp 𝕄) = iprop(owns (c : Thread nD τ) b fullShare X ∗ anyOf c a ∗ zero4 c (cellI v)) := by
  rw [rest_eq, ← slotsW_any, ← blocksW]

theorem anyOf2 (a : Memref sig .tc .vmem S2x1024x1024 .f32) :
    (anyOf c a : sProp 𝕄) = iprop(anyOf c (slotsO a 0) ∗ anyOf c (slotsO a 1)) := by
  rw [slotsO_any, bigSep_univ_eq_bigSepL [(0 : Fin 2), (1 : Fin 2)] (by decide) (by decide)]
  rfl

/-! ## The program up to the region, and what the body is entered with -/

/-- @main up to the region. -/
theorem hmainD (𝒱 : Variants) : Pipeline.HMain (Ix := Unit) (Name := ℕ) (U := UU) (Lvl := ℕ) cfgs 0 defs₀ 𝒱 m (main (F := F)) (V m) :=
  Pipeline.hmain_prefix cfgs 0 defs₀ 𝒱 m main hostOps0 hostOps0_sub hostOps0_fresh main_chain

/-- The result's blocks. -/
def outs : ℕ → S1024x1024.Idx → Elt F .f32 :=
  outAt (partN (V m c main_v1)) (partN (V m c main_v2)) (partN (V m c main_v3)) (partW (V m c main_v0)) (iblk m c 0 t0_0) (iblk m c 1 t0_0)
    (iblk m c 3 t0_0) (iblk m c 5 t0_0) (cast11 (iblk m c 2 t0_0)) (cast12 (iblk m c 4 t0_0))

/-- What the buffers hold when the body has run: the result at its blocks, every other as before. -/
def G (b : Ref sig .tc) : Buf (Elt F) ((c : Thread nD τ).loc b) := Function.update (V m c) main_v5 (glue (outs m c)) b

theorem G_v5 : G m c main_v5 = glue (outs m c) := Function.update_self _ _ _

/-- The body's cells. -/
abbrev osem0 : Fin 18 → SemLoc sig := fun j => .dma (Fin.natAdd 6 j)
theorem ownSemFacts0 : Pipeline.OwnSemFacts spec0 osem0 := by decide

theorem cells1 : cellI cc0_scoped1 0 = .dma 6 ∧ cellI cc0_scoped1 1 = .dma 7 ∧ cellI cc0_scoped1 2 = .dma 8 ∧ cellI cc0_scoped1 3 = .dma 9 := by decide +kernel
theorem cells3 : cellI cc0_scoped3 0 = .dma 10 ∧ cellI cc0_scoped3 1 = .dma 11 ∧ cellI cc0_scoped3 2 = .dma 12 ∧ cellI cc0_scoped3 3 = .dma 13 := by decide +kernel
theorem cells5 : cellI cc0_scoped5 0 = .dma 14 ∧ cellI cc0_scoped5 1 = .dma 15 ∧ cellI cc0_scoped5 2 = .dma 16 ∧ cellI cc0_scoped5 3 = .dma 17 := by decide +kernel
theorem cells7 : cellI cc0_scoped7 0 = .dma 18 ∧ cellI cc0_scoped7 1 = .dma 19 ∧ cellI cc0_scoped7 2 = .dma 20 ∧ cellI cc0_scoped7 3 = .dma 21 := by decide +kernel
theorem cells9 : cellO cc0_scoped9 0 = .dma 22 ∧ cellO cc0_scoped9 1 = .dma 23 := by decide +kernel

/-- The body's cells at zero, ring by ring. -/
def zeros : sProp 𝕄 :=
  iprop(zero4 c (cellI cc0_scoped1) ∗ zero4 c (cellI cc0_scoped3) ∗ zero4 c (cellI cc0_scoped5) ∗ zero4 c (cellI cc0_scoped7)
    ∗ semVal ((c : Thread nD τ), cellO cc0_scoped9 0) 0 ∗ semVal ((c : Thread nD τ), cellO cc0_scoped9 1) 0)

theorem ownSems00_list :
    (Pipeline.ownSems0 (Ix := Unit) (Name := ℕ) (U := UU) (Lvl := ℕ) (Val := Elt F) (τ := τ) osem0 c : sProp 𝕄)
      = iprop(semVal ((c : Thread nD τ), .dma 6) 0 ∗ semVal ((c : Thread nD τ), .dma 7) 0 ∗ semVal ((c : Thread nD τ), .dma 8) 0 ∗ semVal ((c : Thread nD τ), .dma 9) 0
        ∗ semVal ((c : Thread nD τ), .dma 10) 0 ∗ semVal ((c : Thread nD τ), .dma 11) 0 ∗ semVal ((c : Thread nD τ), .dma 12) 0 ∗ semVal ((c : Thread nD τ), .dma 13) 0
        ∗ semVal ((c : Thread nD τ), .dma 14) 0 ∗ semVal ((c : Thread nD τ), .dma 15) 0 ∗ semVal ((c : Thread nD τ), .dma 16) 0 ∗ semVal ((c : Thread nD τ), .dma 17) 0
        ∗ semVal ((c : Thread nD τ), .dma 18) 0 ∗ semVal ((c : Thread nD τ), .dma 19) 0 ∗ semVal ((c : Thread nD τ), .dma 20) 0 ∗ semVal ((c : Thread nD τ), .dma 21) 0
        ∗ semVal ((c : Thread nD τ), .dma 22) 0 ∗ semVal ((c : Thread nD τ), .dma 23) 0) := by
  rw [Pipeline.ownSems0_eq_of_list c osem0 [0, 1, 2, 3, 4, 5, 6, 7, 8, 9, 10, 11, 12, 13, 14, 15, 16, 17] (by decide) (by decide)]; rfl

theorem zeros_list :
    (zeros c : sProp 𝕄) = iprop((semVal ((c : Thread nD τ), .dma 6) 0 ∗ semVal ((c : Thread nD τ), .dma 7) 0 ∗ semVal ((c : Thread nD τ), .dma 8) 0 ∗ semVal ((c : Thread nD τ), .dma 9) 0)
        ∗ (semVal ((c : Thread nD τ), .dma 10) 0 ∗ semVal ((c : Thread nD τ), .dma 11) 0 ∗ semVal ((c : Thread nD τ), .dma 12) 0 ∗ semVal ((c : Thread nD τ), .dma 13) 0)
        ∗ (semVal ((c : Thread nD τ), .dma 14) 0 ∗ semVal ((c : Thread nD τ), .dma 15) 0 ∗ semVal ((c : Thread nD τ), .dma 16) 0 ∗ semVal ((c : Thread nD τ), .dma 17) 0)
        ∗ (semVal ((c : Thread nD τ), .dma 18) 0 ∗ semVal ((c : Thread nD τ), .dma 19) 0 ∗ semVal ((c : Thread nD τ), .dma 20) 0 ∗ semVal ((c : Thread nD τ), .dma 21) 0)
        ∗ semVal ((c : Thread nD τ), .dma 22) 0 ∗ semVal ((c : Thread nD τ), .dma 23) 0) := by
  obtain ⟨a0, a1, a2, a3⟩ := cells1
  obtain ⟨b0, b1, b2, b3⟩ := cells3
  obtain ⟨d0, d1, d2, d3⟩ := cells5
  obtain ⟨e0, e1, e2, e3⟩ := cells7
  obtain ⟨f0, f1⟩ := cells9
  unfold zeros zero4
  rw [a0, a1, a2, a3, b0, b1, b2, b3, d0, d1, d2, d3, e0, e1, e2, e3, f0, f1]

theorem ownSems00_eq :
    (Pipeline.ownSems0 (Ix := Unit) (Name := ℕ) (U := UU) (Lvl := ℕ) (Val := Elt F) (τ := τ) osem0 c : sProp 𝕄) = zeros c := by
  rw [ownSems00_list, zeros_list]
  simp only [assoc_eq]

/-- The arrays the body reads by its own copies, and the one it writes. -/
def H0 : Finset (Ref sig .tc) := {main_v0, main_v1, main_v2, main_v3}
def R0 : Finset (Ref sig .tc) := {main_v5}
theorem H0_sub : H0 ⊆ Pipeline.restRefs sig spec0 := by decide
theorem R0_sub : R0 ⊆ Pipeline.restRefs sig spec0 \ H0 := by decide

/-- The body's own resources: its buffers at anything, its cells at zero, the arrays it reads, the result at `Y`. -/
def own (Y : S16384x1024.Idx → Elt F .f32) : sProp 𝕄 :=
  iprop((anyOf c (Memref.whole cc0_scratch0) ∗ anyOf c (Memref.whole cc0_scratch1) ∗ anyOf c (Memref.whole cc0_scoped0) ∗ anyOf c (Memref.whole cc0_scoped2)
      ∗ anyOf c (Memref.whole cc0_scoped4) ∗ anyOf c (Memref.whole cc0_scoped6) ∗ anyOf c (Memref.whole cc0_scoped8))
    ∗ (∃ r, prngReg c r) ∗ zeros c
    ∗ (owns (c : Thread nD τ) (Memref.whole main_v0) fullShare (V m c main_v0) ∗ owns (c : Thread nD τ) (Memref.whole main_v1) fullShare (V m c main_v1)
      ∗ owns (c : Thread nD τ) (Memref.whole main_v2) fullShare (V m c main_v2) ∗ owns (c : Thread nD τ) (Memref.whole main_v3) fullShare (V m c main_v3))
    ∗ owns (c : Thread nD τ) (Memref.whole main_v5) fullShare Y)

theorem hbmPts0_eq :
    (bigSep H0 (fun b => ((c : Thread nD τ).loc b) ↦{fullShare} V m c b) : sProp 𝕄)
      = iprop(owns (c : Thread nD τ) (Memref.whole main_v0) fullShare (V m c main_v0) ∗ owns (c : Thread nD τ) (Memref.whole main_v1) fullShare (V m c main_v1)
      ∗ owns (c : Thread nD τ) (Memref.whole main_v2) fullShare (V m c main_v2) ∗ owns (c : Thread nD τ) (Memref.whole main_v3) fullShare (V m c main_v3)) := by
  rw [BI.bigSep_eq_bigSepL_of_eq [main_v0, main_v1, main_v2, main_v3] (by decide) (by decide)]
  simp only [owns_whole]; rfl

theorem own_eq (W : (c : Dev nD) → (b : Ref sig .tc) → Buf (Elt F) ((c : Thread nD τ).loc b)) :
    (Pipeline.ΦDRG osem0 spec0 H0 R0 (V m) W c : sProp 𝕄) = own m c (W c main_v5) := by
  rw [Pipeline.ΦDRG_eq, scopedRest0_eq, ownSems00_eq, hbmPts0_eq]
  unfold Pipeline.routed
  rw [BI.bigSep_eq_bigSepL_of_eq [main_v5] (by decide) (by decide)]
  unfold own anyOf
  simp only [owns_whole, BI.bigSepL_singleton]

/-! ## The proof data and the body's obligation -/

/-- The arrays as the region finds them, every block left in place, the body's own resources, nothing owed. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := own m c (if t.val = 0 then V m c main_v5 else glue (outs m c))
  q _ := fullShare
  owed _ := 0

theorem A_eq (w : Fin cfg0.W) : (dats m 0 c).A w = V m c (Pipeline.arrRef spec0 w) := by dsimp only [dats]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem before0 (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- The windows' staging buffers at their blocks. -/
def staged (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t))

theorem own_open (Y : S16384x1024.Idx → Elt F .f32) : (own m c Y : sProp 𝕄)
    ⊢ (iprop(anyOf c (Memref.whole cc0_scratch0) ∗ anyOf c (Memref.whole cc0_scratch1)
      ∗ rest c (cellI cc0_scoped1) (slotsN (Memref.whole cc0_scoped0)) (blkN (Memref.whole main_v1)) (partN (V m c main_v1))
      ∗ rest c (cellI cc0_scoped3) (slotsN (Memref.whole cc0_scoped2)) (blkN (Memref.whole main_v2)) (partN (V m c main_v2))
      ∗ rest c (cellI cc0_scoped5) (slotsN (Memref.whole cc0_scoped4)) (blkN (Memref.whole main_v3)) (partN (V m c main_v3))
      ∗ rest c (cellI cc0_scoped7) (slotsW (Memref.whole cc0_scoped6)) (blkW (Memref.whole main_v0)) (partW (V m c main_v0))
      ∗ free c (cellO cc0_scoped9) (slotsO (Memref.whole cc0_scoped8)) 0 ∗ free c (cellO cc0_scoped9) (slotsO (Memref.whole cc0_scoped8)) 1
      ∗ (∃ r, prngReg c r) ∗ owns (c : Thread nD τ) (Memref.whole main_v5) fullShare Y) : sProp 𝕄) := by
  rw [restN_eq, restN_eq, restN_eq, restW_eq]
  unfold own zeros free
  rw [anyOf2]
  iintro ⟨⟨A0, A1, B0, B2, B4, B6, C0, C1⟩, P, ⟨Z1, Z3, Z5, Z7, Z9, Z9'⟩, ⟨W0, W1, W2, W3⟩, W5⟩
  isplitl [A0]; · iexact A0
  isplitl [A1]; · iexact A1
  isplitl [W1 B0 Z1]
  · isplitl [W1]; · iexact W1
    isplitl [B0]; · iexact B0
    iexact Z1
  isplitl [W2 B2 Z3]
  · isplitl [W2]; · iexact W2
    isplitl [B2]; · iexact B2
    iexact Z3
  isplitl [W3 B4 Z5]
  · isplitl [W3]; · iexact W3
    isplitl [B4]; · iexact B4
    iexact Z5
  isplitl [W0 B6 Z7]
  · isplitl [W0]; · iexact W0
    isplitl [B6]; · iexact B6
    iexact Z7
  isplitl [C0 Z9]
  · isplitl [C0]; · iexact C0
    iexact Z9
  isplitl [C1 Z9']
  · isplitl [C1]; · iexact C1
    iexact Z9'
  isplitl [P]; · iexact P
  iexact W5

theorem own_close (Y : S16384x1024.Idx → Elt F .f32) :
    (iprop(anyOf c (Memref.whole cc0_scratch0) ∗ anyOf c (Memref.whole cc0_scratch1)
      ∗ rest c (cellI cc0_scoped1) (slotsN (Memref.whole cc0_scoped0)) (blkN (Memref.whole main_v1)) (partN (V m c main_v1))
      ∗ rest c (cellI cc0_scoped3) (slotsN (Memref.whole cc0_scoped2)) (blkN (Memref.whole main_v2)) (partN (V m c main_v2))
      ∗ rest c (cellI cc0_scoped5) (slotsN (Memref.whole cc0_scoped4)) (blkN (Memref.whole main_v3)) (partN (V m c main_v3))
      ∗ rest c (cellI cc0_scoped7) (slotsW (Memref.whole cc0_scoped6)) (blkW (Memref.whole main_v0)) (partW (V m c main_v0))
      ∗ free c (cellO cc0_scoped9) (slotsO (Memref.whole cc0_scoped8)) 0 ∗ free c (cellO cc0_scoped9) (slotsO (Memref.whole cc0_scoped8)) 1
      ∗ (∃ r, prngReg c r) ∗ owns (c : Thread nD τ) (Memref.whole main_v5) fullShare Y) : sProp 𝕄) ⊢ (own m c Y : sProp 𝕄) := by
  rw [restN_eq, restN_eq, restN_eq, restW_eq]
  unfold own zeros free
  rw [anyOf2 c (Memref.whole cc0_scoped8)]
  iintro ⟨A0, A1, ⟨W1, B0, Z1⟩, ⟨W2, B2, Z3⟩, ⟨W3, B4, Z5⟩, ⟨W0, B6, Z7⟩, ⟨C0, Z9⟩, ⟨C1, Z9'⟩, P, W5⟩
  isplitl [A0 A1 B0 B2 B4 B6 C0 C1]
  · isplitl [A0]; · iexact A0
    isplitl [A1]; · iexact A1
    isplitl [B0]; · iexact B0
    isplitl [B2]; · iexact B2
    isplitl [B4]; · iexact B4
    isplitl [B6]; · iexact B6
    isplitl [C0]; · iexact C0
    iexact C1
  isplitl [P]; · iexact P
  isplitl [Z1 Z3 Z5 Z7 Z9 Z9']
  · isplitl [Z1]; · iexact Z1
    isplitl [Z3]; · iexact Z3
    isplitl [Z5]; · iexact Z5
    isplitl [Z7]; · iexact Z7
    isplitl [Z9]; · iexact Z9
    iexact Z9'
  isplitl [W0 W1 W2 W3]
  · isplitl [W0]; · iexact W0
    isplitl [W1]; · iexact W1
    isplitl [W2]; · iexact W2
    iexact W3
  iexact W5

theorem any_of {sp : Space} {s : Shape} {e : EltTy} (a : Memref sig .tc sp s e) (X : s.Idx → Elt F e) :
    (owns (c : Thread nD τ) a fullShare X : sProp 𝕄) ⊢ (anyOf c a : sProp 𝕄) := by
  unfold anyOf; iintro H; iexists X; iexact H
theorem owes_any (W : Waits sig Unit) : (owes (c : Thread nD τ) 0 W : sProp 𝕄) ⊢ (owesAny c : sProp 𝕄) := by
  unfold owesAny; iintro H; iexists W; iexact H

/-- The body at its one point. -/
theorem body_at (W : Waits sig Unit) :
    (iprop(own m c (V m c main_v5) ∗ owes (c : Thread nD τ) 0 W ∗ staged m c t0_0) : sProp 𝕄)
      ⊢ (wp frame (wpE (defs₀ (F := F)) 𝒱₀ (c : Thread nD τ) none) Set.univ (bodyAt0 (F := F) t0_0)
        (fun _ => iprop(own m c (glue (outs m c)) ∗ owesAny c ∗ staged m c t0_0)) : sProp 𝕄) := by
  unfold staged outs
  iintro ⟨HO, HW, S0, S1, S2, S3, S4, S5⟩
  ihave HO := (own_open m c (V m c main_v5)) $$ HO
  icases HO with ⟨A0, A1, R0, R3, R6, R8, O0, O1, P, W5⟩
  ihave W5 := (any_of c (Memref.whole main_v5) (V m c main_v5)) $$ W5
  ihave W5 := (blocksO c (Memref.whole main_v5)) $$ W5
  ihave HW := (owes_any c W) $$ HW
  iapply (body_run c (Memref.whole main_v1) (Memref.isWhole_whole _) (win0_0.stage (cfg0.slots t0_0 0)) (hstage0_0 0) (win0_1.stage (cfg0.slots t0_0 1)) (hstage0_1 0) (Memref.whole main_v2) (Memref.isWhole_whole _) (win0_2.stage (cfg0.slots t0_0 2)) (hstage0_2 0) (win0_3.stage (cfg0.slots t0_0 3)) (hstage0_3 0) (Memref.whole main_v3) (Memref.isWhole_whole _) (win0_4.stage (cfg0.slots t0_0 4)) (hstage0_4 0) (Memref.whole main_v0) (Memref.isWhole_whole _) (win0_5.stage (cfg0.slots t0_0 5)) (hstage0_5 0) (Memref.whole main_v5) (Memref.isWhole_whole _) (Memref.whole cc0_scratch0) (Memref.isWhole_whole _) (Memref.whole cc0_scratch1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (partN (V m c main_v1)) (partN (V m c main_v2)) (partN (V m c main_v3)) (partW (V m c main_v0)) (iblk m c 0 t0_0) (iblk m c 1 t0_0)
    (iblk m c 3 t0_0) (iblk m c 5 t0_0) (iblk m c 2 t0_0) (iblk m c 4 t0_0) _) $$ [S0 S1 S2 S3 S4 S5 A0 A1 R0 R3 R6 R8 O0 O1 W5 HW]
  · isplitl [S0]; · iexact S0
    isplitl [S1]; · iexact S1
    isplitl [S2]; · iexact S2
    isplitl [S3]; · iexact S3
    isplitl [S4]; · iexact S4
    isplitl [S5]; · iexact S5
    isplitl [A0]; · iexact A0
    isplitl [A1]; · iexact A1
    isplitl [R0]; · iexact R0
    isplitl [R3]; · iexact R3
    isplitl [R6]; · iexact R6
    isplitl [R8]; · iexact R8
    isplitl [W5]; · iexact W5
    isplitl [O0]; · iexact O0
    isplitl [O1]; · iexact O1
    iexact HW
  iintro ⟨S0, S1, S2, S3, S4, S5, A0, A1, R0, R3, R6, R8, W5, O0, O1, HW⟩
  ihave W5 := (blocks_glue c (Memref.whole main_v5) _) $$ W5
  isplitl [A0 A1 R0 R3 R6 R8 O0 O1 P W5]
  · iapply (own_close m c _)
    isplitl [A0]; · iexact A0
    isplitl [A1]; · iexact A1
    isplitl [R0]; · iexact R0
    isplitl [R3]; · iexact R3
    isplitl [R6]; · iexact R6
    isplitl [R8]; · iexact R8
    isplitl [O0]; · iexact O0
    isplitl [O1]; · iexact O1
    isplitl [P]; · iexact P
    iexact W5
  isplitl [HW]; · iexact HW
  isplitl [S0]; · iexact S0
  isplitl [S1]; · iexact S1
  isplitl [S2]; · iexact S2
  isplitl [S3]; · iexact S3
  isplitl [S4]; · iexact S4
  iexact S5

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t))

theorem pre_open : (bodyPre m c t0_0 : sProp 𝕄) ⊢ (iprop(∃ W, own m c (V m c main_v5) ∗ owes (c : Thread nD τ) 0 W ∗ staged m c t0_0) : sProp 𝕄) := by
  unfold bodyPre staged
  unfold Dat.owesAt Pipeline.owesWithin
  rw [show (dats m 0 c).owed t0_0.castSucc = 0 from rfl, show (dats m 0 c).Φ t0_0.castSucc = own m c (V m c main_v5) from rfl]
  simp only [before0, before1, before2, before3, before4, before5]
  iintro ⟨HO, ⟨%W, -, HW⟩, ⟨%d0, S0⟩, ⟨%d1, S1⟩, ⟨%d2, S2⟩, ⟨%d3, S3⟩, ⟨%d4, S4⟩, ⟨%d5, S5⟩⟩
  iexists W
  isplitl [HO]; · iexact HO
  isplitl [HW]; · iexact HW
  isplitl [S0]; · iexact S0
  isplitl [S1]; · iexact S1
  isplitl [S2]; · iexact S2
  isplitl [S3]; · iexact S3
  isplitl [S4]; · iexact S4
  iexact S5

theorem post_close : (iprop(own m c (glue (outs m c)) ∗ owesAny c ∗ staged m c t0_0) : sProp 𝕄) ⊢ (bodyPost m c t0_0 : sProp 𝕄) := by
  unfold bodyPost staged owesAny
  unfold Dat.owesAt Pipeline.owesWithin
  rw [show (dats m 0 c).owed t0_0.succ = 0 from rfl, show (dats m 0 c).Φ t0_0.succ = own m c (glue (outs m c)) from rfl]
  simp only [after0, after1, after2, after3, after4, after5]
  iintro ⟨HO, ⟨%W, HW⟩, S0, S1, S2, S3, S4, S5⟩
  isplitl [HO]; · iexact HO
  isplitl [HW]
  · iexists W; isplitr; · ipureintro; exact fun _ _ => Or.inl trivial
    iexact HW
  isplitl [S0]; · iexact S0
  isplitl [S1]; · iexact S1
  isplitl [S2]; · iexact S2
  isplitl [S3]; · iexact S3
  isplitl [S4]; · iexact S4
  iexact S5

theorem sound_body (t : Fin cfg0.N) :
    (bodyPre m c t : sProp 𝕄) ⊢ (wp frame (wpE (defs₀ (F := F)) 𝒱₀ (c : Thread nD τ) none) Set.univ (bodyAt0 (F := F) t) (fun _ => bodyPost m c t) : sProp 𝕄) := by
  rw [fin_N0 t]
  refine (pre_open m c).trans (Idealize.SL.BI.BIClass.exists_elim fun W => (body_at m c W).trans ?_)
  exact (wp _ _ _ _).mono fun _ => post_close m c

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmainD m 𝒱₀) (hA := A_eq m) (G := G m)
    (hin := fun c => by rw [own_eq]; exact Idealize.SL.BI.Entails.refl _)
    (hout := fun c => by rw [own_eq, G_v5]; exact Idealize.SL.BI.Entails.refl _)

/-- The program ends, the result at its blocks, every argument as launched, every counter at zero. -/
theorem run_post : θ_run defs (onTc (τ := τ) (main (F := F))) ⟨m, fun _ => 0, ρ⟩ (fun r => (∀ c : Dev nD,
      r.2.mem ((c.tc : Thread nD τ).loc main_v5) = glue (outs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    have hw (w : Fin cfg0.W) := (h.1.toR c).1 w
    have hr (b : Ref sig .tc) (h1) (h2) (h3) := (h.1.toR c).2 b (Finset.mem_sdiff.mpr ⟨Pipeline.mem_restRefs_of b h1 h2, h3⟩)
    ⟨(h.1.written c (Finset.mem_singleton_self main_v5)).trans (G_v5 m c),
      (hr main_arg0 (by decide) (by decide) (by decide)).trans (V_main_arg0 m c),
      (hw 0).trans (((dats m 0 c).arrAt_in 0 rfl _).trans ((A_eq m c 0).trans (V_main_arg1 m c))),
      (hw 1).trans (((dats m 0 c).arrAt_in 1 rfl _).trans ((A_eq m c 1).trans (V_main_arg2 m c))),
      (hr main_arg3 (by decide) (by decide) (by decide)).trans (V_main_arg3 m c),
      (hw 2).trans (((dats m 0 c).arrAt_in 2 rfl _).trans ((A_eq m c 2).trans (V_main_arg4 m c))),
      (hw 3).trans (((dats m 0 c).arrAt_in 3 rfl _).trans ((A_eq m c 3).trans (V_main_arg5 m c))),
      (hr main_arg6 (by decide) (by decide) (by decide)).trans (V_main_arg6 m c),
      (hw 4).trans (((dats m 0 c).arrAt_in 4 rfl _).trans ((A_eq m c 4).trans (V_main_arg7 m c))),
      (hr main_arg8 (by decide) (by decide) (by decide)).trans (V_main_arg8 m c),
      (hr main_arg9 (by decide) (by decide) (by decide)).trans (V_main_arg9 m c)⟩, h.2⟩) (run_main m ρ)

end Cert.Proof.Run
end
-- ==== Proof.RowValue.lean ====
/- One row of the output stage over the extended reals: the layer norm of the convolution's row with its SiLU, the pointwise
   product, the gate, the sum of the two halves' products with the output weights, the residual and the final RMS norm.
   The kernel's two payloads (the low and the high half of a block) are this function of their row. -/
module

public import proofs.«01_k».proof.Proof.Body
public import Idealize.ShloMosaic.Lib.Pointwise

@[expose] public section

noncomputable section

namespace Cert.Proof.Run

open Idealize.ShloMosaic Cert.KernelIdeal Cert.KernelIdeal.Gen

/-- `x · σ(x)`. -/
def silu (x : EReal) : EReal := x * Ideal.logistic x

/-- A row less its mean. -/
def centred (c : Fin 512 → EReal) (k : Fin 512) : EReal :=
  c k - Ideal.div (∑ t, c t) (Ideal.ofBits .f32 0x44000000#32)

/-- The layer norm of a row, scale `g` and shift `b`. -/
def layerNorm (c g b : Fin 512 → EReal) (k : Fin 512) : EReal :=
  centred c k * Ideal.rsqrt (Ideal.div (∑ t, centred c t * centred c t) (Ideal.ofBits .f32 0x44000000#32)
    + Ideal.ofBits .f32 0x3727C5AC#32) * g k + b k

/-- The gated pointwise product of a row. -/
def gated (c g b ga bp : Fin 512 → EReal) (wp : Fin 512 → Fin 512 → EReal) (k : Fin 512) : EReal :=
  ((∑ t, silu (layerNorm c g b t) * wp t k) + bp k) * silu (ga k)

/-- The residual row: the input plus the two halves' products with the output weights (`wl` above, `wh` below). -/
def resid (c g b ga bp yb : Fin 512 → EReal) (wp : Fin 512 → Fin 512 → EReal) (wl wh : Fin 512 → Fin 1024 → EReal)
    (x : Fin 1024 → EReal) (l : Fin 1024) : EReal :=
  x l + ((∑ k, gated c g b ga bp wp k * wl k l) + ∑ k, yb k * wh k l)

/-- The RMS norm of a row, scale `f`. -/
def rmsNorm (z f : Fin 1024 → EReal) (l : Fin 1024) : EReal :=
  z l * Ideal.rsqrt (Ideal.div (∑ t, z t * z t) (Ideal.ofBits .f32 0x44800000#32) + Ideal.ofBits .f32 0x358637BD#32) * f l

section
variable (x0 : Vec Ideal S512x512 .bf16) (v1 v2 v5 : Vec Ideal S1x512 .f32) (w : Vec Ideal S512x512 .bf16)
  (x3 x6 : Vec Ideal S512x512 .bf16) (wl wh : Vec Ideal S512x1024 .bf16) (x8 : Vec Ideal S512x1024 .f32) (f : Vec Ideal S1x1024 .f32)

/-- The first half's pointwise product. -/
theorem pay1_apply (r k : Fin 512) : k0_pay1 x0 v1 v2 w (ix2 r k)
    = ∑ t, silu (layerNorm (fun t => x0 (ix2 r t)) (fun t => v1 (ix2 0 t)) (fun t => v2 (ix2 0 t)) t) * w (ix2 t k) := by
  unfold silu layerNorm centred
  pointwise [k0_pay1]

/-- The second half's layer norm and SiLU. -/
theorem pay4_apply (r k : Fin 512) : k0_pay4 x0 v1 v2 (ix2 r k)
    = silu (layerNorm (fun t => x0 (ix2 r t)) (fun t => v1 (ix2 0 t)) (fun t => v2 (ix2 0 t)) k) := by
  unfold silu layerNorm centred
  pointwise [k0_pay4]

/-- A half's result row from its pointwise product `q`. -/
def tail (q bp ga yb : Fin 512 → EReal) (wl wh : Fin 512 → Fin 1024 → EReal) (x : Fin 1024 → EReal) (l : Fin 1024) : EReal :=
  x l + ((∑ k, ((q k + bp k) * silu (ga k)) * wl k l) + ∑ k, yb k * wh k l)

theorem pay3_apply (q : FVec Ideal S512x512 .f32) (r : Fin 512) (l : Fin 1024) :
    k0_pay3 (k0_pay2 q v5 x3 wl x6 wh x8) f (ix2 r l)
      = rmsNorm (tail (fun k => q (ix2 r k)) (fun t => v5 (ix2 0 t)) (fun t => x3 (ix2 r t)) (fun t => x6 (ix2 r t))
          (fun k l => wl (ix2 k l)) (fun k l => wh (ix2 k l)) (fun l => x8 (ix2 r l))) (fun l => f (ix2 0 l)) l := by
  unfold rmsNorm tail silu
  pointwise [k0_pay3, k0_pay2]

theorem pay6_apply (q : FVec Ideal S512x512 .bf16) (r : Fin 512) (l : Fin 1024) :
    k0_pay6 (k0_pay5 q w (constant S512x512 .f32 0x00000000#32) v5 x3 wl x6 wh x8) f (ix2 r l)
      = rmsNorm (tail (fun k => ∑ t, q (ix2 r t) * w (ix2 t k)) (fun t => v5 (ix2 0 t)) (fun t => x3 (ix2 r t)) (fun t => x6 (ix2 r t))
          (fun k l => wl (ix2 k l)) (fun k l => wh (ix2 k l)) (fun l => x8 (ix2 r l))) (fun l => f (ix2 0 l)) l := by
  unfold rmsNorm tail silu
  pointwise [k0_pay6, k0_pay5]
end

/-- A result row of the stage. -/
def rowOut (c g b ga bp yb : Fin 512 → EReal) (wp : Fin 512 → Fin 512 → EReal) (wo : Fin 1024 → Fin 1024 → EReal)
    (x f : Fin 1024 → EReal) : Fin 1024 → EReal :=
  rmsNorm (resid c g b ga bp yb wp (fun k => wo ⟨k.val, by omega⟩) (fun k => wo ⟨512 + k.val, by omega⟩) x) f

/-- A row of a result block is the stage's row of the block's rows. -/
theorem outBlk_row (V1 V2 V5 : S1x512.Idx → Elt Ideal .f32) (V9 : S1x1024.Idx → Elt Ideal .f32) (W11 : S512x512.Idx → Elt Ideal .bf16)
    (W12 : S1024x1024.Idx → Elt Ideal .bf16) (x0 x3 x6 : S1024x512.Idx → Elt Ideal .bf16) (x8 : S1024x1024.Idx → Elt Ideal .f32)
    (r l : Fin 1024) : outBlk V1 V2 V5 V9 W11 W12 x0 x3 x6 x8 (ix2 r l)
      = rowOut (fun t => x0 (ix2 r t)) (fun t => V1 (ix2 0 t)) (fun t => V2 (ix2 0 t)) (fun t => x3 (ix2 r t)) (fun t => V5 (ix2 0 t))
          (fun t => x6 (ix2 r t)) (fun t k => W11 (ix2 t k)) (fun k l => W12 (ix2 k l)) (fun l => x8 (ix2 r l)) (fun l => V9 (ix2 0 l)) l := by
  unfold outBlk
  by_cases h : r.val < 512
  · have e : (ix2 r l : S1024x1024.Idx) = loW.emb (ix2 (⟨r.val, h⟩ : Fin 512) l) := by
      funext a; apply Fin.ext; rw [Rect.emb_apply]; revert a
      exact Fin.forall_fin_two.mpr ⟨by show r.val = 0 + 1 * r.val; omega, by show l.val = 0 + 1 * l.val; omega⟩
    rw [Rect.overlay_of_not_mem _ _ _ (Rect.not_mem_set_of_axis hiW _ 0 512 512 rfl rfl rfl (Or.inl h)), e, Rect.overlay_emb]
    unfold halfLo
    refine (pay3_apply _ _ _ _ _ _ _ _ _ _).trans ?_
    simp only [pay1_apply]
    unfold rowOut resid gated tail
    pointwise
  · have hl : r.val < 1024 := r.isLt
    have e : (ix2 r l : S1024x1024.Idx) = hiW.emb (ix2 (⟨r.val - 512, by omega⟩ : Fin 512) l) := by
      funext a; apply Fin.ext; rw [Rect.emb_apply]; revert a
      exact Fin.forall_fin_two.mpr ⟨by show r.val = 512 + 1 * (r.val - 512); omega, by show l.val = 0 + 1 * l.val; omega⟩
    have er : (⟨512 + (r.val - 512), by omega⟩ : Fin 1024) = r := Fin.ext (by show 512 + (r.val - 512) = r.val; omega)
    rw [e, Rect.overlay_emb]
    unfold halfHi
    refine (pay6_apply _ _ _ _ _ _ _ _ _ _ _).trans ?_
    simp only [pay4_apply]
    unfold rowOut resid gated tail
    pointwise
    simp only [er]

end Cert.Proof.Run

end
-- ==== Proof.RefValue.lean ====
/- The reference's result at a position of a sequence: the stage's row (`rowOut`) of the arguments' rows there. -/
module

public import proofs.«01_k».proof.Proof.RowValue
public import proofs.«01_k».proof.Proof.Gen.ReferenceIdeal.Run

@[expose] public section

noncomputable section

namespace Cert.Proof.Ref

open Idealize.ShloMosaic Cert.ReferenceIdeal Cert.ReferenceIdeal.Gen Cert.Proof.Run

abbrev T3 := FVec Ideal S8x2048x512 .f32
abbrev R3 := FVec Ideal S8x2048x1024 .f32

/-! ### The reference's stages, in its own operations -/

/-- Each row's mean, as a column. -/
def mean (x : T3) : FVec Ideal S8x2048x1 .f32 :=
  Host.divf (broadcastInDim S8x2048x1 ![0, 1] bcast_S8x2048_S8x2048x1_0_1 (Host.reduceAdd x (constant S_ .f32 0x00000000#32) reducesTo_S8x2048x512_S8x2048_d2 h_S_))
    (broadcastInDim S8x2048x1 ![] bcast_S_S8x2048x1 (constant S_ .f32 0x44000000#32))

/-- The rows less their means. -/
def less (x : T3) : T3 := subf x (broadcastInDim S8x2048x512 ![0, 1, 2] bcast_S8x2048x1_S8x2048x512_0_1_2 (mean x))

/-- A vector along every row. -/
def along (v : FVec Ideal S1x512 .f32) : T3 :=
  broadcastInDim S8x2048x512 ![0, 1, 2] bcast_S1x1x512_S8x2048x512_0_1_2 (broadcastInDim S1x1x512 ![2] bcast_S512_S1x1x512_2 (shapeCast S512 v shapeCasts_S1x512_S512))

/-- The layer norm. -/
def norm (x : T3) (g b : FVec Ideal S1x512 .f32) : T3 :=
  addf (mulf (mulf (less x) (broadcastInDim S8x2048x512 ![0, 1, 2] bcast_S8x2048x1_S8x2048x512_0_1_2
    (Host.rsqrt (addf (mean (mulf (less x) (less x))) (broadcastInDim S8x2048x1 ![] bcast_S_S8x2048x1 (constant S_ .f32 0x3727C5AC#32)))))) (along g)) (along b)

/-- `x · σ(x)`. -/
def act (x : T3) : T3 :=
  mulf x (Host.divf (broadcastInDim S8x2048x512 ![] bcast_S_S8x2048x512 (constant S_ .f32 0x3F800000#32))
    (addf (broadcastInDim S8x2048x512 ![] bcast_S_S8x2048x512 (constant S_ .f32 0x3F800000#32)) (Host.exp (Host.negf x))))

/-- The gated pointwise product. -/
def gate (z : T3) (w : FVec Ideal S1x512x512 .f32) (bp : FVec Ideal S1x512 .f32) (ga : T3) : T3 :=
  mulf (addf (Host.dotGeneral dot_S8x2048x512_S512x512_S8x2048x512_2_0_01_1_n_n none z (shapeCast S512x512 w shapeCasts_S1x512x512_S512x512)) (along bp)) (act ga)

/-- The input plus the product of the two halves side by side with the output weights. -/
def added (x : R3) (y yb : T3) (w : FVec Ideal S1x1024x1024 .f32) : R3 :=
  addf x (Host.dotGeneral dot_S8x2048x1024_S1024x1024_S8x2048x1024_2_0_01_1_n_n none
    (concatenate S8x2048x1024 2 [⟨S8x2048x512, y⟩, ⟨S8x2048x512, yb⟩] concatenates_S8x2048x512_S8x2048x512_S8x2048x1024_d2)
    (shapeCast S1024x1024 w shapeCasts_S1x1024x1024_S1024x1024))

/-- The RMS norm. -/
def rms (z : R3) (f : FVec Ideal S1024 .f32) : R3 :=
  mulf (mulf z (broadcastInDim S8x2048x1024 ![0, 1, 2] bcast_S8x2048x1_S8x2048x1024_0_1_2
    (Host.rsqrt (addf (Host.divf (broadcastInDim S8x2048x1 ![0, 1] bcast_S8x2048_S8x2048x1_0_1
        (Host.reduceAdd (mulf z z) (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 f))

/-- The reference's result is its stages, one after the other. -/
theorem res_eq (m : (ℓ : Loc nD τ sig) → Buf (Elt Ideal) ℓ) (c : Dev nD) : Value.res_main_v55 m c
    = shapeCast S16384x1024 (rms (added (m ((c.tc : Thread nD τ).loc main_arg8))
        (gate (act (norm (extf .f32 (m ((c.tc : Thread nD τ).loc main_arg0)) bitsLt_bf16_f32) (m ((c.tc : Thread nD τ).loc main_arg1)) (m ((c.tc : Thread nD τ).loc main_arg2))))
          (m ((c.tc : Thread nD τ).loc main_arg4)) (m ((c.tc : Thread nD τ).loc main_arg5)) (extf .f32 (m ((c.tc : Thread nD τ).loc main_arg3)) bitsLt_bf16_f32))
        (extf .f32 (m ((c.tc : Thread nD τ).loc main_arg6)) bitsLt_bf16_f32) (m ((c.tc : Thread nD τ).loc main_arg7)))
        (m ((c.tc : Thread nD τ).loc main_arg9))) shapeCasts_S8x2048x1024_S16384x1024 := rfl

/-! ### The stages at an index -/

section
variable (b : Fin 8) (s : Fin 2048)

theorem less_apply (x : T3) (k : Fin 512) : less x (ix3 b s k) = centred (fun t => x (ix3 b s t)) k := by
  unfold centred
  pointwise [less, mean]

theorem norm_apply (x : T3) (g h : FVec Ideal S1x512 .f32) (k : Fin 512) :
    norm x g h (ix3 b s k) = layerNorm (fun t => x (ix3 b s t)) (fun t => g (ix2 0 t)) (fun t => h (ix2 0 t)) k := by
  unfold layerNorm
  pointwise [norm, mean, along]
  simp only [less_apply]

theorem act_apply (x : T3) (k : Fin 512) : act x (ix3 b s k) = silu (x (ix3 b s k)) := by
  unfold silu Ideal.logistic
  pointwise [act]

theorem gate_apply (z : T3) (w : FVec Ideal S1x512x512 .f32) (bp : FVec Ideal S1x512 .f32) (ga : T3) (k : Fin 512) :
    gate z w bp ga (ix3 b s k) = ((∑ t, z (ix3 b s t) * w (ix3 0 t k)) + bp (ix2 0 k)) * silu (ga (ix3 b s k)) := by
  pointwise [gate, along]
  simp only [act_apply]

theorem added_apply (x : R3) (y yb : T3) (w : FVec Ideal S1x1024x1024 .f32) (l : Fin 1024) :
    added x y yb w (ix3 b s l) = x (ix3 b s l) + ((∑ k : Fin 512, y (ix3 b s k) * w (ix3 0 ⟨k.val, by omega⟩ l))
      + ∑ k : Fin 512, yb (ix3 b s k) * w (ix3 0 ⟨512 + k.val, by omega⟩ l)) := by
  pointwise [added]

theorem rms_apply (z : R3) (f : FVec Ideal S1024 .f32) (l : Fin 1024) :
    rms z f (ix3 b s l) = rmsNorm (fun t => z (ix3 b s t)) (fun t => f (ix1 t)) l := by
  unfold rmsNorm
  pointwise [rms]
end

end Cert.Proof.Ref

end
-- ==== Proof.Equation.lean ====
/- The kernel's result is the reference's: both hold, at row `2048 b + s`, the stage's row of the arguments' rows `(b, s)`. -/
module

public import proofs.«01_k».proof.Proof.Launch
public import proofs.«01_k».proof.Proof.RefValue

@[expose] public section

set_option maxRecDepth 16384

noncomputable section

namespace Cert.Proof.Run

open Idealize.ShloMosaic Cert.KernelIdeal Cert.KernelIdeal.Gen
open Idealize.ShloMosaic.TcCoe

variable (m : (ℓ : Loc nD τ sig) → Buf (Elt Ideal) ℓ) (c : Dev nD)

/-! ### What the call finds in its operands -/

theorem V_v0 : V m c main_v0 = shapeCast S16384x1024 (m ((c : Thread nD τ).loc main_arg8)) shapeCasts_S8x2048x1024_S16384x1024 := rfl
theorem V_v1 : V m c main_v1 = shapeCast S16384x512 (m ((c : Thread nD τ).loc main_arg0)) shapeCasts_S8x2048x512_S16384x512 := rfl
theorem V_v2 : V m c main_v2 = shapeCast S16384x512 (m ((c : Thread nD τ).loc main_arg3)) shapeCasts_S8x2048x512_S16384x512 := rfl
theorem V_v3 : V m c main_v3 = shapeCast S16384x512 (m ((c : Thread nD τ).loc main_arg6)) shapeCasts_S8x2048x512_S16384x512 := rfl
theorem V_v4 : V m c main_v4 = shapeCast S1x1024 (m ((c : Thread nD τ).loc main_arg9)) shapeCasts_S1024_S1x1024 := rfl

theorem blk0 (k : Fin 512) : iblk m c 0 t0_0 (ix2 0 k) = m ((c : Thread nD τ).loc main_arg1) (ix2 0 k) := by
  rw [← V_main_arg1 m c]
  unfold iblk
  rw [View.read_apply]
  refine congrArg (V m c main_arg1) ?_
  funext a; apply Fin.ext; revert a
  exact Fin.forall_fin_two.mpr ⟨rfl, by show 0 + 1 * k.val = k.val; omega⟩

theorem blk1 (k : Fin 512) : iblk m c 1 t0_0 (ix2 0 k) = m ((c : Thread nD τ).loc main_arg2) (ix2 0 k) := by
  rw [← V_main_arg2 m c]
  unfold iblk
  rw [View.read_apply]
  refine congrArg (V m c main_arg2) ?_
  funext a; apply Fin.ext; revert a
  exact Fin.forall_fin_two.mpr ⟨rfl, by show 0 + 1 * k.val = k.val; omega⟩

theorem blk2 (t k : Fin 512) : iblk m c 2 t0_0 (ix3 0 t k) = m ((c : Thread nD τ).loc main_arg4) (ix3 0 t k) := by
  rw [← V_main_arg4 m c]
  unfold iblk
  rw [View.read_apply]
  refine congrArg (V m c main_arg4) ?_
  funext a; apply Fin.ext; revert a
  refine Fin.forall_fin_succ.mpr ⟨rfl, Fin.forall_fin_two.mpr ⟨?_, ?_⟩⟩
  · show 0 + 1 * t.val = t.val; omega
  · show 0 + 1 * k.val = k.val; omega

theorem blk3 (k : Fin 512) : iblk m c 3 t0_0 (ix2 0 k) = m ((c : Thread nD τ).loc main_arg5) (ix2 0 k) := by
  rw [← V_main_arg5 m c]
  unfold iblk
  rw [View.read_apply]
  refine congrArg (V m c main_arg5) ?_
  funext a; apply Fin.ext; revert a
  exact Fin.forall_fin_two.mpr ⟨rfl, by show 0 + 1 * k.val = k.val; omega⟩

theorem blk4 (t k : Fin 1024) : iblk m c 4 t0_0 (ix3 0 t k) = m ((c : Thread nD τ).loc main_arg7) (ix3 0 t k) := by
  rw [← V_main_arg7 m c]
  unfold iblk
  rw [View.read_apply]
  refine congrArg (V m c main_arg7) ?_
  funext a; apply Fin.ext; revert a
  refine Fin.forall_fin_succ.mpr ⟨rfl, Fin.forall_fin_two.mpr ⟨?_, ?_⟩⟩
  · show 0 + 1 * t.val = t.val; omega
  · show 0 + 1 * k.val = k.val; omega

theorem blk5 (k : Fin 1024) : iblk m c 5 t0_0 (ix2 0 k) = m ((c : Thread nD τ).loc main_arg9) (ix1 k) := by
  have h : V m c main_v4 (ix2 0 k) = m ((c : Thread nD τ).loc main_arg9) (ix1 k) := by rw [V_v4]; pointwise
  rw [← h]
  unfold iblk
  rw [View.read_apply]
  refine congrArg (V m c main_v4) ?_
  funext a; apply Fin.ext; revert a
  exact Fin.forall_fin_two.mpr ⟨rfl, by show 0 + 1 * k.val = k.val; omega⟩

/-! ### A block's rows are the arguments' -/

section
variable (b : Fin 8) (s : Fin 2048)

/-- The row `(b, s)` in the flattened arrays. -/
def flat : Fin 16384 := ⟨2048 * b.val + s.val, by omega⟩

/-- Its place in its block. -/
def place : Fin 1024 := ⟨(flat b s).val % 1024, Nat.mod_lt _ (by decide)⟩

theorem partN_row (X : S16384x512.Idx → Elt Ideal .bf16) (k : Fin 512) :
    partN X ((flat b s).val / 1024) (ix2 (place b s) k) = X (ix2 (flat b s) k) := by
  refine congrArg X ?_
  have h := (flat b s).isLt
  funext a; apply Fin.ext; rw [Rect.emb_apply]; revert a
  refine Fin.forall_fin_two.mpr ⟨?_, ?_⟩
  · show 1024 * ((flat b s).val / 1024 % 16) + 1 * ((flat b s).val % 1024) = (flat b s).val; omega
  · show 0 + 1 * k.val = k.val; omega

theorem partW_row (X : S16384x1024.Idx → Elt Ideal .f32) (k : Fin 1024) :
    partW X ((flat b s).val / 1024) (ix2 (place b s) k) = X (ix2 (flat b s) k) := by
  refine congrArg X ?_
  have h := (flat b s).isLt
  funext a; apply Fin.ext; rw [Rect.emb_apply]; revert a
  refine Fin.forall_fin_two.mpr ⟨?_, ?_⟩
  · show 1024 * ((flat b s).val / 1024 % 16) + 1 * ((flat b s).val % 1024) = (flat b s).val; omega
  · show 0 + 1 * k.val = k.val; omega

/-! A flattened array at a flattened row. -/

theorem cast_rowN {α : Type} (X : S8x2048x512.Idx → α) (k : Fin 512) :
    shapeCast S16384x512 X shapeCasts_S8x2048x512_S16384x512 (ix2 (flat b s) k) = X (ix3 b s k) := by
  have hb : (flat b s).val / 2048 = b.val := by unfold flat; simp only; omega
  have hs : (flat b s).val % 2048 = s.val := by unfold flat; simp only; omega
  pointwise
  exact congrArg X (congrArg₂ (fun p q => ix3 p q k) (Fin.ext hb) (Fin.ext hs))

theorem cast_rowW {α : Type} (X : S8x2048x1024.Idx → α) (k : Fin 1024) :
    shapeCast S16384x1024 X shapeCasts_S8x2048x1024_S16384x1024 (ix2 (flat b s) k) = X (ix3 b s k) := by
  have hb : (flat b s).val / 2048 = b.val := by unfold flat; simp only; omega
  have hs : (flat b s).val % 2048 = s.val := by unfold flat; simp only; omega
  pointwise
  exact congrArg X (congrArg₂ (fun p q => ix3 p q k) (Fin.ext hb) (Fin.ext hs))

theorem cast11_apply (V4 : S1x512x512.Idx → Elt Ideal .f32) (t k : Fin 512) : cast11 V4 (ix2 t k) = V4 (ix3 0 t k) := by
  pointwise [cast11, k0_pay7]

theorem cast12_apply (V7 : S1x1024x1024.Idx → Elt Ideal .f32) (t k : Fin 1024) : cast12 V7 (ix2 t k) = V7 (ix3 0 t k) := by
  pointwise [cast12, k0_pay8]
end

/-! ### The two results -/

/-- Equal rows give equal results. -/
theorem rowOut_congr {c c' g g' b b' ga ga' bp bp' yb yb' : Fin 512 → EReal} {wp wp' : Fin 512 → Fin 512 → EReal}
    {wo wo' : Fin 1024 → Fin 1024 → EReal} {x x' f f' : Fin 1024 → EReal} (hc : ∀ t, c t = c' t) (hg : ∀ t, g t = g' t)
    (hb : ∀ t, b t = b' t) (ha : ∀ t, ga t = ga' t) (hp : ∀ t, bp t = bp' t) (hy : ∀ t, yb t = yb' t) (hw : ∀ t k, wp t k = wp' t k)
    (ho : ∀ t k, wo t k = wo' t k) (hx : ∀ t, x t = x' t) (hf : ∀ t, f t = f' t) (l : Fin 1024) :
    rowOut c g b ga bp yb wp wo x f l = rowOut c' g' b' ga' bp' yb' wp' wo' x' f' l := by
  rw [funext hc, funext hg, funext hb, funext ha, funext hp, funext hy, funext fun t => funext (hw t), funext fun t => funext (ho t),
    funext hx, funext hf]

/-- The kernel's result at row `(b, s)`: the stage's row of the arguments' rows. -/
theorem kernel_row (b : Fin 8) (s : Fin 2048) (l : Fin 1024) : glue (outs m c) (ix2 (flat b s) l)
    = rowOut (fun t => m ((c : Thread nD τ).loc main_arg0) (ix3 b s t)) (fun t => m ((c : Thread nD τ).loc main_arg1) (ix2 0 t))
        (fun t => m ((c : Thread nD τ).loc main_arg2) (ix2 0 t)) (fun t => m ((c : Thread nD τ).loc main_arg3) (ix3 b s t))
        (fun t => m ((c : Thread nD τ).loc main_arg5) (ix2 0 t)) (fun t => m ((c : Thread nD τ).loc main_arg6) (ix3 b s t))
        (fun t k => m ((c : Thread nD τ).loc main_arg4) (ix3 0 t k)) (fun k l => m ((c : Thread nD τ).loc main_arg7) (ix3 0 k l))
        (fun l => m ((c : Thread nD τ).loc main_arg8) (ix3 b s l)) (fun l => m ((c : Thread nD τ).loc main_arg9) (ix1 l)) l := by
  have h : inBlk (ix2 (flat b s) l) = ix2 (place b s) l := by
    funext a; apply Fin.ext; revert a
    exact Fin.forall_fin_two.mpr ⟨rfl, rfl⟩
  have e : glue (outs m c) (ix2 (flat b s) l) = outs m c ((flat b s).val / 1024) (ix2 (place b s) l) := by
    rw [← h]; rfl
  rw [e]
  unfold outs outAt
  rw [outBlk_row]
  refine rowOut_congr (fun t => ?_) (fun t => blk0 m c t) (fun t => blk1 m c t) (fun t => ?_) (fun t => blk3 m c t) (fun t => ?_)
    (fun t k => (cast11_apply _ t k).trans (blk2 m c t k)) (fun k l => (cast12_apply _ k l).trans (blk4 m c k l)) (fun l => ?_) (fun l => blk5 m c l) l
  · exact (partN_row b s _ t).trans ((congrFun (V_v1 m c) _).trans (cast_rowN b s _ t))
  · exact (partN_row b s _ t).trans ((congrFun (V_v2 m c) _).trans (cast_rowN b s _ t))
  · exact (partN_row b s _ t).trans ((congrFun (V_v3 m c) _).trans (cast_rowN b s _ t))
  · exact (partW_row b s _ l).trans ((congrFun (V_v0 m c) _).trans (cast_rowW b s _ l))

/-- The reference's result at row `(b, s)`: the same function of its own arguments' rows. -/
theorem reference_row (m : (ℓ : Loc Cert.ReferenceIdeal.nD Cert.ReferenceIdeal.τ Cert.ReferenceIdeal.sig) → Buf (Elt Ideal) ℓ)
    (c : Dev Cert.ReferenceIdeal.nD) (b : Fin 8) (s : Fin 2048) (l : Fin 1024) :
    Cert.ReferenceIdeal.Value.res_main_v55 m c (ix2 (flat b s) l)
    = rowOut (fun t => m ((c.tc : Thread Cert.ReferenceIdeal.nD Cert.ReferenceIdeal.τ).loc Cert.ReferenceIdeal.main_arg0) (ix3 b s t))
        (fun t => m ((c.tc : Thread Cert.ReferenceIdeal.nD Cert.ReferenceIdeal.τ).loc Cert.ReferenceIdeal.main_arg1) (ix2 0 t))
        (fun t => m ((c.tc : Thread Cert.ReferenceIdeal.nD Cert.ReferenceIdeal.τ).loc Cert.ReferenceIdeal.main_arg2) (ix2 0 t))
        (fun t => m ((c.tc : Thread Cert.ReferenceIdeal.nD Cert.ReferenceIdeal.τ).loc Cert.ReferenceIdeal.main_arg3) (ix3 b s t))
        (fun t => m ((c.tc : Thread Cert.ReferenceIdeal.nD Cert.ReferenceIdeal.τ).loc Cert.ReferenceIdeal.main_arg5) (ix2 0 t))
        (fun t => m ((c.tc : Thread Cert.ReferenceIdeal.nD Cert.ReferenceIdeal.τ).loc Cert.ReferenceIdeal.main_arg6) (ix3 b s t))
        (fun t k => m ((c.tc : Thread Cert.ReferenceIdeal.nD Cert.ReferenceIdeal.τ).loc Cert.ReferenceIdeal.main_arg4) (ix3 0 t k))
        (fun k l => m ((c.tc : Thread Cert.ReferenceIdeal.nD Cert.ReferenceIdeal.τ).loc Cert.ReferenceIdeal.main_arg7) (ix3 0 k l))
        (fun l => m ((c.tc : Thread Cert.ReferenceIdeal.nD Cert.ReferenceIdeal.τ).loc Cert.ReferenceIdeal.main_arg8) (ix3 b s l))
        (fun l => m ((c.tc : Thread Cert.ReferenceIdeal.nD Cert.ReferenceIdeal.τ).loc Cert.ReferenceIdeal.main_arg9) (ix1 l)) l := by
  rw [Ref.res_eq]
  refine (cast_rowW b s _ l).trans ?_
  rw [Ref.rms_apply]
  unfold rowOut resid gated
  simp only [Ref.added_apply, Ref.gate_apply, Ref.act_apply, Ref.norm_apply]
  rfl

/-- Every row of the result is a row `(b, s)`. -/
theorem flat_surj (r : Fin 16384) : ∃ b s, flat b s = r :=
  ⟨⟨r.val / 2048, by omega⟩, ⟨r.val % 2048, by omega⟩, Fin.ext (by unfold flat; simp only; omega)⟩

/-- From equal arguments the two results are equal. -/
theorem kernel_eq_reference (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8))
    (h9 : m' ((c.tc : Thread Cert.ReferenceIdeal.nD Cert.ReferenceIdeal.τ).loc Cert.ReferenceIdeal.main_arg9) = m ((c : Thread nD τ).loc main_arg9)) :
    Cert.ReferenceIdeal.Value.res_main_v55 m' c = glue (outs m c) := by
  funext i
  obtain ⟨b, s, hr⟩ := flat_surj (i 0)
  have hi : i = ix2 (flat b s) (i 1) := by
    funext a; revert a
    exact Fin.forall_fin_two.mpr ⟨hr.symm, rfl⟩
  rw [hi]
  refine (reference_row m' c b s (i 1)).trans (Eq.trans ?_ (kernel_row m c b s (i 1)).symm)
  exact rowOut_congr (fun t => congrFun h0 _) (fun t => congrFun h1 _) (fun t => congrFun h2 _) (fun t => congrFun h3 _)
    (fun t => congrFun h5 _) (fun t => congrFun h6 _) (fun t k => congrFun h4 _) (fun t k => congrFun h7 _)
    (fun t => congrFun h8 _) (fun t => congrFun h9 _) _

end Cert.Proof.Run

end
-- ==== Proof.AttnMath.lean ====
/- Two softmaxes are one: over real scores, the powers of two of the scores in units of `log 2`, each times the reciprocal of their
   sum, are the exponentials of the scores over theirs. -/
module

public import Idealize.ShloMosaic.Lib.Pointwise

@[expose] public section

noncomputable section

namespace Cert.Proof.Attn

open Idealize.ShloMosaic

/-- The largest of a row of scores. -/
def top (s : Fin 2048 → EReal) : EReal := (Finset.univ : Finset (Fin 2048)).fold max (Ideal.ofBits .f32 0xFF800000#32) s

/-- A row's powers of two, shifted by its largest score. -/
def pow2 (s : Fin 2048 → EReal) (j : Fin 2048) : EReal := Ideal.exp2 (s j - top s)

/-- A row's exponentials, shifted by its largest score (the host takes the largest once more with `-∞`). -/
def expo (s : Fin 2048 → EReal) (j : Fin 2048) : EReal :=
  Ideal.exp (s j - max (Ideal.ofBits .f32 0xFF800000#32) (top s))

/-- The kernel's weights: the difference of two rows of powers, each times a reciprocal of its sum, the second scaled by `lam`. -/
def weightK (lam : EReal) (s1 s2 : Fin 2048 → EReal) (j : Fin 2048) : EReal :=
  pow2 s1 j * Ideal.div (Ideal.ofBits .f32 0x3F800000#32) (∑ t, pow2 s1 t) - pow2 s2 j * Ideal.div lam (∑ t, pow2 s2 t)

/-- The reference's weights: the first softmax less `lam` times the second. -/
def weightR (lam : EReal) (s1 s2 : Fin 2048 → EReal) (j : Fin 2048) : EReal :=
  Ideal.div (expo s1 j) (∑ t, expo s1 t) - lam * Ideal.div (expo s2 j) (∑ t, expo s2 t)

theorem bot_word : Ideal.ofBits .f32 0xFF800000#32 = (⊥ : EReal) := by
  simp [Ideal.ofBits, Ideal.ieee]

theorem one_word : Ideal.ofBits .f32 0x3F800000#32 = (1 : EReal) := by
  simp

theorem fold_coe (a : Fin 2048 → ℝ) (S : Finset (Fin 2048)) (h : S.Nonempty) :
    S.fold max (⊥ : EReal) (fun j => (a j : EReal)) = ((S.sup' h a : ℝ) : EReal) := by
  classical
  induction h using Finset.Nonempty.cons_induction with
  | singleton j => simp
  | cons j S hj hS ih =>
    rw [Finset.fold_cons, ih, Finset.sup'_cons hS]
    exact (EReal.coe_strictMono.monotone.map_max (a := a j)).symm

theorem top_coe (a : Fin 2048 → ℝ) :
    top (fun j => (a j : EReal)) = ((Finset.univ.sup' Finset.univ_nonempty a : ℝ) : EReal) := by
  unfold top; rw [bot_word]; exact fold_coe a _ _

/-- The largest of scaled scores is the scaled largest. -/
theorem sup_scale (c : ℝ) (hc : 0 ≤ c) (a : Fin 2048 → ℝ) :
    Finset.univ.sup' Finset.univ_nonempty (fun j => a j * c) = Finset.univ.sup' Finset.univ_nonempty a * c := by
  apply le_antisymm
  · exact Finset.sup'_le _ _ fun j hj => mul_le_mul_of_nonneg_right (Finset.le_sup' a hj) hc
  · obtain ⟨j, hj, e⟩ := Finset.exists_mem_eq_sup' Finset.univ_nonempty a
    rw [e]
    exact Finset.le_sup' (fun j => a j * c) hj

/-- A power of two of a score in units of `log 2` is its exponential. -/
theorem pow2_eq_expo (a : Fin 2048 → ℝ) (j : Fin 2048) :
    pow2 (fun j => ((a j * (Real.log 2)⁻¹ : ℝ) : EReal)) j = expo (fun j => (a j : EReal)) j := by
  have hl : 0 < Real.log 2 := Real.log_pos (by norm_num)
  unfold pow2 expo
  rw [top_coe, top_coe, sup_scale _ (by positivity), bot_word, max_eq_right bot_le, ← EReal.coe_sub, ← EReal.coe_sub, Ideal.exp2_coe,
    Ideal.exp_coe]
  refine congrArg Real.toEReal ?_
  show (2 : ℝ) ^ (_ : ℝ) = _
  rw [Real.rpow_def_of_pos (by norm_num)]
  refine congrArg Real.exp ?_
  field_simp

theorem coe_sum {ι : Type*} [Fintype ι] (f : ι → ℝ) : (∑ j, (f j : EReal)) = ((∑ j, f j : ℝ) : EReal) := by
  classical
  refine Finset.induction_on (Finset.univ : Finset ι) (by simp) fun j S hj ih => ?_
  rw [Finset.sum_insert hj, Finset.sum_insert hj, ih, EReal.coe_add]

/-- A row's exponentials do not sum to zero. -/
theorem sum_ne (a : Fin 2048 → ℝ) : (∑ t, expo (fun j => (a j : EReal)) t) ≠ 0 := by
  have h : ∀ t, expo (fun j => (a j : EReal)) t
      = ((Real.exp (a t - Finset.univ.sup' Finset.univ_nonempty a) : ℝ) : EReal) := fun t => by
    unfold expo
    rw [top_coe, bot_word, max_eq_right bot_le, ← EReal.coe_sub, Ideal.exp_coe]
  simp only [h]
  rw [coe_sum]
  exact_mod_cast (Finset.sum_pos (fun t _ => Real.exp_pos _) Finset.univ_nonempty).ne'

/-- The two weights are one, over real scores. -/
theorem weight_eq (lam : EReal) (a1 a2 : Fin 2048 → ℝ) :
    weightK lam (fun j => ((a1 j * (Real.log 2)⁻¹ : ℝ) : EReal)) (fun j => ((a2 j * (Real.log 2)⁻¹ : ℝ) : EReal))
      = weightR lam (fun j => (a1 j : EReal)) (fun j => (a2 j : EReal)) := by
  funext j
  unfold weightK weightR
  simp only [pow2_eq_expo]
  rw [one_word]
  unfold Ideal.div
  rw [if_neg (sum_ne a1), if_neg (sum_ne a2), if_neg (sum_ne a1), if_neg (sum_ne a2), one_mul, mul_left_comm]

end Cert.Proof.Attn

end
-- ==== Proof.AttnRow.lean ====
/- One row of the attention kernel's block over the extended reals. -/
module

public import proofs.«01_k».proof.Proof.AttnMath
public import proofs.«01_k».proof.Proof.Gen.Kernel2Ideal.Skeleton

@[expose] public section

noncomputable section

namespace Cert.Proof.Attn

open Idealize.ShloMosaic Cert.Kernel2Ideal Cert.Kernel2Ideal.Gen

/-- The scale of the second softmax. -/
def lambda (q1 k1 q2 k2 : Fin 64 → EReal) : EReal :=
  Ideal.exp (∑ t, q1 t * k1 t) - Ideal.exp (∑ t, q2 t * k2 t) + Ideal.ofBits .f32 0x3E4CCCCD#32

/-- A row of outputs from the weights and the values: the weighted sum, its RMS norm with the head's gain, the constant factor, the gate. -/
def mix (w : Fin 2048 → EReal) (v : Fin 2048 → Fin 128 → EReal) (l : Fin 128) : EReal := ∑ j, w j * v j l

def headNorm (o g : Fin 128 → EReal) (l : Fin 128) : EReal :=
  o l * Ideal.rsqrt (Ideal.div (∑ t, o t * o t) (Ideal.ofBits .f32 0x43000000#32) + Ideal.ofBits .f32 0x358637BD#32) * g l
    * Ideal.ofBits .f32 0x3F4CCCCD#32

theorem pay2_apply (P0 : Vec Ideal S4x64 .f32) : k0_pay2 P0 (ix2 0 0)
    = lambda (fun t => P0 (ix2 0 t)) (fun t => P0 (ix2 1 t)) (fun t => P0 (ix2 2 t)) (fun t => P0 (ix2 3 t)) := by
  unfold lambda
  pointwise [k0_pay2]

theorem pay3_apply (P1 : Vec Ideal S256x256 .bf16) (P2 : Vec Ideal S1x16x16x128 .bf16) (r : Fin 256) (k : Fin 128) :
    k0_pay3 P1 P2 (ix2 r k) = ∑ x : Fin 256, P1 (ix2 r x) * P2 (ix4 0 ⟨x.val / 16, by omega⟩ ⟨x.val % 16, by omega⟩ k) := by
  pointwise [k0_pay3]

theorem pay4_apply (r : Fin 256) (k : Fin 128) : k0_pay4 (ix2 r k) = if k.val < 64 then 1#1 else 0#1 := by
  pointwise [k0_pay4]
  revert k
  decide +kernel

/-- The first 64 lanes of a row, zero elsewhere; and the others. -/
def lower (f : Fin 128 → EReal) (k : Fin 128) : EReal := if k.val < 64 then f k else 0
def upper (f : Fin 128 → EReal) (k : Fin 128) : EReal := if k.val < 64 then 0 else f k

theorem select_lower (a : EReal) (r : Fin 256) (k : Fin 128) :
    Scalar.select (k0_pay4 (ix2 r k)) a 0 = if k.val < 64 then a else 0 := by
  rw [pay4_apply]
  by_cases h : k.val < 64 <;> simp [h, Scalar.select]

theorem select_upper (a : EReal) (r : Fin 256) (k : Fin 128) :
    Scalar.select (k0_pay4 (ix2 r k)) 0 a = if k.val < 64 then 0 else a := by
  rw [pay4_apply]
  by_cases h : k.val < 64 <;> simp [h, Scalar.select]

theorem pay6_apply (P1 : Vec Ideal S256x256 .bf16) (P2 : Vec Ideal S1x16x16x128 .bf16) (P3 : Vec Ideal S1x2048x128 .bf16)
    (r : Fin 256) (j : Fin 2048) :
    k0_pay6 P1 P2 P3 (ix2 r j) = ∑ k : Fin 128, lower (fun k => k0_pay3 P1 P2 (ix2 r k)) k * P3 (ix3 0 j k) := by
  pointwise [k0_pay6, k0_pay5]
  refine Finset.sum_congr rfl fun k _ => ?_
  rw [select_lower]
  unfold lower
  split <;> simp

theorem pay7_apply (P1 : Vec Ideal S256x256 .bf16) (P2 : Vec Ideal S1x16x16x128 .bf16) (r : Fin 256) (k : Fin 128) :
    k0_pay7 P1 P2 (ix2 r k) = upper (fun k => k0_pay3 P1 P2 (ix2 r k)) k := by
  pointwise [k0_pay7, k0_pay5]
  exact select_upper _ r k

/-- A masked row against a row of keys is the sum over the lanes kept. -/
theorem lower_sum (f g : Fin 128 → EReal) : ∑ k, lower f k * g k = ∑ d : Fin 64, f ⟨d.val, by omega⟩ * g ⟨d.val, by omega⟩ := by
  refine (Fin.sum_univ_add (a := 64) (b := 64) fun k : Fin (64 + 64) => lower f k * g k).trans ?_
  rw [show (∑ i : Fin 64, lower f (Fin.natAdd 64 i) * g (Fin.natAdd 64 i)) = 0 from Finset.sum_eq_zero fun i _ => by
    unfold lower; rw [if_neg (by simp), zero_mul], add_zero]
  refine Finset.sum_congr rfl fun d _ => ?_
  unfold lower
  rw [if_pos (by simp)]
  rfl

theorem upper_sum (f g : Fin 128 → EReal) : ∑ k, upper f k * g k = ∑ d : Fin 64, f ⟨64 + d.val, by omega⟩ * g ⟨64 + d.val, by omega⟩ := by
  refine (Fin.sum_univ_add (a := 64) (b := 64) fun k : Fin (64 + 64) => upper f k * g k).trans ?_
  rw [show (∑ i : Fin 64, upper f (Fin.castAdd 64 i) * g (Fin.castAdd 64 i)) = 0 from Finset.sum_eq_zero fun i _ => by
    unfold upper; rw [if_pos (by simp), zero_mul], zero_add]
  refine Finset.sum_congr rfl fun d _ => ?_
  unfold upper
  rw [if_neg (by simp)]
  rfl

theorem pay9_apply (v16 : FVec Ideal S1x1 .f32) (v31 : FVec Ideal S256x2048 .f32) (v32 : FVec Ideal S256x128 .bf16)
    (P4 : Vec Ideal S1x2048x128 .bf16) (v60 : Vec Ideal S1x1x128x2048 .bf16) (v73 : Vec Ideal S1x128 .f32) (r : Fin 256) (l : Fin 128) :
    k0_pay9 v16 v31 v32 (k0_pay8 P4) (constant S256x2048 .f32 0x00000000#32) v60 v73 (ix2 r l)
      = headNorm (mix (weightK (v16 (ix2 0 0)) (fun j => v31 (ix2 r j)) (fun j => ∑ k : Fin 128, v32 (ix2 r k) * P4 (ix3 0 j k)))
          (fun j l => v60 (ix4 0 0 l j))) (fun l => v73 (ix2 0 l)) l := by
  unfold headNorm mix weightK pow2 top
  pointwise [k0_pay9, k0_pay8]
  rfl

theorem pay1_apply (o : FVec Ideal S256x128 .f32) (gb : Vec Ideal S1x256x128 .bf16) (r : Fin 256) (l : Fin 128) :
    k0_pay1 o gb (ix3 0 r l) = o (ix2 r l) * (gb (ix3 0 r l) * Ideal.logistic (gb (ix3 0 r l))) := by
  pointwise [k0_pay1]

end Cert.Proof.Attn

end
-- ==== Proof.AttnHost.lean ====
/- What the attention call finds in its operands, at an index. -/
module

public import proofs.«01_k».proof.Proof.AttnRow
public import proofs.«01_k».proof.Proof.Gen.Kernel2Ideal.Value
public import Idealize.ShloMosaic.Lib.StableHlo.RunRead

@[expose] public section

set_option maxRecDepth 16384

noncomputable section

namespace Cert.Proof.Attn.Host

open Idealize.ShloMosaic Cert.Kernel2Ideal Cert.Kernel2Ideal.Gen
open Idealize.ShloMosaic.TcCoe

variable (m : (ℓ : Loc nD τ sig) → Buf (Elt Ideal) ℓ) (c : Dev nD)

/-! ### The host's terms -/

/-- The floored remainder, as the host writes it. -/
def remV {s : Shape} (h : S_.BroadcastsInDim s ![]) (x : IVec s 32) (d : IVec S_ 32) : IVec s 32 :=
  let d' := select (cmpi .eq d (constantI S_ 32 0#32)) (constantI S_ 32 1#32) d
  let r := Idealize.ShloMosaic.Host.remsi x (broadcastInDim s ![] h d')
  select (andi (cmpi .ne (cmpi .slt r (broadcastInDim s ![] h (constantI S_ 32 0#32)))
      (broadcastInDim s ![] h (cmpi .slt d' (constantI S_ 32 0#32)))) (cmpi .ne r (broadcastInDim s ![] h (constantI S_ 32 0#32))))
    (addi r (broadcastInDim s ![] h d')) r

/-- The floored quotient, as the host writes it. -/
def divV (x : IVec S256 32) (d : IVec S_ 32) : IVec S256 32 :=
  let q := Idealize.ShloMosaic.Host.divsi x (broadcastInDim S256 ![] bcast_S_S256 d)
  select (andi (cmpi .ne (signi x) (broadcastInDim S256 ![] bcast_S_S256 (signi d)))
      (cmpi .ne (Idealize.ShloMosaic.Host.remsi x (broadcastInDim S256 ![] bcast_S_S256 d)) (broadcastInDim S256 ![] bcast_S_S256 (constantI S_ 32 0#32))))
    (subi q (broadcastInDim S256 ![] bcast_S_S256 (constantI S_ 32 1#32))) q

/-- Whether a lane is in the first half of its head. -/
def firstV : IVec S8x2048x512 1 :=
  cmpi .slt (remV bcast_S_S8x2048x512 (iotaInDim S8x2048x512 32 2) (constantI S_ 32 128#32))
    (broadcastInDim S8x2048x512 ![] bcast_S_S8x2048x512 (constantI S_ 32 64#32))

/-- The row of the tile that stands at each row of the output. -/
def srcV : IVec S256 32 :=
  addi (muli (remV bcast_S_S256 (iotaInDim S256 32 0) (constantI S_ 32 16#32)) (broadcastInDim S256 ![] bcast_S_S256 (constantI S_ 32 16#32)))
    (divV (iotaInDim S256 32 0) (constantI S_ 32 16#32))

/-- The queries as the call takes them: scaled by an eighth over the logarithm of two. -/
def queryV (x : FVec Ideal S8x2048x512 .bf16) : FVec Ideal S8x16x128x512 .bf16 :=
  shapeCast S8x16x128x512 (truncf .bf16 (Idealize.ShloMosaic.Host.divf
    (mulf (extf .f32 x bitsLt_bf16_f32) (broadcastInDim S8x2048x512 ![] bcast_S_S8x2048x512 (constant S_ .f32 0x3E000000#32)))
    (broadcastInDim S8x2048x512 ![] bcast_S_S8x2048x512 (Idealize.ShloMosaic.Host.log (constant S_ .f32 0x40000000#32)))) bitsLt_bf16_f32)
    shapeCasts_S8x2048x512_S8x16x128x512

/-- One at one lane of a head, zero elsewhere. -/
def markV (w : BitVec 32) : FVec Ideal S8x2048x512 .bf16 :=
  truncf .bf16 (select (cmpi .eq (remV bcast_S_S8x2048x512 (iotaInDim S8x2048x512 32 2) (constantI S_ 32 128#32))
      (broadcastInDim S8x2048x512 ![] bcast_S_S8x2048x512 (constantI S_ 32 w)))
    (broadcastInDim S8x2048x512 ![] bcast_S_S8x2048x512 (constant (F := Ideal) S_ .f32 0x3F800000#32))
    (broadcastInDim S8x2048x512 ![] bcast_S_S8x2048x512 (constant (F := Ideal) S_ .f32 0x00000000#32))) bitsLt_bf16_f32

/-- The keys of the first map, and those of the second. -/
def keyLo (x : FVec Ideal S8x2048x512 .bf16) : FVec Ideal S8x2048x512 .bf16 := select firstV x (markV 64#32)
def keyHi (x : FVec Ideal S8x2048x512 .bf16) : FVec Ideal S8x2048x512 .bf16 := select firstV (markV 0#32) x

/-- A row of ones under fifteen of zeros, for every head. -/
def onesV : FVec Ideal S8x4x16x2048 .bf16 :=
  truncf .bf16 (select (cmpi .eq (iotaInDim S8x4x16x2048 32 2) (broadcastInDim S8x4x16x2048 ![] bcast_S_S8x4x16x2048 (constantI S_ 32 0#32)))
    (broadcastInDim S8x4x16x2048 ![] bcast_S_S8x4x16x2048 (constant (F := Ideal) S_ .f32 0x3F800000#32))
    (broadcastInDim S8x4x16x2048 ![] bcast_S_S8x4x16x2048 (constant (F := Ideal) S_ .f32 0x00000000#32))) bitsLt_bf16_f32

/-- The values, transposed, over those rows. -/
def valueV (x : FVec Ideal S8x2048x512 .bf16) (y : FVec Ideal S8x4x16x2048 .bf16) : FVec Ideal S8x4x144x2048 .bf16 :=
  concatenate S8x4x144x2048 2 [⟨S8x4x128x2048, transpose S8x4x128x2048 [0, 2, 3, 1]
    (shapeCast S8x2048x4x128 x shapeCasts_S8x2048x512_S8x2048x4x128) transposes_S8x2048x4x128_S8x4x128x2048_0_2_3_1⟩,
    ⟨S8x4x16x2048, y⟩] concatenates_S8x4x128x2048_S8x4x16x2048_S8x4x144x2048_d2

/-- The four rows the difference's factor is made of. -/
def lamV (a b d e : FVec Ideal S1x64 .f32) : FVec Ideal S4x64 .f32 :=
  concatenate S4x64 0 [⟨S1x64, a⟩, ⟨S1x64, b⟩, ⟨S1x64, d⟩, ⟨S1x64, e⟩] concatenates_S1x64_S1x64_S1x64_S1x64_S4x64_d0

/-- The permutation of a tile's rows. -/
def permV : FVec Ideal S256x256 .bf16 :=
  truncf .bf16 (uitofp (F := Ideal) .f32 (cmpi .eq
    (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (broadcastInDim S256x1 ![0] bcast_S256_S256x1_0 srcV)))) bitsLt_bf16_f32

/-! ### The operands are those terms -/

theorem V_v19 : V m c main_v19 = keyLo (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v20 : V m c main_v20 = keyHi (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v28 : V m c main_v28 = valueV (m ((c : Thread nD τ).loc main_arg2)) onesV := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v29 : V m c main_v29 = lamV (m ((c : Thread nD τ).loc main_arg4)) (m ((c : Thread nD τ).loc main_arg5)) (m ((c : Thread nD τ).loc main_arg6)) (m ((c : Thread nD τ).loc main_arg7)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v30 : V m c main_v30 = queryV (m ((c : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v43 : V m c main_v43 = permV := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

end Cert.Proof.Attn.Host

end
-- ==== Proof.AttnRead.lean ====
/- The attention call's operands at an index. -/
module

public import proofs.«01_k».proof.Proof.AttnHost

@[expose] public section

set_option maxRecDepth 16384

noncomputable section

namespace Cert.Proof.Attn.Host

open Idealize.ShloMosaic Cert.Kernel2Ideal Cert.Kernel2Ideal.Gen
open Idealize.ShloMosaic.TcCoe

theorem firstV_apply (b : Fin 8) (j : Fin 2048) (n : Fin 512) : firstV (ix3 b j n) = if n.val % 128 < 64 then 1#1 else 0#1 := by
  pointwise [firstV, remV]
  revert n
  decide +kernel

theorem srcV_apply (r : Fin 256) : srcV (ix1 r) = BitVec.ofNat 32 (r.val % 16 * 16 + r.val / 16) := by
  pointwise [srcV, remV, divV]
  revert r
  decide +kernel

theorem keyLo_apply (x : FVec Ideal S8x2048x512 .bf16) (b : Fin 8) (j : Fin 2048) (n : Fin 512) (h : n.val % 128 < 64) :
    keyLo x (ix3 b j n) = x (ix3 b j n) := by
  unfold keyLo
  have e := firstV_apply b j n
  rw [if_pos h] at e
  show Scalar.select (firstV (ix3 b j n)) _ _ = _
  rw [e]
  rfl

theorem keyHi_apply (x : FVec Ideal S8x2048x512 .bf16) (b : Fin 8) (j : Fin 2048) (n : Fin 512) (h : ¬ n.val % 128 < 64) :
    keyHi x (ix3 b j n) = x (ix3 b j n) := by
  unfold keyHi
  have e := firstV_apply b j n
  rw [if_neg h] at e
  show Scalar.select (firstV (ix3 b j n)) _ _ = _
  rw [e]
  rfl

theorem lamV_0 (a b d e : FVec Ideal S1x64 .f32) (t : Fin 64) : lamV a b d e (ix2 0 t) = a (ix2 0 t) := by pointwise [lamV]
theorem lamV_1 (a b d e : FVec Ideal S1x64 .f32) (t : Fin 64) : lamV a b d e (ix2 1 t) = b (ix2 0 t) := by pointwise [lamV]
theorem lamV_2 (a b d e : FVec Ideal S1x64 .f32) (t : Fin 64) : lamV a b d e (ix2 2 t) = d (ix2 0 t) := by pointwise [lamV]
theorem lamV_3 (a b d e : FVec Ideal S1x64 .f32) (t : Fin 64) : lamV a b d e (ix2 3 t) = e (ix2 0 t) := by pointwise [lamV]

theorem valueV_apply (x : FVec Ideal S8x2048x512 .bf16) (y : FVec Ideal S8x4x16x2048 .bf16) (b : Fin 8) (h : Fin 4) (l : Fin 128) (j : Fin 2048) :
    valueV x y (ix4 b h ⟨l.val, by omega⟩ j) = x (ix3 b j ⟨h.val * 128 + l.val, by omega⟩) := by
  pointwise [valueV]

/-- A query's entry: the argument's by an eighth over the logarithm of two. -/
def entry (x : EReal) : EReal := Ideal.div (x * Ideal.ofBits .f32 0x3E000000#32) (Ideal.log (Ideal.ofBits .f32 0x40000000#32))

theorem scaled_apply (x : FVec Ideal S8x2048x512 .bf16) (i : S8x2048x512.Idx) :
    (truncf .bf16 (Idealize.ShloMosaic.Host.divf
    (mulf (extf .f32 x bitsLt_bf16_f32) (broadcastInDim S8x2048x512 ![] bcast_S_S8x2048x512 (constant S_ .f32 0x3E000000#32)))
    (broadcastInDim S8x2048x512 ![] bcast_S_S8x2048x512 (Idealize.ShloMosaic.Host.log (constant S_ .f32 0x40000000#32)))) bitsLt_bf16_f32
      : FVec Ideal S8x2048x512 .bf16) i = entry (x i) := rfl

theorem cast_apply (y : FVec Ideal S8x2048x512 .bf16) (b : Fin 8) (u : Fin 16) (v : Fin 128) (n : Fin 512) :
    shapeCast S8x16x128x512 y shapeCasts_S8x2048x512_S8x16x128x512 (ix4 b u v n) = y (ix3 b ⟨u.val * 128 + v.val, by omega⟩ n) := by
  pointwise

theorem queryV_apply (x : FVec Ideal S8x2048x512 .bf16) (b : Fin 8) (u : Fin 16) (v : Fin 128) (n : Fin 512) :
    queryV x (ix4 b u v n) = entry (x (ix3 b ⟨u.val * 128 + v.val, by omega⟩ n)) :=
  (cast_apply _ b u v n).trans (scaled_apply x _)

theorem permV_apply (r x : Fin 256) : permV (ix2 r x) = if x.val = r.val % 16 * 16 + r.val / 16 then (1 : EReal) else 0 := by
  have e := srcV_apply r
  unfold permV
  generalize srcV = s at e
  have h : (cmpi .eq
    (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (broadcastInDim S256x1 ![0] bcast_S256_S256x1_0 s))) (ix2 r x)
      = if x.val = r.val % 16 * 16 + r.val / 16 then 1#1 else 0#1 := by
    pointwise
    rw [e]
    have h1 : r.val % 16 * 16 + r.val / 16 < 256 := by omega
    generalize r.val % 16 * 16 + r.val / 16 = k at h1
    have hk : (BitVec.ofNat 32 x.val = BitVec.ofNat 32 k) ↔ x.val = k := by
      have hx := x.isLt
      rw [← BitVec.toNat_inj, BitVec.toNat_ofNat, BitVec.toNat_ofNat]
      omega
    show BitVec.ofBool (BitVec.ofNat 32 x.val == BitVec.ofNat 32 k) = _
    by_cases g : x.val = k
    · rw [if_pos g, hk.mpr g]; simp
    · rw [if_neg g, beq_eq_false_iff_ne.mpr (mt hk.mp g)]; rfl
  show ((((cmpi .eq _ _ : IVec S256x256 1) (ix2 r x)).toNat : ℝ) : EReal) = _
  rw [h]
  split <;> simp

end Cert.Proof.Attn.Host

end
-- ==== Proof.AttnReal.lean ====
/- Scores of real queries and keys, in both scalings; and what the precondition says. -/
module

public import proofs.«01_k».proof.Proof.AttnRead
public import proofs.«01_k».proof.Proof.Gen.Pre_finite

@[expose] public section

noncomputable section

namespace Cert.Proof.Attn

open Idealize.ShloMosaic

theorem eighth_word : Ideal.ofBits .f32 0x3E000000#32 = ((1 / 8 : ℝ) : EReal) := by
  simp [Ideal.ofBits, Ideal.ieee]
  rw [← EReal.coe_mul]
  norm_num

theorem two_word : Ideal.ofBits .f32 0x40000000#32 = ((2 : ℝ) : EReal) := by
  simp [Ideal.ofBits, Ideal.ieee]
  rw [← EReal.coe_mul]
  norm_num

theorem top_word : Ideal.ofBits .f32 0x7F800000#32 = (⊤ : EReal) := by
  simp [Ideal.ofBits, Ideal.ieee]

theorem entry_coe (q : ℝ) : Host.entry (q : EReal) = ((q * (1 / 8) * (Real.log 2)⁻¹ : ℝ) : EReal) := by
  have hl : Real.log 2 ≠ 0 := (Real.log_pos (by norm_num)).ne'
  unfold Host.entry
  rw [eighth_word, two_word, Ideal.log_coe, if_neg (by norm_num), ← EReal.coe_mul, Ideal.div_coe hl, ← EReal.coe_mul, one_div (Real.log 2)]

/-- A real query against a real key. -/
def dot (q k : Fin 64 → ℝ) : ℝ := (∑ d, q d * k d) * (1 / 8)

theorem dot_kernel (q k : Fin 64 → ℝ) : (∑ d, Host.entry (q d : EReal) * (k d : EReal)) = ((dot q k * (Real.log 2)⁻¹ : ℝ) : EReal) := by
  simp only [entry_coe, ← EReal.coe_mul]
  rw [coe_sum]
  refine congrArg Real.toEReal ?_
  unfold dot
  rw [Finset.sum_mul, Finset.sum_mul]
  exact Finset.sum_congr rfl fun d _ => by ring

theorem dot_reference (q k : Fin 64 → ℝ) :
    (∑ d, (q d : EReal) * (k d : EReal)) * Ideal.ofBits .f32 0x3E000000#32 = ((dot q k : ℝ) : EReal) := by
  simp only [← EReal.coe_mul]
  rw [coe_sum, eighth_word, ← EReal.coe_mul]
  rfl

/-- A number whose absolute value is below infinity is real. -/
theorem real_of_abs (x : EReal) (h : Ideal.cmp .olt (max x (-x)) (Ideal.ofBits .f32 0x7F800000#32) = 1#1) : ∃ r : ℝ, x = (r : EReal) := by
  rw [top_word] at h
  induction x using EReal.rec with
  | bot => simp [Ideal.cmp] at h
  | coe r => exact ⟨r, rfl⟩
  | top => simp [Ideal.cmp] at h

/-- What the precondition says of the queries and the keys. -/
theorem real_of_pre (x0 x1 x2 x3 : FVec Ideal Cert.Pre_finite.S8x2048x512 .bf16) (x4 x5 x6 x7 : FVec Ideal Cert.Pre_finite.S1x64 .f32)
    (x8 : FVec Ideal Cert.Pre_finite.S1x128 .f32) (i : Cert.Pre_finite.S8x2048x512.Idx)
    (h : @Cert.Pre_finite.fn Cert.Pre_finite.Gen.facts Ideal _ x0 x1 x2 x3 x4 x5 x6 x7 x8 i = 1#1) :
    (∃ r : ℝ, x0 i = (r : EReal)) ∧ ∃ r : ℝ, x1 i = (r : EReal) := by
  have h' : Ideal.cmp .olt (max (x0 i) (-(x0 i))) (Ideal.ofBits .f32 0x7F800000#32)
      &&& Ideal.cmp .olt (max (x1 i) (-(x1 i))) (Ideal.ofBits .f32 0x7F800000#32) = 1#1 := h
  have key : ∀ a b : BitVec 1, a &&& b = 1#1 → a = 1#1 ∧ b = 1#1 := by decide
  exact ⟨real_of_abs _ (key _ _ h').1, real_of_abs _ (key _ _ h').2⟩

end Cert.Proof.Attn

end
-- ==== Proof.AttnRef.lean ====
/- The reference attention, read at one query's row of one head. -/
module

public import proofs.«01_k».proof.Proof.AttnRow
public import proofs.«01_k».proof.Proof.Gen.Reference2Ideal.Read

@[expose] public section

noncomputable section

namespace Cert.Proof.Attn.Ref

open Idealize.ShloMosaic Cert.Reference2Ideal Cert.Reference2Ideal.Gen Cert.Reference2Ideal.Read

variable (x0 x1 x2 x3 : FVec Ideal S8x2048x512 .bf16) (x4 x5 x6 x7 : FVec Ideal S1x64 .f32) (x8 : FVec Ideal S1x128 .f32)

/-- Lane `d` of head `h`'s half `p`; lane `l` of head `h`. -/
def sub (h : Fin 4) (p : Fin 2) (d : Fin 64) : Fin 512 := ⟨h.val * 128 + p.val * 64 + d.val, by omega⟩
def lane (h : Fin 4) (l : Fin 128) : Fin 512 := ⟨h.val * 128 + l.val, by omega⟩

theorem q1_apply (b : Fin 8) (h : Fin 4) (s : Fin 2048) (d : Fin 64) :
    val_main_v23 (F := Ideal) x0 (ix4 b h s d) = x0 (ix3 b s (sub h 0 d)) := by
  pointwise [val_main_v23, val_main_v22, val_main_v5, val_main_v4, val_main_v0]
  exact congrArg (fun t => x0 (ix3 b s t)) (Fin.ext (by simp [sub]))

theorem q2_apply (b : Fin 8) (h : Fin 4) (s : Fin 2048) (d : Fin 64) :
    val_main_v30 (F := Ideal) x0 (ix4 b h s d) = x0 (ix3 b s (sub h 1 d)) := by
  pointwise [val_main_v30, val_main_v29, val_main_v5, val_main_v4, val_main_v0]
  exact congrArg (fun t => x0 (ix3 b s t)) (Fin.ext (by simp [sub]))

theorem k1_apply (b : Fin 8) (h : Fin 4) (s : Fin 2048) (d : Fin 64) :
    val_main_v25 (F := Ideal) x1 (ix4 b h s d) = x1 (ix3 b s (sub h 0 d)) := q1_apply x1 b h s d

theorem k2_apply (b : Fin 8) (h : Fin 4) (s : Fin 2048) (d : Fin 64) :
    val_main_v32 (F := Ideal) x1 (ix4 b h s d) = x1 (ix3 b s (sub h 1 d)) := q2_apply x1 b h s d

theorem v_apply (b : Fin 8) (h : Fin 4) (s : Fin 2048) (l : Fin 128) :
    val_main_v9 (F := Ideal) x2 (ix4 b h s l) = x2 (ix3 b s (lane h l)) := by
  pointwise [val_main_v9, val_main_v8, val_main_v2]
  rfl

theorem s1_apply (b : Fin 8) (h : Fin 4) (s j : Fin 2048) :
    val_main_v28 (F := Ideal) x0 x1 (ix4 b h s j)
      = (∑ d : Fin 64, x0 (ix3 b s (sub h 0 d)) * x1 (ix3 b j (sub h 0 d))) * Ideal.ofBits .f32 0x3E000000#32 := by
  pointwise [val_main_v28, val_main_v27, val_main_v26, val_main_cst_2]
  simp only [q1_apply, k1_apply]

theorem s2_apply (b : Fin 8) (h : Fin 4) (s j : Fin 2048) :
    val_main_v35 (F := Ideal) x0 x1 (ix4 b h s j)
      = (∑ d : Fin 64, x0 (ix3 b s (sub h 1 d)) * x1 (ix3 b j (sub h 1 d))) * Ideal.ofBits .f32 0x3E000000#32 := by
  pointwise [val_main_v35, val_main_v34, val_main_v33, val_main_cst_3]
  simp only [q2_apply, k2_apply]

theorem e1m_apply (b : Fin 8) (h : Fin 4) (s : Fin 2048) :
    val_main_v38 (F := Ideal) x0 x1 (ix3 b h s)
      = max (Ideal.ofBits .f32 0xFF800000#32) (top (fun j => val_main_v28 (F := Ideal) x0 x1 (ix4 b h s j))) := by
  have hm : val_main_v36 (F := Ideal) x0 x1 (ix3 b h s) = top (fun j => val_main_v28 (F := Ideal) x0 x1 (ix4 b h s j)) := by
    unfold top val_main_v36 val_main_cst_4
    generalize val_main_v28 (F := Ideal) x0 x1 = Y
    pointwise
  rw [← hm, val_main_v38_apply, val_main_v37_apply, val_main_cst_5_apply, Ideal.maximumf_def, Ideal.ofBits_def]

theorem e1b_apply (b : Fin 8) (h : Fin 4) (s j : Fin 2048) :
    val_main_v40 (F := Ideal) x0 x1 (ix4 b h s j) = val_main_v38 (F := Ideal) x0 x1 (ix3 b h s) := by
  unfold val_main_v40 val_main_v39
  generalize val_main_v38 (F := Ideal) x0 x1 = Y
  pointwise

theorem e1_apply (b : Fin 8) (h : Fin 4) (s j : Fin 2048) :
    val_main_v42 (F := Ideal) x0 x1 (ix4 b h s j) = expo (fun j => val_main_v28 (F := Ideal) x0 x1 (ix4 b h s j)) j := by
  unfold expo
  rw [← e1m_apply, ← e1b_apply x0 x1 b h s j, val_main_v42_apply, val_main_v41_apply, Ideal.hostUnary_exp_def, Ideal.subf_def]

theorem e2m_apply (b : Fin 8) (h : Fin 4) (s : Fin 2048) :
    val_main_v49 (F := Ideal) x0 x1 (ix3 b h s)
      = max (Ideal.ofBits .f32 0xFF800000#32) (top (fun j => val_main_v35 (F := Ideal) x0 x1 (ix4 b h s j))) := by
  have hm : val_main_v47 (F := Ideal) x0 x1 (ix3 b h s) = top (fun j => val_main_v35 (F := Ideal) x0 x1 (ix4 b h s j)) := by
    unfold top val_main_v47 val_main_cst_7
    generalize val_main_v35 (F := Ideal) x0 x1 = Y
    pointwise
  rw [← hm, val_main_v49_apply, val_main_v48_apply, val_main_cst_8_apply, Ideal.maximumf_def, Ideal.ofBits_def]

theorem e2b_apply (b : Fin 8) (h : Fin 4) (s j : Fin 2048) :
    val_main_v51 (F := Ideal) x0 x1 (ix4 b h s j) = val_main_v49 (F := Ideal) x0 x1 (ix3 b h s) := by
  unfold val_main_v51 val_main_v50
  generalize val_main_v49 (F := Ideal) x0 x1 = Y
  pointwise

theorem e2_apply (b : Fin 8) (h : Fin 4) (s j : Fin 2048) :
    val_main_v53 (F := Ideal) x0 x1 (ix4 b h s j) = expo (fun j => val_main_v35 (F := Ideal) x0 x1 (ix4 b h s j)) j := by
  unfold expo
  rw [← e2m_apply, ← e2b_apply x0 x1 b h s j, val_main_v53_apply, val_main_v52_apply, Ideal.hostUnary_exp_def, Ideal.subf_def]

theorem lam_apply (i : S_.Idx) : val_main_v21 (F := Ideal) x4 x5 x6 x7 i
    = lambda (fun t => x4 (ix2 0 t)) (fun t => x5 (ix2 0 t)) (fun t => x6 (ix2 0 t)) (fun t => x7 (ix2 0 t)) := by
  unfold lambda
  pointwise [val_main_v21, val_main_v20, val_main_cst_1, val_main_v19, val_main_v18, val_main_cst_0, val_main_v17, val_main_v16,
    val_main_v15, val_main_v14, val_main_v13, val_main_cst, val_main_v12, val_main_v11, val_main_v10]

theorem e1n_apply (b : Fin 8) (h : Fin 4) (s j : Fin 2048) :
    val_main_v45 (F := Ideal) x0 x1 (ix4 b h s j) = ∑ t, val_main_v42 (F := Ideal) x0 x1 (ix4 b h s t) := by
  unfold val_main_v45 val_main_v44 val_main_v43 val_main_cst_6
  generalize val_main_v42 (F := Ideal) x0 x1 = Y
  pointwise

theorem e2n_apply (b : Fin 8) (h : Fin 4) (s j : Fin 2048) :
    val_main_v56 (F := Ideal) x0 x1 (ix4 b h s j) = ∑ t, val_main_v53 (F := Ideal) x0 x1 (ix4 b h s t) := by
  unfold val_main_v56 val_main_v55 val_main_v54 val_main_cst_9
  generalize val_main_v53 (F := Ideal) x0 x1 = Y
  pointwise

theorem w_apply (b : Fin 8) (h : Fin 4) (s j : Fin 2048) :
    val_main_v60 (F := Ideal) x0 x1 x4 x5 x6 x7 (ix4 b h s j)
      = weightR (lambda (fun t => x4 (ix2 0 t)) (fun t => x5 (ix2 0 t)) (fun t => x6 (ix2 0 t)) (fun t => x7 (ix2 0 t)))
          (fun j => val_main_v28 (F := Ideal) x0 x1 (ix4 b h s j)) (fun j => val_main_v35 (F := Ideal) x0 x1 (ix4 b h s j)) j := by
  unfold weightR
  simp only [← e1_apply, ← e2_apply]
  rw [val_main_v60_apply, val_main_v59_apply, val_main_v58_apply, lam_apply, val_main_v57_apply, val_main_v46_apply, e1n_apply, e2n_apply]
  simp only [Ideal.mulf_def, Ideal.subf_def, Ideal.hostDivf_def]

theorem o_apply (b : Fin 8) (h : Fin 4) (s : Fin 2048) (l : Fin 128) :
    val_main_v61 (F := Ideal) x0 x1 x2 x4 x5 x6 x7 (ix4 b h s l)
      = mix (fun j => val_main_v60 (F := Ideal) x0 x1 x4 x5 x6 x7 (ix4 b h s j)) (fun j l => x2 (ix3 b j (lane h l))) l := by
  unfold mix
  simp only [← v_apply, val_main_v61]
  generalize val_main_v60 (F := Ideal) x0 x1 x4 x5 x6 x7 = Y
  generalize val_main_v9 (F := Ideal) x2 = Z
  pointwise

/-- The query whose output stands at position `s`. -/
def query (s : Fin 2048) : Fin 2048 := ⟨s.val % 16 * 128 + s.val / 16, by omega⟩

theorem order_apply (b : Fin 8) (s : Fin 2048) (h : Fin 4) (l : Fin 128) :
    val_main_v64 (F := Ideal) x0 x1 x2 x4 x5 x6 x7 (ix4 b s h l) = val_main_v61 (F := Ideal) x0 x1 x2 x4 x5 x6 x7 (ix4 b h (query s) l) := by
  pointwise [val_main_v64, val_main_v63, val_main_v62]
  rfl

/-- A row of weighted sums, at its place in the output. -/
def mixed (b : Fin 8) (s : Fin 2048) (h : Fin 4) (t : Fin 128) : EReal := val_main_v64 (F := Ideal) x0 x1 x2 x4 x5 x6 x7 (ix4 b s h t)

theorem sq_apply (b : Fin 8) (s : Fin 2048) (h : Fin 4) :
    val_main_v67 (F := Ideal) x0 x1 x2 x4 x5 x6 x7 (ix3 b s h)
      = ∑ t, mixed x0 x1 x2 x4 x5 x6 x7 b s h t * mixed x0 x1 x2 x4 x5 x6 x7 b s h t := by
  have hs : val_main_v67 (F := Ideal) x0 x1 x2 x4 x5 x6 x7 (ix3 b s h)
      = ∑ t, val_main_v66 (F := Ideal) x0 x1 x2 x4 x5 x6 x7 (ix4 b s h t) := by
    rw [val_main_v67_apply, val_main_cst_10_apply, Ideal.ofBits_def, Ideal.ofBits_zero_f32, zero_add]
    refine Finset.sum_congr rfl fun t _ => congrArg (val_main_v66 (F := Ideal) x0 x1 x2 x4 x5 x6 x7) ?_
    funext a
    match a with
    | ⟨0, _⟩ => rfl
    | ⟨1, _⟩ => rfl
    | ⟨2, _⟩ => rfl
    | ⟨3, _⟩ => rfl
  rw [hs]
  refine Finset.sum_congr rfl fun t _ => ?_
  rw [val_main_v66_apply, Ideal.mulf_def]
  unfold mixed
  with_reducible rfl

theorem sqb_apply (b : Fin 8) (s : Fin 2048) (h : Fin 4) :
    val_main_v68 (F := Ideal) x0 x1 x2 x4 x5 x6 x7 (ix4 b s h 0) = val_main_v67 (F := Ideal) x0 x1 x2 x4 x5 x6 x7 (ix3 b s h) := by
  unfold val_main_v68
  generalize val_main_v67 (F := Ideal) x0 x1 x2 x4 x5 x6 x7 = Y
  pointwise

theorem rb_apply (b : Fin 8) (s : Fin 2048) (h : Fin 4) (l : Fin 128) :
    val_main_v74 (F := Ideal) x0 x1 x2 x4 x5 x6 x7 (ix4 b s h l) = val_main_v73 (F := Ideal) x0 x1 x2 x4 x5 x6 x7 (ix4 b s h 0) := by
  unfold val_main_v74
  generalize val_main_v73 (F := Ideal) x0 x1 x2 x4 x5 x6 x7 = Y
  pointwise

theorem g_apply (b : Fin 8) (s : Fin 2048) (h : Fin 4) (l : Fin 128) :
    val_main_v77 (F := Ideal) x8 (ix4 b s h l) = x8 (ix2 0 l) := by
  pointwise [val_main_v77, val_main_v76, val_main_v65]

theorem norm_apply (b : Fin 8) (s : Fin 2048) (h : Fin 4) (l : Fin 128) :
    val_main_v80 (F := Ideal) x0 x1 x2 x4 x5 x6 x7 x8 (ix4 b s h l)
      = headNorm (mixed x0 x1 x2 x4 x5 x6 x7 b s h) (fun l => x8 (ix2 0 l)) l := by
  have hm : val_main_v64 (F := Ideal) x0 x1 x2 x4 x5 x6 x7 (ix4 b s h l) = mixed x0 x1 x2 x4 x5 x6 x7 b s h l := by unfold mixed; with_reducible rfl
  unfold headNorm
  rw [val_main_v80_apply, val_main_v79_apply, val_main_cst_13_apply, val_main_v78_apply, g_apply, val_main_v75_apply, rb_apply,
    val_main_v73_apply, val_main_v72_apply, val_main_v71_apply, val_main_cst_12_apply, val_main_v70_apply, val_main_v69_apply,
    val_main_cst_11_apply, sqb_apply, sq_apply, hm]
  simp only [Ideal.mulf_def, Ideal.hostUnary_rsqrt_def, Ideal.addf_def, Ideal.hostDivf_def, Ideal.ofBits_def]

theorem flat_apply (b : Fin 8) (s : Fin 2048) (h : Fin 4) (l : Fin 128) :
    val_main_v81 (F := Ideal) x0 x1 x2 x4 x5 x6 x7 x8 (ix3 b s (lane h l))
      = val_main_v80 (F := Ideal) x0 x1 x2 x4 x5 x6 x7 x8 (ix4 b s h l) := by
  have e1 : (lane h l).val / 128 = h.val := by simp only [lane]; omega
  have e2 : (lane h l).val % 128 = l.val := by simp only [lane]; omega
  unfold val_main_v81
  generalize val_main_v80 (F := Ideal) x0 x1 x2 x4 x5 x6 x7 x8 = Y
  generalize lane h l = n at e1 e2 ⊢
  pointwise
  exact congrArg Y (congrArg₂ (fun p q => ix4 b s p q) (Fin.ext e1) (Fin.ext e2))

theorem gate_apply (i : S8x2048x512.Idx) : val_main_v82 (F := Ideal) x3 i = x3 i * Ideal.logistic (x3 i) := by
  rw [val_main_v82_apply, val_main_call0_v5_apply, val_main_call0_v4_apply, val_main_call0_cst_0_apply, val_main_call0_v3_apply,
    val_main_call0_v2_apply, val_main_call0_cst_apply, val_main_call0_v1_apply, val_main_call0_v0_apply, val_main_v3_apply]
  unfold Ideal.logistic
  simp only [Ideal.mulf_def, Ideal.hostUnary_exp_def, Ideal.addf_def, Ideal.hostDivf_def, Ideal.ofBits_def, Ideal.hostNegf_def,
    Ideal.ofBits_one_f32, Ideal.extf_def, Ideal.negf_def]

theorem out_apply (b : Fin 8) (s : Fin 2048) (h : Fin 4) (l : Fin 128) :
    val_main_v84 (F := Ideal) x0 x1 x2 x3 x4 x5 x6 x7 x8 (ix3 b s (lane h l))
      = val_main_v80 (F := Ideal) x0 x1 x2 x4 x5 x6 x7 x8 (ix4 b s h l)
        * (x3 (ix3 b s (lane h l)) * Ideal.logistic (x3 (ix3 b s (lane h l)))) := by
  rw [← flat_apply, ← gate_apply, val_main_v84_apply, val_main_v83_apply, Ideal.truncf_def, Ideal.mulf_def]

/-- A head's score of query `t` against key `j`, by the half `p` of its lanes. -/
def score (p : Fin 2) (b : Fin 8) (h : Fin 4) (t j : Fin 2048) : EReal :=
  (∑ d : Fin 64, x0 (ix3 b t (sub h p d)) * x1 (ix3 b j (sub h p d))) * Ideal.ofBits .f32 0x3E000000#32

/-- The reference's result: at position `s` of head `h`, the row of the query standing there. -/
theorem row (b : Fin 8) (s : Fin 2048) (h : Fin 4) (l : Fin 128) :
    val_main_v84 (F := Ideal) x0 x1 x2 x3 x4 x5 x6 x7 x8 (ix3 b s (lane h l))
      = headNorm (mix (weightR (lambda (fun t => x4 (ix2 0 t)) (fun t => x5 (ix2 0 t)) (fun t => x6 (ix2 0 t)) (fun t => x7 (ix2 0 t)))
            (score x0 x1 0 b h (query s)) (score x0 x1 1 b h (query s))) (fun j l => x2 (ix3 b j (lane h l)))) (fun l => x8 (ix2 0 l)) l
        * (x3 (ix3 b s (lane h l)) * Ideal.logistic (x3 (ix3 b s (lane h l)))) := by
  have hs1 : (fun j => val_main_v28 (F := Ideal) x0 x1 (ix4 b h (query s) j)) = score x0 x1 0 b h (query s) :=
    funext fun j => s1_apply x0 x1 b h (query s) j
  have hs2 : (fun j => val_main_v35 (F := Ideal) x0 x1 (ix4 b h (query s) j)) = score x0 x1 1 b h (query s) :=
    funext fun j => s2_apply x0 x1 b h (query s) j
  have hw : (fun j => val_main_v60 (F := Ideal) x0 x1 x4 x5 x6 x7 (ix4 b h (query s) j))
      = weightR (lambda (fun t => x4 (ix2 0 t)) (fun t => x5 (ix2 0 t)) (fun t => x6 (ix2 0 t)) (fun t => x7 (ix2 0 t)))
          (score x0 x1 0 b h (query s)) (score x0 x1 1 b h (query s)) := by
    rw [← hs1, ← hs2]
    exact funext fun j => w_apply x0 x1 x4 x5 x6 x7 b h (query s) j
  have hm : mixed x0 x1 x2 x4 x5 x6 x7 b s h
      = mix (weightR (lambda (fun t => x4 (ix2 0 t)) (fun t => x5 (ix2 0 t)) (fun t => x6 (ix2 0 t)) (fun t => x7 (ix2 0 t)))
            (score x0 x1 0 b h (query s)) (score x0 x1 1 b h (query s))) (fun j l => x2 (ix3 b j (lane h l))) := by
    rw [← hw]
    refine funext fun t => ?_
    unfold mixed
    exact (order_apply x0 x1 x2 x4 x5 x6 x7 b s h t).trans (o_apply x0 x1 x2 x4 x5 x6 x7 b h (query s) t)
  rw [out_apply, norm_apply, hm]

end Cert.Proof.Attn.Ref

end
-- ==== Proof.AttnEquation.lean ====
/- The attention call's result is the reference's, when the queries and the keys are real numbers. -/
module

public import proofs.«01_k».proof.Proof.AttnReal
public import proofs.«01_k».proof.Proof.AttnRef
public import Idealize.ShloMosaic.Lib.Pipeline.ValueKit

@[expose] public section

set_option maxRecDepth 16384

noncomputable section

namespace Cert.Proof.Attn.Run

open Idealize.ShloMosaic Cert.Kernel2Ideal Cert.Kernel2Ideal.Gen
open Idealize.ShloMosaic.TcCoe

variable (m : (ℓ : Loc nD τ sig) → Buf (Elt Ideal) ℓ) (c : Dev nD)

/-! ### Where the windows stand -/

theorem at0 : ∀ t : Fin cfg0.N, win0_0.index t = ![0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![(grid0.coords t 0).val, 0, (grid0.coords t 2).val, (grid0.coords t 1).val] :=
  (by decide +kernel : ∀ t : Fin grid0.N, _)
theorem at3 : ∀ t : Fin cfg0.N, win0_3.index t = ![(grid0.coords t 0).val, 0, (grid0.coords t 1).val] := (by decide +kernel : ∀ t : Fin grid0.N, _)
theorem at4 : ∀ t : Fin cfg0.N, win0_4.index t = ![(grid0.coords t 0).val, 0, (grid0.coords t 1).val] := (by decide +kernel : ∀ t : Fin grid0.N, _)
theorem at5 : ∀ t : Fin cfg0.N, win0_5.index t = ![(grid0.coords t 0).val, (grid0.coords t 1).val, 0, 0] := (by decide +kernel : ∀ t : Fin grid0.N, _)
theorem at6 : ∀ t : Fin cfg0.N, win0_6.index t = ![(grid0.coords t 0).val, (grid0.coords t 2).val, (grid0.coords t 1).val] :=
  (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![(grid0.coords t 0).val, (grid0.coords t 2).val, (grid0.coords t 1).val] :=
  (by decide +kernel : ∀ t : Fin grid0.N, _)

/-- The coordinates of a grid point: the batch row, the head, the tile of queries. -/
def bat (t : Fin cfg0.N) : Fin 8 := grid0.coords t 0
def head (t : Fin cfg0.N) : Fin 4 := grid0.coords t 1
def tile (t : Fin cfg0.N) : Fin 8 := grid0.coords t 2

/-! ### What a block holds -/

theorem blk0 (t : Fin cfg0.N) (a : Fin 4) (u : Fin 64) : iblk m c 0 t (ix2 a u) = V m c main_v29 (ix2 a u) := by
  blk_simp [iblk, at0]
  refine congrArg (V m c main_v29) ?_
  blk_ext [at0]

theorem blk1 (t : Fin cfg0.N) (r x : Fin 256) : iblk m c 1 t (ix2 r x) = V m c main_v43 (ix2 r x) := by
  blk_simp [iblk, at1]
  refine congrArg (V m c main_v43) ?_
  blk_ext [at1]

theorem blk2 (t : Fin cfg0.N) (u v : Fin 16) (k : Fin 128) : iblk m c 2 t (ix4 0 u v k)
    = V m c main_v30 (ix4 (bat t) u ⟨(tile t).val * 16 + v.val, by omega⟩ (Ref.lane (head t) k)) := by
  blk_simp [iblk, at2]
  refine congrArg (V m c main_v30) ?_
  blk_ext [at2] <;> rfl

theorem blk3 (t : Fin cfg0.N) (j : Fin 2048) (k : Fin 128) : iblk m c 3 t (ix3 0 j k)
    = V m c main_v19 (ix3 (bat t) j (Ref.lane (head t) k)) := by
  blk_simp [iblk, at3]
  refine congrArg (V m c main_v19) ?_
  blk_ext [at3] <;> rfl

theorem blk4 (t : Fin cfg0.N) (j : Fin 2048) (k : Fin 128) : iblk m c 4 t (ix3 0 j k)
    = V m c main_v20 (ix3 (bat t) j (Ref.lane (head t) k)) := by
  blk_simp [iblk, at4]
  refine congrArg (V m c main_v20) ?_
  blk_ext [at4] <;> rfl

theorem blk5 (t : Fin cfg0.N) (l : Fin 128) (j : Fin 2048) : View.ld (iblk m c 5 t) r0_4 (ix4 0 0 l j)
    = V m c main_v28 (ix4 (bat t) (head t) ⟨l.val, by omega⟩ j) := by
  show (iblk m c 5 t) (r0_4.emb (ix4 0 0 l j)) = _
  blk_simp [iblk, at5]
  refine congrArg (V m c main_v28) ?_
  blk_ext [at5] <;> rfl

/-- The row of the sequence at row `r` of a grid point's tile. -/
def place (t : Fin cfg0.N) (r : Fin 256) : Fin 2048 := ⟨(tile t).val * 256 + r.val, by omega⟩

theorem blk6 (t : Fin cfg0.N) (r : Fin 256) (l : Fin 128) : iblk m c 6 t (ix3 0 r l)
    = V m c main_arg3 (ix3 (bat t) (place t r) (Ref.lane (head t) l)) := by
  blk_simp [iblk, at6]
  refine congrArg (V m c main_arg3) ?_
  blk_ext [at6] <;> rfl

theorem blk7 (t : Fin cfg0.N) (l : Fin 128) : iblk m c 7 t (ix2 0 l) = V m c main_arg8 (ix2 0 l) := by
  blk_simp [iblk, at7]
  refine congrArg (V m c main_arg8) ?_
  blk_ext [at7]

theorem emb8 (t : Fin cfg0.N) (r : Fin 256) (l : Fin 128) : (((View.whole main_v44).slice (win0_8.rect t)).emb (ix3 0 r l) : S8x2048x512.Idx)
    = ix3 (bat t) (place t r) (Ref.lane (head t) l) := by
  blk_ext [at8] <;> rfl

/-! ### A row of scores -/

/-- The queries and the keys, as extended reals. -/
def qs : S8x2048x512.Idx → EReal := m ((c : Thread nD τ).loc main_arg0)
def ks : S8x2048x512.Idx → EReal := m ((c : Thread nD τ).loc main_arg1)

theorem perm_sum (r : Fin 256) (f : Fin 256 → EReal) : (∑ x : Fin 256, (if x.val = r.val % 16 * 16 + r.val / 16 then (1 : EReal) else 0) * f x)
    = f ⟨r.val % 16 * 16 + r.val / 16, by omega⟩ := by
  rw [Finset.sum_eq_single ⟨r.val % 16 * 16 + r.val / 16, by omega⟩]
  · rw [if_pos rfl, one_mul]
  · intro x _ hx
    rw [if_neg (fun h => hx (Fin.ext h)), zero_mul]
  · intro h; exact absurd (Finset.mem_univ _) h

/-- The permuted tile's row `r` is the row of the query standing there. -/
theorem query_row (t : Fin cfg0.N) (r : Fin 256) (k : Fin 128) :
    k0_pay3 (iblk m c 1 t) (iblk m c 2 t) (ix2 r k) = Host.entry (qs m c (ix3 (bat t) (Ref.query (place t r)) (Ref.lane (head t) k))) := by
  have h1 : ∀ x : Fin 256, iblk m c 1 t (ix2 r x) = if x.val = r.val % 16 * 16 + r.val / 16 then (1 : EReal) else 0 := fun x => by
    rw [blk1, Host.V_v43]; exact Host.permV_apply r x
  have h2 : ∀ (u v : Fin 16), iblk m c 2 t (ix4 0 u v k)
      = Host.entry (qs m c (ix3 (bat t) ⟨u.val * 128 + ((tile t).val * 16 + v.val), by omega⟩ (Ref.lane (head t) k))) := fun u v => by
    rw [blk2, Host.V_v30]; exact Host.queryV_apply _ _ _ _ _
  refine (pay3_apply _ _ r k).trans ?_
  simp only [h1, h2]
  rw [perm_sum r fun x => Host.entry (qs m c (ix3 (bat t) ⟨x.val / 16 * 128 + ((tile t).val * 16 + x.val % 16), by omega⟩ (Ref.lane (head t) k)))]
  refine congrArg (fun s => Host.entry (qs m c (ix3 (bat t) s (Ref.lane (head t) k)))) (Fin.ext ?_)
  have hr := r.isLt
  have e1 : (r.val % 16 * 16 + r.val / 16) / 16 = r.val % 16 := by omega
  have e2 : (r.val % 16 * 16 + r.val / 16) % 16 = r.val / 16 := by omega
  have e3 : ((tile t).val * 256 + r.val) % 16 = r.val % 16 := by omega
  have e4 : ((tile t).val * 256 + r.val) / 16 = (tile t).val * 16 + r.val / 16 := by omega
  simp only [Ref.query, place]
  rw [e1, e2, e3, e4]

section
variable (Q K : S8x2048x512.Idx → ℝ) (hQ : ∀ i, qs m c i = (Q i : EReal)) (hK : ∀ i, ks m c i = (K i : EReal))

/-- The score of a query against a key, in one half of a head. -/
def real (p : Fin 2) (b : Fin 8) (h : Fin 4) (s j : Fin 2048) : ℝ :=
  dot (fun d => Q (ix3 b s (Ref.sub h p d))) (fun d => K (ix3 b j (Ref.sub h p d)))

include hQ hK

theorem score_lo (t : Fin cfg0.N) (r : Fin 256) (j : Fin 2048) : k0_pay6 (iblk m c 1 t) (iblk m c 2 t) (iblk m c 3 t) (ix2 r j)
    = ((real Q K 0 (bat t) (head t) (Ref.query (place t r)) j * (Real.log 2)⁻¹ : ℝ) : EReal) := by
  have h3 : ∀ d : Fin 64, iblk m c 3 t (ix3 0 j ⟨d.val, by omega⟩) = ks m c (ix3 (bat t) j (Ref.sub (head t) 0 d)) := fun d => by
    rw [blk3, Host.V_v19, Host.keyLo_apply _ _ _ _ (by simp only [Ref.lane]; omega)]
    refine congrArg (fun n => ks m c (ix3 (bat t) j n)) (Fin.ext ?_)
    simp [Ref.lane, Ref.sub]
  have hl : ∀ d : Fin 64, Ref.lane (head t) ⟨d.val, by omega⟩ = Ref.sub (head t) 0 d := fun d => Fin.ext (by simp [Ref.lane, Ref.sub])
  rw [pay6_apply]
  refine (lower_sum _ (fun k => iblk m c 3 t (ix3 0 j k))).trans ?_
  simp only [query_row, h3, hl, hQ, hK]
  exact dot_kernel _ _

theorem score_hi (t : Fin cfg0.N) (r : Fin 256) (j : Fin 2048) :
    (∑ k : Fin 128, k0_pay7 (iblk m c 1 t) (iblk m c 2 t) (ix2 r k) * iblk m c 4 t (ix3 0 j k) : EReal)
    = ((real Q K 1 (bat t) (head t) (Ref.query (place t r)) j * (Real.log 2)⁻¹ : ℝ) : EReal) := by
  have hl : ∀ d : Fin 64, Ref.lane (head t) ⟨64 + d.val, by omega⟩ = Ref.sub (head t) 1 d := fun d =>
    Fin.ext (by simp only [Ref.lane, Ref.sub]; show _ = _ + 1 * 64 + _; omega)
  have h3 : ∀ d : Fin 64, iblk m c 4 t (ix3 0 j ⟨64 + d.val, by omega⟩) = ks m c (ix3 (bat t) j (Ref.sub (head t) 1 d)) := fun d => by
    rw [blk4, Host.V_v20, Host.keyHi_apply _ _ _ _ (by simp only [Ref.lane]; omega)]
    exact congrArg (fun n => ks m c (ix3 (bat t) j n)) (hl d)
  simp only [pay7_apply]
  refine (upper_sum _ (fun k => iblk m c 4 t (ix3 0 j k))).trans ?_
  simp only [query_row, h3, hl, hQ, hK]
  exact dot_kernel _ _

theorem score_ref (p : Fin 2) (b : Fin 8) (h : Fin 4) (s : Fin 2048) :
    Ref.score (m ((c : Thread nD τ).loc main_arg0)) (m ((c : Thread nD τ).loc main_arg1)) p b h s
      = fun j => ((real Q K p b h s j : ℝ) : EReal) := by
  funext j
  have e : (∑ d : Fin 64, qs m c (ix3 b s (Ref.sub h p d)) * ks m c (ix3 b j (Ref.sub h p d))) * Ideal.ofBits .f32 0x3E000000#32
      = ((real Q K p b h s j : ℝ) : EReal) := by
    simp only [hQ, hK]
    exact dot_reference _ _
  exact e
end

/-! ### The two results -/

/-- Equal rows give equal results. -/
theorem out_congr {w w' : Fin 2048 → EReal} {v v' : Fin 2048 → Fin 128 → EReal} {g g' : Fin 128 → EReal} {z z' : EReal}
    (hw : w = w') (hv : ∀ j l, v j l = v' j l) (hg : ∀ l, g l = g' l) (hz : z = z') (l : Fin 128) :
    headNorm (mix w v) g l * (z * Ideal.logistic z) = headNorm (mix w' v') g' l * (z' * Ideal.logistic z') := by
  rw [hw, funext fun j => funext (hv j), funext hg, hz]

/-- The reference's result, of the kernel's arguments. -/
def result : S8x2048x512.Idx → Elt Ideal .bf16 :=
  Cert.Reference2Ideal.Read.val_main_v84 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem lambda_eq (t : Fin cfg0.N) : k0_pay2 (iblk m c 0 t) (ix2 0 0)
    = lambda (fun u => m ((c : Thread nD τ).loc main_arg4) (ix2 0 u)) (fun u => m ((c : Thread nD τ).loc main_arg5) (ix2 0 u))
        (fun u => m ((c : Thread nD τ).loc main_arg6) (ix2 0 u)) (fun u => m ((c : Thread nD τ).loc main_arg7) (ix2 0 u)) := by
  refine (pay2_apply _).trans ?_
  have h : ∀ a u, iblk m c 0 t (ix2 a u) = Host.lamV (m ((c : Thread nD τ).loc main_arg4)) (m ((c : Thread nD τ).loc main_arg5))
      (m ((c : Thread nD τ).loc main_arg6)) (m ((c : Thread nD τ).loc main_arg7)) (ix2 a u) := fun a u => by rw [blk0, Host.V_v29]
  simp only [h, Host.lamV_0, Host.lamV_1, Host.lamV_2, Host.lamV_3]

section
variable (Q K : S8x2048x512.Idx → ℝ) (hQ : ∀ i, qs m c i = (Q i : EReal)) (hK : ∀ i, ks m c i = (K i : EReal))

include hQ hK

/-- At row `r` and lane `l` of a grid point's block, the kernel's entry is the reference's. -/
theorem point (t : Fin cfg0.N) (r : Fin 256) (l : Fin 128) :
    k0_pay1 (k0_pay9 (k0_pay2 (iblk m c 0 t)) (k0_pay6 (iblk m c 1 t) (iblk m c 2 t) (iblk m c 3 t))
        (k0_pay7 (iblk m c 1 t) (iblk m c 2 t)) (k0_pay8 (iblk m c 4 t)) (constant S256x2048 FTy.f32 0#32)
        (View.ld (iblk m c 5 t) r0_4) (iblk m c 7 t)) (iblk m c 6 t) (ix3 0 r l)
      = result m c (ix3 (bat t) (place t r) (Ref.lane (head t) l)) := by
  refine (pay1_apply _ _ r l).trans ?_
  rw [pay9_apply]
  refine Eq.trans ?_ (Ref.row _ _ _ _ _ _ _ _ _ (bat t) (place t r) (head t) l).symm
  refine out_congr ?_ (fun j l => ?_) (fun l => ?_) ?_ l
  · rw [lambda_eq, score_ref m c Q K hQ hK, score_ref m c Q K hQ hK, funext fun j => score_lo m c Q K hQ hK t r j,
      funext fun j => score_hi m c Q K hQ hK t r j]
    exact weight_eq _ _ _
  · rw [blk5, Host.V_v28]; exact Host.valueV_apply _ _ _ _ _ _
  · rw [blk7, V_main_arg8]
  · rw [blk6, V_main_arg3]

/-- The call's result is the reference's. -/
theorem final : (dats m 0 c).arrAt 8 cfg0.N = result m c := by
  refine (dats m 0 c).arrAt_eq_of_covers 8 _ (by decide +kernel) fun t hf y => ?_
  blk_simp
  rw [after0_8]; frame_out
  obtain ⟨r, l, rfl⟩ : ∃ (r : Fin 256) (l : Fin 128), y = ix3 0 r l :=
    ⟨y 1, y 2, funext (Fin.forall_fin_succ.mpr ⟨Subsingleton.elim (α := Fin 1) _ _, Fin.forall_fin_two.mpr ⟨rfl, rfl⟩⟩)⟩
  exact (point m c Q K hQ hK t r l).trans (congrArg (result m c) (emb8 t r l).symm)
end

end Cert.Proof.Attn.Run

end
-- ==== Proof.ProjRow.lean ====
/- The projections' body over the extended reals, an entry at a time. -/
module

public import proofs.«01_k».proof.Proof.Gen.Kernel3Ideal.Skeleton
public import Idealize.ShloMosaic.Lib.Pointwise
public import Idealize.ShloMosaic.PureOps.Ideal

@[expose] public section

noncomputable section

namespace Cert.Proof.Proj

open Idealize.ShloMosaic Cert.Kernel3Ideal Cert.Kernel3Ideal.Gen

/-- A row's RMS norm with the gain. -/
def normRow (x g : Fin 1024 → EReal) (k : Fin 1024) : EReal :=
  x k * Ideal.rsqrt (Ideal.div (∑ t, x t * x t) (Ideal.ofBits .f32 0x44800000#32) + Ideal.ofBits .f32 0x358637BD#32) * g k

/-- A row against a column. -/
def dotRow (h w : Fin 1024 → EReal) : EReal := ∑ k, h k * w k

/-- An entry turned by an angle with its partner: the partner comes with its sign in the sine. -/
def turn (a b c s : EReal) : EReal := a * c + b * s

/-- The swish, and the gated linear unit. -/
def swish (z : EReal) : EReal := z * Ideal.logistic z
def glu (a z : EReal) : EReal := a * Ideal.logistic z

theorem pay4_apply (x : Vec Ideal S512x1024 .f32) (g : Vec Ideal S1x1024 .f32) (r : Fin 512) (k : Fin 1024) :
    k0_pay4 x g (ix2 r k) = normRow (fun t => x (ix2 r t)) (fun t => g (ix2 0 t)) k := by
  unfold normRow
  pointwise [k0_pay4]

theorem pay11_apply (h : FVec Ideal S512x1024 .bf16) (w : Vec Ideal S1024x512 .bf16) (r n : Fin 512) :
    k0_pay11 h w (ix2 r n) = dotRow (fun k => h (ix2 r k)) (fun k => w (ix2 k n)) := by
  unfold dotRow
  pointwise [k0_pay11]

theorem pay12_apply (h : FVec Ideal S512x1024 .bf16) (w : Vec Ideal S1024x512 .bf16) (r n : Fin 512) :
    k0_pay12 h w (ix2 r n) = dotRow (fun k => h (ix2 r k)) (fun k => w (ix2 k n)) := pay11_apply h w r n

theorem pay2_apply (h : FVec Ideal S512x1024 .bf16) (w : Vec Ideal S1024x512 .bf16) (r n : Fin 512) :
    k0_pay2 h w (ix2 r n) = dotRow (fun k => h (ix2 r k)) (fun k => w (ix2 k n)) := pay11_apply h w r n

/-- The gate as the body writes it. -/
theorem gate_eq (z : EReal) : Ideal.div (Ideal.ofBits .f32 0x3F800000#32) (Ideal.ofBits .f32 0x3F800000#32 + Ideal.exp (Ideal.ofBits .f32 0x00000000#32 - z))
    = Ideal.logistic z := by
  unfold Ideal.logistic
  rw [Ideal.ofBits_one_f32, Ideal.ofBits_zero_f32, zero_sub]

theorem pay3_eq (h : FVec Ideal S512x1024 .bf16) (w : Vec Ideal S1024x512 .bf16) (i : S512x512.Idx) :
    k0_pay3 h w i = swish (k0_pay11 h w i) := congrArg (fun s => k0_pay11 h w i * s) (gate_eq (k0_pay11 h w i))

theorem pay5_eq (x : Vec Ideal S512x1024 .f32) (g : Vec Ideal S1x1024 .f32) (v w : Vec Ideal S1024x512 .bf16) (i : S512x512.Idx) :
    k0_pay5 x g v w i = glu (k0_pay11 (k0_pay4 x g) v i) (k0_pay11 (k0_pay4 x g) w i) :=
  congrArg (fun s => k0_pay11 (k0_pay4 x g) v i * s) (gate_eq (k0_pay11 (k0_pay4 x g) w i))

theorem pay8_eq (x : Vec Ideal S512x1024 .f32) (g : Vec Ideal S1x1024 .f32) (w : Vec Ideal S1024x512 .bf16) (i : S512x512.Idx) :
    k0_pay8 (k0_pay6 x g w) (k0_pay7 x g w) i = swish (k0_pay11 (k0_pay4 x g) w i) :=
  congrArg (fun s => k0_pay11 (k0_pay4 x g) w i * s) (gate_eq (k0_pay11 (k0_pay4 x g) w i))

/-- The partner of a lane, half a head away. -/
def partner (l : Fin 128) : Fin 128 := ⟨(l.val + 64) % 128, by omega⟩

theorem key0_apply (h : FVec Ideal S512x1024 .bf16) (c s : Vec Ideal S512x128 .f32) (w : Vec Ideal S1024x512 .bf16) (r : Fin 512) (l : Fin 128) :
    k0_pay14 h c s w (ix2 r l) = turn (k0_pay12 h w (ix2 r ⟨l.val, by omega⟩)) (k0_pay12 h w (ix2 r ⟨(partner l).val, by omega⟩)) (c (ix2 r l)) (s (ix2 r l)) := by
  unfold turn k0_pay14 k0_pay9 k0_pay10
  generalize k0_pay12 h w = Y
  pointwise
  rfl

theorem key1_apply (c s : FVec Ideal S512x128 .f32) (Y : FVec Ideal S512x512 .f32) (r : Fin 512) (l : Fin 128) :
    k0_pay18 c s Y (ix2 r l) = turn (Y (ix2 r ⟨128 + l.val, by omega⟩)) (Y (ix2 r ⟨128 + (partner l).val, by omega⟩)) (c (ix2 r l)) (s (ix2 r l)) := by
  unfold turn
  pointwise [k0_pay18]
  rfl

theorem key2_apply (c s : FVec Ideal S512x128 .f32) (Y : FVec Ideal S512x512 .f32) (r : Fin 512) (l : Fin 128) :
    k0_pay20 c s Y (ix2 r l) = turn (Y (ix2 r ⟨256 + l.val, by omega⟩)) (Y (ix2 r ⟨256 + (partner l).val, by omega⟩)) (c (ix2 r l)) (s (ix2 r l)) := by
  unfold turn
  pointwise [k0_pay20]
  rfl

theorem key3_apply (c s : FVec Ideal S512x128 .f32) (Y : FVec Ideal S512x512 .f32) (r : Fin 512) (l : Fin 128) :
    k0_pay1 c s Y (ix2 r l) = turn (Y (ix2 r ⟨384 + l.val, by omega⟩)) (Y (ix2 r ⟨384 + (partner l).val, by omega⟩)) (c (ix2 r l)) (s (ix2 r l)) := by
  unfold turn
  pointwise [k0_pay1]
  rfl

/-- The scale on the queries. -/
def unit : EReal := Ideal.ofBits .f32 0x3E38AA3B#32

theorem query0_eq (h : FVec Ideal S512x1024 .bf16) (c s : Vec Ideal S512x128 .f32) (w : Vec Ideal S1024x512 .bf16) (i : S512x128.Idx) :
    k0_pay13 h c s w i = k0_pay14 h c s w i * unit := rfl

theorem query1_eq (h : FVec Ideal S512x1024 .bf16) (c : Vec Ideal S512x128 .f32) (s : FVec Ideal S512x128 .f32) (w : Vec Ideal S1024x512 .bf16) (i : S512x128.Idx) :
    k0_pay17 s (k0_pay15 h w) (k0_pay16 h c w) i = k0_pay18 (k0_pay9 c) s (k0_pay11 h w) i * unit := rfl

theorem query2_eq (c s : FVec Ideal S512x128 .f32) (Y : FVec Ideal S512x512 .f32) (i : S512x128.Idx) :
    k0_pay19 c s Y i = k0_pay20 c s Y i * unit := rfl

theorem query3_eq (c s : FVec Ideal S512x128 .f32) (Y : FVec Ideal S512x512 .f32) (i : S512x128.Idx) :
    k0_pay21 c s Y i = k0_pay1 c s Y i * unit := rfl

theorem table_eq (c : Vec Ideal S512x128 .f32) : (k0_pay9 c : FVec Ideal S512x128 .f32) = c := by
  funext i
  obtain ⟨r, l, rfl⟩ : ∃ (r : Fin 512) (l : Fin 128), i = ix2 r l := ⟨i 0, i 1, funext (Fin.forall_fin_two.mpr ⟨rfl, rfl⟩)⟩
  pointwise [k0_pay9]

theorem table_eq' (c : Vec Ideal S512x128 .f32) : (k0_pay10 c : FVec Ideal S512x128 .f32) = c := table_eq c

theorem key1_tables (c s : Vec Ideal S512x128 .f32) (Y : FVec Ideal S512x512 .f32) (r : Fin 512) (l : Fin 128) :
    k0_pay18 (k0_pay9 c) (k0_pay10 s) Y (ix2 r l)
      = turn (Y (ix2 r ⟨128 + l.val, by omega⟩)) (Y (ix2 r ⟨128 + (partner l).val, by omega⟩)) (c (ix2 r l)) (s (ix2 r l)) := by
  rw [key1_apply, table_eq, table_eq']

theorem key2_tables (c s : Vec Ideal S512x128 .f32) (Y : FVec Ideal S512x512 .f32) (r : Fin 512) (l : Fin 128) :
    k0_pay20 (k0_pay9 c) (k0_pay10 s) Y (ix2 r l)
      = turn (Y (ix2 r ⟨256 + l.val, by omega⟩)) (Y (ix2 r ⟨256 + (partner l).val, by omega⟩)) (c (ix2 r l)) (s (ix2 r l)) := by
  rw [key2_apply, table_eq, table_eq']

theorem key3_tables (c s : Vec Ideal S512x128 .f32) (Y : FVec Ideal S512x512 .f32) (r : Fin 512) (l : Fin 128) :
    k0_pay1 (k0_pay9 c) (k0_pay10 s) Y (ix2 r l)
      = turn (Y (ix2 r ⟨384 + l.val, by omega⟩)) (Y (ix2 r ⟨384 + (partner l).val, by omega⟩)) (c (ix2 r l)) (s (ix2 r l)) := by
  rw [key3_apply, table_eq, table_eq']

end Cert.Proof.Proj

end
-- ==== Proof.ProjHost.lean ====
/- What the projections' call finds in its operands, at an index. -/
module

public import proofs.«01_k».proof.Proof.ProjRow
public import proofs.«01_k».proof.Proof.Gen.Kernel3Ideal.Value
public import Idealize.ShloMosaic.Lib.StableHlo.RunRead

@[expose] public section

set_option maxRecDepth 16384

noncomputable section

namespace Cert.Proof.Proj.Host

open Idealize.ShloMosaic Cert.Kernel3Ideal Cert.Kernel3Ideal.Gen
open Idealize.ShloMosaic.TcCoe

variable (m : (ℓ : Loc nD τ sig) → Buf (Elt Ideal) ℓ) (c : Dev nD)

/-! ### The host's terms -/

/-- The angle of each position and each pair of lanes. -/
def angleV : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Idealize.ShloMosaic.Host.divf (broadcastInDim S32 ![] bcast_S_S32 (constant S_ .f32 0x3F800000#32))
        (Idealize.ShloMosaic.Host.powf (broadcastInDim S32 ![] bcast_S_S32 (constant S_ .f32 0x461C4000#32))
          (Idealize.ShloMosaic.Host.divf (mulf (sitofp .f32 (iotaInDim S32 32 0)) (broadcastInDim S32 ![] bcast_S_S32 (constant S_ .f32 0x40000000#32)))
            (broadcastInDim S32 ![] bcast_S_S32 (constant S_ .f32 0x42800000#32)))))))

/-- Four tables of thirty-two lanes side by side. -/
def tableV (a b d e : FVec Ideal S2048x32 .f32) : FVec Ideal S2048x128 .f32 :=
  concatenate S2048x128 1 [⟨S2048x32, a⟩, ⟨S2048x32, b⟩, ⟨S2048x32, d⟩, ⟨S2048x32, e⟩] concatenates_S2048x32_S2048x32_S2048x32_S2048x32_S2048x128_d1

/-- A section of the weights with each head's halves brought together. -/
def sectionV (w : FVec Ideal S1024x512 .f32) : FVec Ideal S1024x512 .f32 :=
  shapeCast S1024x512 (transpose S1024x4x2x2x32 [0, 1, 3, 2, 4] (shapeCast S1024x4x2x2x32 w shapeCasts_S1024x512_S1024x4x2x2x32)
    transposes_S1024x4x2x2x32_S1024x4x2x2x32_0_1_3_2_4) shapeCasts_S1024x4x2x2x32_S1024x512

/-- The weights as the call takes them. -/
def weightV (x : FVec Ideal S1x1024x3584 .f32) : FVec Ideal S1024x3584 .bf16 :=
  let w := shapeCast S1024x3584 x shapeCasts_S1x1024x3584_S1024x3584
  truncf .bf16 (concatenate S1024x3584 1 [⟨S1024x1536, extractStridedSlice S1024x1536 ![0, 0] w slices_S1024x3584_S1024x1536_0_0⟩,
    ⟨S1024x512, sectionV (extractStridedSlice S1024x512 ![0, 1536] w slices_S1024x3584_S1024x512_0_1536)⟩,
    ⟨S1024x512, sectionV (extractStridedSlice S1024x512 ![0, 2048] w slices_S1024x3584_S1024x512_0_2048)⟩,
    ⟨S1024x1024, extractStridedSlice S1024x1024 ![0, 2560] w slices_S1024x3584_S1024x1024_0_2560⟩]
    concatenates_S1024x1536_S1024x512_S1024x512_S1024x1024_S1024x3584_d1) bitsLt_bf16_f32

/-! ### The operands are those terms -/

theorem V_v12 : V m c main_v12 = weightV (m ((c : Thread nD τ).loc main_arg2)) := by
  simp only [V, hostOps0, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v30 : V m c main_v30 = tableV (Idealize.ShloMosaic.Host.cos angleV) (Idealize.ShloMosaic.Host.cos angleV)
    (Idealize.ShloMosaic.Host.cos angleV) (Idealize.ShloMosaic.Host.cos angleV) := by
  simp only [V, hostOps0, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v33 : V m c main_v33 = tableV (Idealize.ShloMosaic.Host.negf (Idealize.ShloMosaic.Host.sin angleV)) (Idealize.ShloMosaic.Host.negf (Idealize.ShloMosaic.Host.sin angleV))
    (Idealize.ShloMosaic.Host.sin angleV) (Idealize.ShloMosaic.Host.sin angleV) := by
  simp only [V, hostOps0, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

theorem V_v34 : V m c main_v34 = shapeCast S16384x1024 (m ((c : Thread nD τ).loc main_arg0) : FVec Ideal S8x2048x1024 .f32) shapeCasts_S8x2048x1024_S16384x1024 := by
  simp only [V, hostOps0, List.flatten_cons, List.flatten_nil, List.cons_append, List.nil_append, List.append_nil,
    StableHlo.TRef.binary, StableHlo.TRef.nullary, StableHlo.TRef.unary, StableHlo.TRef.ternary, StableHlo.TRef.toBuf, StableHlo.TRef.ofBuf, cast_eq]
  after_reads_simp
  rfl

/-! ### Read at an index -/

/-- Where a lane with the halves brought together comes from. -/
def swap (n : Fin 512) : Fin 512 := ⟨n.val / 128 * 128 + n.val % 64 / 32 * 64 + n.val % 128 / 64 * 32 + n.val % 32, by omega⟩

theorem rows_apply (x : FVec Ideal S8x2048x1024 .f32) (R : Fin 16384) (k : Fin 1024) :
    shapeCast S16384x1024 x shapeCasts_S8x2048x1024_S16384x1024 (ix2 R k) = x (ix3 ⟨R.val / 2048, by omega⟩ ⟨R.val % 2048, by omega⟩ k) := by
  pointwise

theorem sectionV_apply (w : FVec Ideal S1024x512 .f32) (k : Fin 1024) (n : Fin 512) : sectionV w (ix2 k n) = w (ix2 k (swap n)) := by
  pointwise [sectionV]
  refine congrArg (fun t => w (ix2 k t)) (Fin.ext ?_)
  simp only [swap]
  omega

theorem cut0_apply (x : FVec Ideal S1x1024x3584 .f32) (k : Fin 1024) (n : Fin 1536) :
    weightV x (ix2 k ⟨n.val, by omega⟩) = x (ix3 0 k ⟨n.val, by omega⟩) := by
  unfold weightV
  generalize sectionV _ = a
  generalize sectionV _ = b
  pointwise

theorem slice1_apply (x : FVec Ideal S1x1024x3584 .f32) (k : Fin 1024) (l : Fin 512) :
    extractStridedSlice S1024x512 ![0, 1536] (shapeCast S1024x3584 x shapeCasts_S1x1024x3584_S1024x3584) slices_S1024x3584_S1024x512_0_1536 (ix2 k l)
      = x (ix3 0 k ⟨1536 + l.val, by omega⟩) := by
  pointwise

theorem slice2_apply (x : FVec Ideal S1x1024x3584 .f32) (k : Fin 1024) (l : Fin 512) :
    extractStridedSlice S1024x512 ![0, 2048] (shapeCast S1024x3584 x shapeCasts_S1x1024x3584_S1024x3584) slices_S1024x3584_S1024x512_0_2048 (ix2 k l)
      = x (ix3 0 k ⟨2048 + l.val, by omega⟩) := by
  pointwise

theorem cut1_apply (x : FVec Ideal S1x1024x3584 .f32) (k : Fin 1024) (n : Fin 512) :
    weightV x (ix2 k ⟨1536 + n.val, by omega⟩) = x (ix3 0 k ⟨1536 + (swap n).val, by omega⟩) := by
  refine Eq.trans ?_ ((sectionV_apply _ k n).trans (slice1_apply x k (swap n)))
  unfold weightV
  generalize sectionV _ = a
  generalize sectionV _ = b
  pointwise

theorem cut2_apply (x : FVec Ideal S1x1024x3584 .f32) (k : Fin 1024) (n : Fin 512) :
    weightV x (ix2 k ⟨2048 + n.val, by omega⟩) = x (ix3 0 k ⟨2048 + (swap n).val, by omega⟩) := by
  refine Eq.trans ?_ ((sectionV_apply _ k n).trans (slice2_apply x k (swap n)))
  unfold weightV
  generalize sectionV (extractStridedSlice S1024x512 ![0, 1536] (shapeCast S1024x3584 x shapeCasts_S1x1024x3584_S1024x3584) slices_S1024x3584_S1024x512_0_1536) = a
  generalize sectionV _ = b
  pointwise
  rw [dif_neg (by omega), dif_neg (by omega), dif_pos (by omega)]
  exact congrArg (fun t => b (ix2 k t)) (Fin.ext (by simp only []; omega))

theorem cut3_apply (x : FVec Ideal S1x1024x3584 .f32) (k : Fin 1024) (n : Fin 1024) :
    weightV x (ix2 k ⟨2560 + n.val, by omega⟩) = x (ix3 0 k ⟨2560 + n.val, by omega⟩) := by
  unfold weightV
  generalize sectionV _ = a
  generalize sectionV _ = b
  pointwise
  rw [dif_neg (by omega), dif_neg (by omega), dif_neg (by omega)]
  exact congrArg (fun t => x (ix3 0 k t)) (Fin.ext (by simp only []; omega))

theorem table_apply (a b : FVec Ideal S2048x32 .f32) (s : Fin 2048) (l : Fin 128) :
    tableV a a b b (ix2 s l) = if l.val < 64 then a (ix2 s ⟨l.val % 32, by omega⟩) else b (ix2 s ⟨l.val % 32, by omega⟩) := by
  pointwise [tableV]
  by_cases h1 : l.val < 32
  · refine (dif_pos h1).trans (Eq.trans ?_ (if_pos (by omega : l.val < 64)).symm)
    exact congrArg a (congrArg (ix2 s) (Fin.ext (by show l.val = l.val % 32; omega)))
  refine (dif_neg h1).trans ?_
  by_cases h2 : l.val < 64
  · refine (dif_pos (by omega : l.val - 32 < 32)).trans (Eq.trans ?_ (if_pos h2).symm)
    exact congrArg a (congrArg (ix2 s) (Fin.ext (by show l.val - 32 = l.val % 32; omega)))
  refine (dif_neg (by omega : ¬ l.val - 32 < 32)).trans (Eq.trans ?_ (if_neg h2).symm)
  by_cases h3 : l.val < 96
  · refine (dif_pos (by omega : l.val - 32 - 32 < 32)).trans ?_
    exact congrArg b (congrArg (ix2 s) (Fin.ext (by show l.val - 32 - 32 = l.val % 32; omega)))
  · refine (dif_neg (by omega : ¬ l.val - 32 - 32 < 32)).trans ?_
    exact congrArg b (congrArg (ix2 s) (Fin.ext (by show l.val - 32 - 32 - 32 = l.val % 32; omega)))

end Cert.Proof.Proj.Host

end
-- ==== Proof.ProjRef.lean ====
/- The reference projections, read at one row and one lane. -/
module

public import proofs.«01_k».proof.Proof.ProjHost
public import proofs.«01_k».proof.Proof.Gen.Reference3Ideal.Read

@[expose] public section

set_option maxRecDepth 16384

noncomputable section

namespace Cert.Proof.Proj.Ref

open Idealize.ShloMosaic Cert.Reference3Ideal Cert.Reference3Ideal.Gen Cert.Reference3Ideal.Read

variable (x0 : FVec Ideal S8x2048x1024 .f32) (x1 : FVec Ideal S1x1024 .f32) (x2 : FVec Ideal S1x1024x3584 .f32)

/-- A row's projection on one column. -/
def proj (b : Fin 8) (s : Fin 2048) (col : Fin 3584) : EReal :=
  dotRow (normRow (fun t => x0 (ix3 b s t)) (fun t => x1 (ix2 0 t))) (fun k => x2 (ix3 0 k col))

theorem norm_apply (b : Fin 8) (s : Fin 2048) (k : Fin 1024) :
    val_main_v13 (F := Ideal) x0 x1 (ix3 b s k) = normRow (fun t => x0 (ix3 b s t)) (fun t => x1 (ix2 0 t)) k := by
  unfold normRow
  pointwise [val_main_v13, val_main_v12, val_main_v11, val_main_v0, val_main_v10, val_main_v9, val_main_v8, val_main_v7, val_main_v6,
    val_main_cst_1, val_main_v5, val_main_v4, val_main_cst_0, val_main_v3, val_main_v2, val_main_cst, val_main_v1]

theorem proj_apply (b : Fin 8) (s : Fin 2048) (col : Fin 3584) : val_main_v15 (F := Ideal) x0 x1 x2 (ix3 b s col) = proj x0 x1 x2 b s col := by
  unfold proj dotRow
  simp only [← norm_apply]
  unfold val_main_v15
  generalize val_main_v13 (F := Ideal) x0 x1 = Y
  pointwise [val_main_v14]

theorem gate_unfold (z : EReal) : Ideal.div (Ideal.ofBits .f32 0x3F800000#32) (Ideal.ofBits .f32 0x3F800000#32 + Ideal.exp (-z)) = Ideal.logistic z := by
  unfold Ideal.logistic
  rw [Ideal.ofBits_one_f32]

theorem glu_apply (i : S8x2048x512.Idx) : val_main_v29 (F := Ideal) x0 x1 x2 i
    = glu (val_main_v16 (F := Ideal) x0 x1 x2 i) (val_main_v17 (F := Ideal) x0 x1 x2 i) := by
  unfold glu
  rw [← gate_unfold, val_main_v29_apply, val_main_v28_apply, val_main_v27_apply, val_main_cst_3_apply, val_main_v26_apply, val_main_v25_apply,
    val_main_cst_2_apply, val_main_v24_apply, val_main_v23_apply]
  simp only [Ideal.mulf_def, Ideal.hostUnary_exp_def, Ideal.addf_def, Ideal.hostDivf_def, Ideal.ofBits_def, Ideal.hostNegf_def, Ideal.negf_def]

theorem swishA_apply (i : S8x2048x512.Idx) : val_main_v93 (F := Ideal) x0 x1 x2 i = swish (val_main_v18 (F := Ideal) x0 x1 x2 i) := by
  unfold swish
  rw [← gate_unfold]
  rfl

theorem swishB_apply (i : S8x2048x512.Idx) : val_main_v106 (F := Ideal) x0 x1 x2 i = swish (val_main_v22 (F := Ideal) x0 x1 x2 i) := by
  unfold swish
  rw [← gate_unfold]
  rfl

/-- The batch row and the position of a row. -/
def bat (R : Fin 16384) : Fin 8 := ⟨R.val / 2048, by omega⟩
def pos (R : Fin 16384) : Fin 2048 := ⟨R.val % 2048, by omega⟩

theorem cut_apply (o : Nat) (ho : o + 512 ≤ 3584) (Y : FVec Ideal S8x2048x3584 .f32) (h : S8x2048x3584.Slices ![0, 0, o] S8x2048x512)
    (b : Fin 8) (s : Fin 2048) (n : Fin 512) : extractStridedSlice S8x2048x512 ![0, 0, o] Y h (ix3 b s n) = Y (ix3 b s ⟨o + n.val, by omega⟩) := by
  pointwise

theorem rows_apply (Y : FVec Ideal S8x2048x512 .f32) (R : Fin 16384) (n : Fin 512) :
    shapeCast S16384x512 Y shapeCasts_S8x2048x512_S16384x512 (ix2 R n) = Y (ix3 (bat R) (pos R) n) := by
  pointwise
  rfl

theorem u_apply (R : Fin 16384) (n : Fin 512) : val_main_v92 (F := Ideal) x0 x1 x2 (ix2 R n)
    = glu (proj x0 x1 x2 (bat R) (pos R) ⟨n.val, by omega⟩) (proj x0 x1 x2 (bat R) (pos R) ⟨512 + n.val, by omega⟩) := by
  unfold val_main_v92
  rw [rows_apply, glu_apply]
  unfold val_main_v16 val_main_v17
  rw [cut_apply 0 (by omega), cut_apply 512 (by omega), proj_apply, proj_apply]
  simp only [Nat.zero_add]

theorem ga_apply (R : Fin 16384) (n : Fin 512) : val_main_v95 (F := Ideal) x0 x1 x2 (ix2 R n)
    = swish (proj x0 x1 x2 (bat R) (pos R) ⟨1024 + n.val, by omega⟩) := by
  rw [val_main_v95_apply, Ideal.truncf_def]
  unfold val_main_v94
  rw [rows_apply, swishA_apply]
  unfold val_main_v18
  rw [cut_apply 1024 (by omega), proj_apply]

theorem v_apply (R : Fin 16384) (n : Fin 512) : val_main_v105 (F := Ideal) x0 x1 x2 (ix2 R n)
    = proj x0 x1 x2 (bat R) (pos R) ⟨2560 + n.val, by omega⟩ := by
  rw [val_main_v105_apply, Ideal.truncf_def]
  unfold val_main_v104
  rw [rows_apply]
  unfold val_main_v21
  rw [cut_apply 2560 (by omega), proj_apply]

theorem gb_apply (R : Fin 16384) (n : Fin 512) : val_main_v108 (F := Ideal) x0 x1 x2 (ix2 R n)
    = swish (proj x0 x1 x2 (bat R) (pos R) ⟨3072 + n.val, by omega⟩) := by
  rw [val_main_v108_apply, Ideal.truncf_def]
  unfold val_main_v107
  rw [rows_apply, swishB_apply]
  unfold val_main_v22
  rw [cut_apply 3072 (by omega), proj_apply]

/-! ### The rotary turn -/

/-- Half a row turned against the other half. -/
def rotV (Y : FVec Ideal S8x2048x8x64 .f32) : FVec Ideal S8x2048x8x64 .f32 :=
  concatenate S8x2048x8x64 3 [⟨S8x2048x8x32, Idealize.ShloMosaic.Host.negf (extractStridedSlice S8x2048x8x32 ![0, 0, 0, 32] Y slices_S8x2048x8x64_S8x2048x8x32_0_0_0_32)⟩,
    ⟨S8x2048x8x32, extractStridedSlice S8x2048x8x32 ![0, 0, 0, 0] Y slices_S8x2048x8x64_S8x2048x8x32_0_0_0_0⟩] concatenates_S8x2048x8x32_S8x2048x8x32_S8x2048x8x64_d3

theorem rot_q : val_main_v54 (F := Ideal) x0 x1 x2 = rotV (val_main_v30 (F := Ideal) x0 x1 x2) := rfl
theorem rot_k : val_main_v86 (F := Ideal) x0 x1 x2 = rotV (val_main_v62 (F := Ideal) x0 x1 x2) := rfl

theorem rot_lo (Y : FVec Ideal S8x2048x8x64 .f32) (b : Fin 8) (s : Fin 2048) (h : Fin 8) (d : Fin 32) :
    rotV Y (ix4 b s h ⟨d.val, by omega⟩) = -(Y (ix4 b s h ⟨32 + d.val, by omega⟩) : EReal) := by
  pointwise [rotV]

theorem rot_hi (Y : FVec Ideal S8x2048x8x64 .f32) (b : Fin 8) (s : Fin 2048) (h : Fin 8) (d : Fin 32) :
    rotV Y (ix4 b s h ⟨32 + d.val, by omega⟩) = Y (ix4 b s h ⟨d.val, by omega⟩) := by
  pointwise [rotV]

theorem angle_q : val_main_v45 (F := Ideal) = Host.angleV := rfl
theorem angle_k : val_main_v77 (F := Ideal) = Host.angleV := rfl

/-- The angles twice over. -/
def twiceV (a : FVec Ideal S2048x32 .f32) : FVec Ideal S2048x64 .f32 :=
  concatenate S2048x64 1 [⟨S2048x32, a⟩, ⟨S2048x32, a⟩] concatenates_S2048x32_S2048x32_S2048x64_d1

def spreadV (a : FVec Ideal S2048x64 .f32) : FVec Ideal S8x2048x8x64 .f32 :=
  broadcastInDim S8x2048x8x64 ![0, 1, 2, 3] bcast_S1x2048x1x64_S8x2048x8x64_0_1_2_3 (broadcastInDim S1x2048x1x64 ![1, 3] bcast_S2048x64_S1x2048x1x64_1_3 a)

theorem cos_q : val_main_v55 (F := Ideal) = spreadV (Idealize.ShloMosaic.Host.cos (twiceV Host.angleV)) := rfl
theorem sin_q : val_main_v57 (F := Ideal) = spreadV (Idealize.ShloMosaic.Host.sin (twiceV Host.angleV)) := rfl
theorem cos_k : val_main_v87 (F := Ideal) = spreadV (Idealize.ShloMosaic.Host.cos (twiceV Host.angleV)) := rfl
theorem sin_k : val_main_v89 (F := Ideal) = spreadV (Idealize.ShloMosaic.Host.sin (twiceV Host.angleV)) := rfl

theorem spread_apply (a : FVec Ideal S2048x64 .f32) (b : Fin 8) (s : Fin 2048) (h : Fin 8) (d : Fin 64) :
    spreadV a (ix4 b s h d) = a (ix2 s d) := by
  pointwise [spreadV]

theorem twice_lo (a : FVec Ideal S2048x32 .f32) (s : Fin 2048) (d : Fin 32) : twiceV a (ix2 s ⟨d.val, by omega⟩) = a (ix2 s d) := by
  pointwise [twiceV]
theorem twice_hi (a : FVec Ideal S2048x32 .f32) (s : Fin 2048) (d : Fin 32) : twiceV a (ix2 s ⟨32 + d.val, by omega⟩) = a (ix2 s d) := by
  pointwise [twiceV]

/-- A head's lanes out of a row. -/
theorem heads_apply (Y : FVec Ideal S8x2048x512 .f32) (b : Fin 8) (s : Fin 2048) (h : Fin 8) (d : Fin 64) :
    shapeCast S8x2048x8x64 Y shapeCasts_S8x2048x512_S8x2048x8x64 (ix4 b s h d) = Y (ix3 b s ⟨h.val * 64 + d.val, by omega⟩) := by
  pointwise

/-- The rows with the halves brought together. -/
theorem halves_apply (Y : FVec Ideal S8x2048x8x64 .f32) (R : Fin 16384) (n : Fin 512) :
    shapeCast S16384x512 (transpose S8x2048x4x2x2x32 [0, 1, 2, 4, 3, 5] (shapeCast S8x2048x4x2x2x32 Y shapeCasts_S8x2048x8x64_S8x2048x4x2x2x32)
      transposes_S8x2048x4x2x2x32_S8x2048x4x2x2x32_0_1_2_4_3_5) shapeCasts_S8x2048x4x2x2x32_S16384x512 (ix2 R n)
      = Y (ix4 (bat R) (pos R) ⟨n.val / 128 * 2 + n.val % 64 / 32, by omega⟩ ⟨n.val % 128 / 64 * 32 + n.val % 32, by omega⟩) := by
  pointwise
  exact congrArg₂ (fun h d => Y (ix4 (bat R) (pos R) h d)) (Fin.ext (by dsimp only; omega)) (Fin.ext (by dsimp only; omega))

/-! ### The queries and the keys -/

/-- A head's lane turned, before its place in the row. -/
def turned (Y : FVec Ideal S8x2048x8x64 .f32) : FVec Ideal S8x2048x8x64 .f32 :=
  addf (mulf Y (spreadV (Idealize.ShloMosaic.Host.cos (twiceV Host.angleV)))) (mulf (rotV Y) (spreadV (Idealize.ShloMosaic.Host.sin (twiceV Host.angleV))))

theorem turn_k : val_main_v91 (F := Ideal) x0 x1 x2 = turned (val_main_v62 (F := Ideal) x0 x1 x2) := rfl
theorem turn_q (i : S8x2048x8x64.Idx) : val_main_v61 (F := Ideal) x0 x1 x2 i = turned (val_main_v30 (F := Ideal) x0 x1 x2) i * unit := by
  rw [val_main_v61_apply, val_main_v60_apply, val_main_cst_8_apply]
  rfl

/-- The cosine and the sine of an angle. -/
def cosA (s : Fin 2048) (d : Fin 32) : EReal := Idealize.ShloMosaic.Host.cos Host.angleV (ix2 s d)
def sinA (s : Fin 2048) (d : Fin 32) : EReal := Idealize.ShloMosaic.Host.sin Host.angleV (ix2 s d)

theorem cosA_lo (s : Fin 2048) (d : Fin 32) : Idealize.ShloMosaic.Host.cos (twiceV Host.angleV) (ix2 s ⟨d.val, by omega⟩) = cosA s d :=
  congrArg (FloatOps.hostUnary .cos) (twice_lo Host.angleV s d)
theorem cosA_hi (s : Fin 2048) (d : Fin 32) : Idealize.ShloMosaic.Host.cos (twiceV Host.angleV) (ix2 s ⟨32 + d.val, by omega⟩) = cosA s d :=
  congrArg (FloatOps.hostUnary .cos) (twice_hi Host.angleV s d)
theorem sinA_lo (s : Fin 2048) (d : Fin 32) : Idealize.ShloMosaic.Host.sin (twiceV Host.angleV) (ix2 s ⟨d.val, by omega⟩) = sinA s d :=
  congrArg (FloatOps.hostUnary .sin) (twice_lo Host.angleV s d)
theorem sinA_hi (s : Fin 2048) (d : Fin 32) : Idealize.ShloMosaic.Host.sin (twiceV Host.angleV) (ix2 s ⟨32 + d.val, by omega⟩) = sinA s d :=
  congrArg (FloatOps.hostUnary .sin) (twice_hi Host.angleV s d)

theorem turned_lo (Y : FVec Ideal S8x2048x8x64 .f32) (b : Fin 8) (s : Fin 2048) (h : Fin 8) (d : Fin 32) :
    turned Y (ix4 b s h ⟨d.val, by omega⟩) = turn (Y (ix4 b s h ⟨d.val, by omega⟩)) (Y (ix4 b s h ⟨32 + d.val, by omega⟩)) (cosA s d) (-(sinA s d)) := by
  have e : turned Y (ix4 b s h ⟨d.val, by omega⟩) = turn (Y (ix4 b s h ⟨d.val, by omega⟩)) (rotV Y (ix4 b s h ⟨d.val, by omega⟩))
      (spreadV (Idealize.ShloMosaic.Host.cos (twiceV Host.angleV)) (ix4 b s h ⟨d.val, by omega⟩))
      (spreadV (Idealize.ShloMosaic.Host.sin (twiceV Host.angleV)) (ix4 b s h ⟨d.val, by omega⟩)) := rfl
  rw [e, spread_apply, spread_apply, cosA_lo, sinA_lo, rot_lo]
  unfold turn
  rw [EReal.neg_mul, mul_comm _ (-(sinA s d)), EReal.neg_mul, mul_comm (sinA s d)]

theorem turned_hi (Y : FVec Ideal S8x2048x8x64 .f32) (b : Fin 8) (s : Fin 2048) (h : Fin 8) (d : Fin 32) :
    turned Y (ix4 b s h ⟨32 + d.val, by omega⟩) = turn (Y (ix4 b s h ⟨32 + d.val, by omega⟩)) (Y (ix4 b s h ⟨d.val, by omega⟩)) (cosA s d) (sinA s d) := by
  have e : turned Y (ix4 b s h ⟨32 + d.val, by omega⟩) = turn (Y (ix4 b s h ⟨32 + d.val, by omega⟩)) (rotV Y (ix4 b s h ⟨32 + d.val, by omega⟩))
      (spreadV (Idealize.ShloMosaic.Host.cos (twiceV Host.angleV)) (ix4 b s h ⟨32 + d.val, by omega⟩))
      (spreadV (Idealize.ShloMosaic.Host.sin (twiceV Host.angleV)) (ix4 b s h ⟨32 + d.val, by omega⟩)) := rfl
  rw [e, spread_apply, spread_apply, cosA_hi, sinA_hi, rot_hi]

/-- The sine with the sign its half gives it. -/
def sinS (s : Fin 2048) (l : Fin 128) : EReal := if l.val < 64 then -(sinA s ⟨l.val % 32, by omega⟩) else sinA s ⟨l.val % 32, by omega⟩

/-- A row's lane `l` of group `g`, turned: the columns from `o` on hold the section. -/
def turnRow (o : Fin 3073) (R : Fin 16384) (g : Fin 4) (l : Fin 128) : EReal :=
  turn (proj x0 x1 x2 (bat R) (pos R) ⟨o.val + (Host.swap ⟨g.val * 128 + l.val, by omega⟩).val, by omega⟩)
    (proj x0 x1 x2 (bat R) (pos R) ⟨o.val + (Host.swap ⟨g.val * 128 + (partner l).val, by omega⟩).val, by omega⟩)
    (cosA (pos R) ⟨l.val % 32, by omega⟩) (sinS (pos R) l)

theorem turned_row (o : Fin 3073) (Y : FVec Ideal S8x2048x8x64 .f32)
    (hY : ∀ (b : Fin 8) (s : Fin 2048) (h : Fin 8) (d : Fin 64), Y (ix4 b s h d) = proj x0 x1 x2 b s ⟨o.val + (h.val * 64 + d.val), by omega⟩)
    (R : Fin 16384) (g : Fin 4) (l : Fin 128) (n : Fin 512) (hn : n.val = g.val * 128 + l.val) :
    turned Y (ix4 (bat R) (pos R) ⟨n.val / 128 * 2 + n.val % 64 / 32, by omega⟩ ⟨n.val % 128 / 64 * 32 + n.val % 32, by omega⟩)
      = turnRow x0 x1 x2 o R g l := by
  have hl := l.isLt
  have hg := g.isLt
  have h32 : n.val % 32 = l.val % 32 := by omega
  unfold turnRow sinS
  by_cases h : l.val < 64
  · have e : (⟨n.val % 128 / 64 * 32 + n.val % 32, by omega⟩ : Fin 64) = ⟨(⟨l.val % 32, by omega⟩ : Fin 32).val, by omega⟩ :=
      Fin.ext (by dsimp only; omega)
    rw [e, turned_lo, if_pos h, hY, hY]
    refine congrArg₂ (fun a b => turn (proj x0 x1 x2 (bat R) (pos R) a) (proj x0 x1 x2 (bat R) (pos R) b) _ _) (Fin.ext ?_) (Fin.ext ?_)
    · simp only [Host.swap]; omega
    · simp only [Host.swap, partner]; omega
  · have e : (⟨n.val % 128 / 64 * 32 + n.val % 32, by omega⟩ : Fin 64) = ⟨32 + (⟨l.val % 32, by omega⟩ : Fin 32).val, by omega⟩ :=
      Fin.ext (by dsimp only; omega)
    rw [e, turned_hi, if_neg h, hY, hY]
    refine congrArg₂ (fun a b => turn (proj x0 x1 x2 (bat R) (pos R) a) (proj x0 x1 x2 (bat R) (pos R) b) _ _) (Fin.ext ?_) (Fin.ext ?_)
    · simp only [Host.swap]; omega
    · simp only [Host.swap, partner]; omega

theorem heads_q (b : Fin 8) (s : Fin 2048) (h : Fin 8) (d : Fin 64) :
    val_main_v30 (F := Ideal) x0 x1 x2 (ix4 b s h d) = proj x0 x1 x2 b s ⟨(⟨1536, by omega⟩ : Fin 3073).val + (h.val * 64 + d.val), by dsimp only; omega⟩ := by
  unfold val_main_v30
  rw [heads_apply]
  unfold val_main_v19
  rw [cut_apply 1536 (by omega), proj_apply]

theorem heads_k (b : Fin 8) (s : Fin 2048) (h : Fin 8) (d : Fin 64) :
    val_main_v62 (F := Ideal) x0 x1 x2 (ix4 b s h d) = proj x0 x1 x2 b s ⟨(⟨2048, by omega⟩ : Fin 3073).val + (h.val * 64 + d.val), by dsimp only; omega⟩ := by
  unfold val_main_v62
  rw [heads_apply]
  unfold val_main_v20
  rw [cut_apply 2048 (by omega), proj_apply]

theorem q_apply (R : Fin 16384) (g : Fin 4) (l : Fin 128) : val_main_v99 (F := Ideal) x0 x1 x2 (ix2 R ⟨g.val * 128 + l.val, by omega⟩)
    = turnRow x0 x1 x2 ⟨1536, by omega⟩ R g l * unit := by
  rw [val_main_v99_apply, Ideal.truncf_def]
  unfold val_main_v98 val_main_v97 val_main_v96
  rw [halves_apply, turn_q]
  exact congrArg (· * unit) (turned_row x0 x1 x2 ⟨1536, by omega⟩ _ (heads_q x0 x1 x2) R g l _ rfl)

theorem k_apply (R : Fin 16384) (g : Fin 4) (l : Fin 128) : val_main_v103 (F := Ideal) x0 x1 x2 (ix2 R ⟨g.val * 128 + l.val, by omega⟩)
    = turnRow x0 x1 x2 ⟨2048, by omega⟩ R g l := by
  rw [val_main_v103_apply, Ideal.truncf_def]
  unfold val_main_v102 val_main_v101 val_main_v100
  rw [halves_apply, turn_k]
  exact turned_row x0 x1 x2 ⟨2048, by omega⟩ _ (heads_k x0 x1 x2) R g l _ rfl

end Cert.Proof.Proj.Ref

end
-- ==== Proof.ProjEquation.lean ====
/- The projections' results are the reference's. -/
module

public import proofs.«01_k».proof.Proof.ProjRef
public import Idealize.ShloMosaic.Lib.Pipeline.ValueKit

@[expose] public section

set_option maxRecDepth 16384

noncomputable section

namespace Cert.Proof.Proj.Run

open Idealize.ShloMosaic Cert.Kernel3Ideal Cert.Kernel3Ideal.Gen
open Idealize.ShloMosaic.TcCoe

variable (m : (ℓ : Loc nD τ sig) → Buf (Elt Ideal) ℓ) (c : Dev nD)

/-! ### Where the windows stand -/

theorem at0 : ∀ t : Fin cfg0.N, win0_0.index t = ![(grid0.coords t 0).val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![(grid0.coords t 0).val % 4, 0] := (by decide +kernel : ∀ t : Fin grid0.N, _)
theorem at4 : ∀ t : Fin cfg0.N, win0_4.index t = ![(grid0.coords t 0).val % 4, 0] := (by decide +kernel : ∀ t : Fin grid0.N, _)
theorem at5 : ∀ t : Fin cfg0.N, win0_5.index t = ![(grid0.coords t 0).val, 0] := (by decide +kernel : ∀ t : Fin grid0.N, _)
theorem at6 : ∀ t : Fin cfg0.N, win0_6.index t = ![(grid0.coords t 0).val, 0] := (by decide +kernel : ∀ t : Fin grid0.N, _)
theorem at7 : ∀ t : Fin cfg0.N, win0_7.index t = ![(grid0.coords t 0).val, 0] := (by decide +kernel : ∀ t : Fin grid0.N, _)
theorem at8 : ∀ t : Fin cfg0.N, win0_8.index t = ![(grid0.coords t 0).val, 0] := (by decide +kernel : ∀ t : Fin grid0.N, _)
theorem at9 : ∀ t : Fin cfg0.N, win0_9.index t = ![(grid0.coords t 0).val, 0] := (by decide +kernel : ∀ t : Fin grid0.N, _)
theorem at10 : ∀ t : Fin cfg0.N, win0_10.index t = ![(grid0.coords t 0).val, 0] := (by decide +kernel : ∀ t : Fin grid0.N, _)

/-- A grid point's tile of rows, and the row of the whole at row `r` of it. -/
def tile (t : Fin cfg0.N) : Fin 32 := grid0.coords t 0
def row (t : Fin cfg0.N) (r : Fin 512) : Fin 16384 := ⟨(tile t).val * 512 + r.val, by omega⟩

theorem emb5 (t : Fin cfg0.N) (r n : Fin 512) : (((View.whole main_v35_0).slice (win0_5.rect t)).emb (ix2 r n) : S16384x512.Idx) = ix2 (row t r) n := by
  blk_ext [at5] <;> rfl
theorem emb6 (t : Fin cfg0.N) (r n : Fin 512) : (((View.whole main_v35_1).slice (win0_6.rect t)).emb (ix2 r n) : S16384x512.Idx) = ix2 (row t r) n := by
  blk_ext [at6] <;> rfl
theorem emb7 (t : Fin cfg0.N) (r n : Fin 512) : (((View.whole main_v35_2).slice (win0_7.rect t)).emb (ix2 r n) : S16384x512.Idx) = ix2 (row t r) n := by
  blk_ext [at7] <;> rfl
theorem emb8 (t : Fin cfg0.N) (r n : Fin 512) : (((View.whole main_v35_3).slice (win0_8.rect t)).emb (ix2 r n) : S16384x512.Idx) = ix2 (row t r) n := by
  blk_ext [at8] <;> rfl
theorem emb9 (t : Fin cfg0.N) (r n : Fin 512) : (((View.whole main_v35_4).slice (win0_9.rect t)).emb (ix2 r n) : S16384x512.Idx) = ix2 (row t r) n := by
  blk_ext [at9] <;> rfl
theorem emb10 (t : Fin cfg0.N) (r n : Fin 512) : (((View.whole main_v35_5).slice (win0_10.rect t)).emb (ix2 r n) : S16384x512.Idx) = ix2 (row t r) n := by
  blk_ext [at10] <;> rfl

/-! ### The arguments, and what a block holds -/

def xs : FVec Ideal S8x2048x1024 .f32 := m ((c : Thread nD τ).loc main_arg0)
def gs : FVec Ideal S1x1024 .f32 := m ((c : Thread nD τ).loc main_arg1)
def ws : FVec Ideal S1x1024x3584 .f32 := m ((c : Thread nD τ).loc main_arg2)

theorem blk0 (t : Fin cfg0.N) (r : Fin 512) (k : Fin 1024) : View.ld (iblk m c 0 t) r0_0 (ix2 r k) = xs m c (ix3 (Ref.bat (row t r)) (Ref.pos (row t r)) k) := by
  have h : View.ld (iblk m c 0 t) r0_0 (ix2 r k) = V m c main_v34 (ix2 (row t r) k) := by
    show (iblk m c 0 t) (r0_0.emb (ix2 r k)) = _
    blk_simp [iblk, at0]
    refine congrArg (V m c main_v34) ?_
    blk_ext [at0] <;> rfl
  rw [h, Host.V_v34]
  exact Host.rows_apply _ _ _

theorem blk1 (t : Fin cfg0.N) (k : Fin 1024) : View.ld (iblk m c 1 t) r0_1 (ix2 0 k) = gs m c (ix2 0 k) := by
  have h : View.ld (iblk m c 1 t) r0_1 (ix2 0 k) = V m c main_arg1 (ix2 0 k) := by
    show (iblk m c 1 t) (r0_1.emb (ix2 0 k)) = _
    blk_simp [iblk, at1]
    refine congrArg (V m c main_arg1) ?_
    blk_ext [at1] <;> rfl
  rw [h, V_main_arg1]
  rfl

theorem sec0 (t : Fin cfg0.N) (k : Fin 1024) (n : Fin 512) : View.ld (iblk m c 2 t) r0_2 (ix2 k n) = ws m c (ix3 0 k ⟨n.val, by omega⟩) := by
  have h : View.ld (iblk m c 2 t) r0_2 (ix2 k n) = V m c main_v12 (ix2 k ⟨n.val, by omega⟩) := by
    show (iblk m c 2 t) (r0_2.emb (ix2 k n)) = _
    blk_simp [iblk, at2]
    refine congrArg (V m c main_v12) ?_
    blk_ext [at2] <;> rfl
  rw [h, Host.V_v12]
  exact Host.cut0_apply _ k ⟨n.val, by omega⟩

theorem sec512 (t : Fin cfg0.N) (k : Fin 1024) (n : Fin 512) : View.ld (iblk m c 2 t) r0_3 (ix2 k n) = ws m c (ix3 0 k ⟨512 + n.val, by omega⟩) := by
  have h : View.ld (iblk m c 2 t) r0_3 (ix2 k n) = V m c main_v12 (ix2 k ⟨512 + n.val, by omega⟩) := by
    show (iblk m c 2 t) (r0_3.emb (ix2 k n)) = _
    blk_simp [iblk, at2]
    refine congrArg (V m c main_v12) ?_
    blk_ext [at2] <;> rfl
  rw [h, Host.V_v12]
  exact Host.cut0_apply _ k ⟨512 + n.val, by omega⟩

theorem sec1024 (t : Fin cfg0.N) (k : Fin 1024) (n : Fin 512) : View.ld (iblk m c 2 t) r0_5 (ix2 k n) = ws m c (ix3 0 k ⟨1024 + n.val, by omega⟩) := by
  have h : View.ld (iblk m c 2 t) r0_5 (ix2 k n) = V m c main_v12 (ix2 k ⟨1024 + n.val, by omega⟩) := by
    show (iblk m c 2 t) (r0_5.emb (ix2 k n)) = _
    blk_simp [iblk, at2]
    refine congrArg (V m c main_v12) ?_
    blk_ext [at2] <;> rfl
  rw [h, Host.V_v12]
  exact Host.cut0_apply _ k ⟨1024 + n.val, by omega⟩

theorem sec1536 (t : Fin cfg0.N) (k : Fin 1024) (n : Fin 512) : View.ld (iblk m c 2 t) r0_7 (ix2 k n) = ws m c (ix3 0 k ⟨1536 + (Host.swap n).val, by omega⟩) := by
  have h : View.ld (iblk m c 2 t) r0_7 (ix2 k n) = V m c main_v12 (ix2 k ⟨1536 + n.val, by omega⟩) := by
    show (iblk m c 2 t) (r0_7.emb (ix2 k n)) = _
    blk_simp [iblk, at2]
    refine congrArg (V m c main_v12) ?_
    blk_ext [at2] <;> rfl
  rw [h, Host.V_v12]
  exact Host.cut1_apply _ k n

theorem sec2048 (t : Fin cfg0.N) (k : Fin 1024) (n : Fin 512) : View.ld (iblk m c 2 t) r0_8 (ix2 k n) = ws m c (ix3 0 k ⟨2048 + (Host.swap n).val, by omega⟩) := by
  have h : View.ld (iblk m c 2 t) r0_8 (ix2 k n) = V m c main_v12 (ix2 k ⟨2048 + n.val, by omega⟩) := by
    show (iblk m c 2 t) (r0_8.emb (ix2 k n)) = _
    blk_simp [iblk, at2]
    refine congrArg (V m c main_v12) ?_
    blk_ext [at2] <;> rfl
  rw [h, Host.V_v12]
  exact Host.cut2_apply _ k n

theorem sec2560 (t : Fin cfg0.N) (k : Fin 1024) (n : Fin 512) : View.ld (iblk m c 2 t) r0_13 (ix2 k n) = ws m c (ix3 0 k ⟨2560 + n.val, by omega⟩) := by
  have h : View.ld (iblk m c 2 t) r0_13 (ix2 k n) = V m c main_v12 (ix2 k ⟨2560 + n.val, by omega⟩) := by
    show (iblk m c 2 t) (r0_13.emb (ix2 k n)) = _
    blk_simp [iblk, at2]
    refine congrArg (V m c main_v12) ?_
    blk_ext [at2] <;> rfl
  rw [h, Host.V_v12]
  exact Host.cut3_apply _ k ⟨n.val, by omega⟩

theorem sec3072 (t : Fin cfg0.N) (k : Fin 1024) (n : Fin 512) : View.ld (iblk m c 2 t) r0_14 (ix2 k n) = ws m c (ix3 0 k ⟨3072 + n.val, by omega⟩) := by
  have h : View.ld (iblk m c 2 t) r0_14 (ix2 k n) = V m c main_v12 (ix2 k ⟨3072 + n.val, by omega⟩) := by
    show (iblk m c 2 t) (r0_14.emb (ix2 k n)) = _
    blk_simp [iblk, at2]
    refine congrArg (V m c main_v12) ?_
    blk_ext [at2] <;> rfl
  rw [h, Host.V_v12]
  refine Eq.trans (congrArg (Host.weightV _) (congrArg (ix2 k) (Fin.ext ?_))) ((Host.cut3_apply _ k ⟨512 + n.val, by omega⟩).trans (congrArg (ws m c) (congrArg (ix3 0 k) (Fin.ext ?_))))
  · show 3072 + n.val = 2560 + (512 + n.val); omega
  · show 2560 + (512 + n.val) = 3072 + n.val; omega

theorem cos_blk (t : Fin cfg0.N) (r : Fin 512) (l : Fin 128) : View.ld (iblk m c 3 t) r0_6 (ix2 r l) = Ref.cosA (Ref.pos (row t r)) ⟨l.val % 32, by omega⟩ := by
  have h : View.ld (iblk m c 3 t) r0_6 (ix2 r l) = V m c main_v30 (ix2 ⟨(tile t).val % 4 * 512 + r.val, by omega⟩ l) := by
    show (iblk m c 3 t) (r0_6.emb (ix2 r l)) = _
    blk_simp [iblk, at3]
    refine congrArg (V m c main_v30) ?_
    blk_ext [at3] <;> rfl
  have e : (⟨(tile t).val % 4 * 512 + r.val, by omega⟩ : Fin 2048) = Ref.pos (row t r) :=
    Fin.ext (by show (tile t).val % 4 * 512 + r.val = ((tile t).val * 512 + r.val) % 2048; omega)
  rw [h, e, Host.V_v30]
  refine (Host.table_apply _ _ _ l).trans ?_
  exact ite_self _

theorem sin_blk (t : Fin cfg0.N) (r : Fin 512) (l : Fin 128) : View.ld (iblk m c 4 t) r0_6 (ix2 r l) = Ref.sinS (Ref.pos (row t r)) l := by
  have h : View.ld (iblk m c 4 t) r0_6 (ix2 r l) = V m c main_v33 (ix2 ⟨(tile t).val % 4 * 512 + r.val, by omega⟩ l) := by
    show (iblk m c 4 t) (r0_6.emb (ix2 r l)) = _
    blk_simp [iblk, at4]
    refine congrArg (V m c main_v33) ?_
    blk_ext [at4] <;> rfl
  have e : (⟨(tile t).val % 4 * 512 + r.val, by omega⟩ : Fin 2048) = Ref.pos (row t r) :=
    Fin.ext (by show (tile t).val % 4 * 512 + r.val = ((tile t).val * 512 + r.val) % 2048; omega)
  rw [h, e, Host.V_v33]
  refine (Host.table_apply _ _ _ l).trans ?_
  rfl

/-! ### A projection -/

/-- The reference's projection of the kernel's arguments. -/
def proj (R : Fin 16384) (col : Fin 3584) : EReal := Ref.proj (xs m c) (gs m c) (ws m c) (Ref.bat R) (Ref.pos R) col

theorem proj_row (t : Fin cfg0.N) (r n : Fin 512) (w : Vec Ideal S1024x512 .bf16) (col : Fin 3584) (hw : ∀ k, w (ix2 k n) = ws m c (ix3 0 k col)) :
    k0_pay11 (k0_pay4 (View.ld (iblk m c 0 t) r0_0) (View.ld (iblk m c 1 t) r0_1)) w (ix2 r n) = proj m c (row t r) col := by
  rw [pay11_apply]
  refine congrArg₂ dotRow (funext fun k => ?_) (funext hw)
  rw [pay4_apply]
  exact congrArg₂ (fun a b => normRow a b k) (funext fun u => blk0 m c t r u) (funext fun u => blk1 m c t u)

/-! ### The results -/

def res5 : S16384x512.Idx → Elt Ideal .f32 :=
  Cert.Reference3Ideal.Read.val_main_v92 (F := Ideal) (xs m c) (gs m c) (ws m c)
def res6 : S16384x512.Idx → Elt Ideal .bf16 :=
  Cert.Reference3Ideal.Read.val_main_v95 (F := Ideal) (xs m c) (gs m c) (ws m c)
def res7 : S16384x512.Idx → Elt Ideal .bf16 :=
  Cert.Reference3Ideal.Read.val_main_v99 (F := Ideal) (xs m c) (gs m c) (ws m c)
def res8 : S16384x512.Idx → Elt Ideal .bf16 :=
  Cert.Reference3Ideal.Read.val_main_v103 (F := Ideal) (xs m c) (gs m c) (ws m c)
def res9 : S16384x512.Idx → Elt Ideal .bf16 :=
  Cert.Reference3Ideal.Read.val_main_v105 (F := Ideal) (xs m c) (gs m c) (ws m c)
def res10 : S16384x512.Idx → Elt Ideal .bf16 :=
  Cert.Reference3Ideal.Read.val_main_v108 (F := Ideal) (xs m c) (gs m c) (ws m c)

/-- An index of a block by its row and its lane. -/
theorem split512 (y : S512x512.Idx) : ∃ r n : Fin 512, y = ix2 r n := ⟨y 0, y 1, funext (Fin.forall_fin_two.mpr ⟨rfl, rfl⟩)⟩
theorem split128 (y : S512x128.Idx) : ∃ (r : Fin 512) (l : Fin 128), y = ix2 r l := ⟨y 0, y 1, funext (Fin.forall_fin_two.mpr ⟨rfl, rfl⟩)⟩

/-- The whole block's place in itself. -/
theorem whole_emb (r n : Fin 512) : (r0_4.emb (ix2 r n) : S512x512.Idx) = ix2 r n := by
  blk_ext [] <;> rfl
theorem group0_emb (r : Fin 512) (l : Fin 128) : (r0_9.emb (ix2 r l) : S512x512.Idx) = ix2 r ⟨(0 : Fin 4).val * 128 + l.val, by omega⟩ := by
  blk_ext [] <;> rfl
theorem group1_emb (r : Fin 512) (l : Fin 128) : (r0_10.emb (ix2 r l) : S512x512.Idx) = ix2 r ⟨(1 : Fin 4).val * 128 + l.val, by omega⟩ := by
  blk_ext [] <;> rfl
theorem group2_emb (r : Fin 512) (l : Fin 128) : (r0_11.emb (ix2 r l) : S512x512.Idx) = ix2 r ⟨(2 : Fin 4).val * 128 + l.val, by omega⟩ := by
  blk_ext [] <;> rfl
theorem group3_emb (r : Fin 512) (l : Fin 128) : (r0_12.emb (ix2 r l) : S512x512.Idx) = ix2 r ⟨(3 : Fin 4).val * 128 + l.val, by omega⟩ := by
  blk_ext [] <;> rfl

/-- A row and a lane of the result, at an index of a grid point's block. -/
def placed {e : EltTy} (G : S16384x512.Idx → Elt Ideal e) (t : Fin cfg0.N) (y : S512x512.Idx) : Elt Ideal e := G (ix2 (row t (y 0)) (y 1))

theorem one_piece {e : EltTy} (G : S16384x512.Idx → Elt Ideal e) (t : Fin cfg0.N) (w : S512x512.Idx → Elt Ideal e)
    (h : ∀ r n, w (ix2 r n) = G (ix2 (row t r) n)) (r n : Fin 512) : View.canon [⟨r0_4, w⟩] (ix2 r n) = G (ix2 (row t r) n) := by
  conv_lhs => rw [← whole_emb r n]
  rw [View.canon_cons_emb]
  exact h r n

theorem four_pieces {e : EltTy} (G : S16384x512.Idx → Elt Ideal e) (t : Fin cfg0.N) (w0 w1 w2 w3 : S512x128.Idx → Elt Ideal e)
    (h0 : ∀ r l, w0 (ix2 r l) = G (ix2 (row t r) ⟨(0 : Fin 4).val * 128 + l.val, by omega⟩))
    (h1 : ∀ r l, w1 (ix2 r l) = G (ix2 (row t r) ⟨(1 : Fin 4).val * 128 + l.val, by omega⟩))
    (h2 : ∀ r l, w2 (ix2 r l) = G (ix2 (row t r) ⟨(2 : Fin 4).val * 128 + l.val, by omega⟩))
    (h3 : ∀ r l, w3 (ix2 r l) = G (ix2 (row t r) ⟨(3 : Fin 4).val * 128 + l.val, by omega⟩))
    (r n : Fin 512) : View.canon [⟨r0_12, w3⟩, ⟨r0_11, w2⟩, ⟨r0_10, w1⟩, ⟨r0_9, w0⟩] (ix2 r n) = G (ix2 (row t r) n) := by
  refine View.canon_apply_of_pieces (placed G t) _ (fun p hp x => ?_) (ix2 r n)
    (View.cover_of_tiled [⟨r0_12, w3⟩, ⟨r0_11, w2⟩, ⟨r0_10, w1⟩, ⟨r0_9, w0⟩] S512x128.size (by rfl) (ix2 r n))
  simp only [List.mem_cons, List.not_mem_nil, or_false] at hp
  rcases hp with rfl | rfl | rfl | rfl
  · obtain ⟨a, l, rfl⟩ := split128 x
    exact (h3 a l).trans (congrArg (placed G t) (group3_emb a l).symm)
  · obtain ⟨a, l, rfl⟩ := split128 x
    exact (h2 a l).trans (congrArg (placed G t) (group2_emb a l).symm)
  · obtain ⟨a, l, rfl⟩ := split128 x
    exact (h1 a l).trans (congrArg (placed G t) (group1_emb a l).symm)
  · obtain ⟨a, l, rfl⟩ := split128 x
    exact (h0 a l).trans (congrArg (placed G t) (group0_emb a l).symm)

theorem point5 (t : Fin cfg0.N) (r n : Fin 512) : out0_5 (iblk m c 0 t) (iblk m c 1 t) (iblk m c 2 t) (iblk m c 3 t) (iblk m c 4 t) (ix2 r n) = res5 m c (ix2 (row t r) n) := by
  unfold out0_5
  refine one_piece (res5 m c) t _ (fun r n => ?_) r n
  refine (pay5_eq _ _ _ _ _).trans ((congrArg₂ glu (proj_row m c t r n _ _ fun k => sec0 m c t k n) (proj_row m c t r n _ _ fun k => sec512 m c t k n)).trans ?_)
  exact (Ref.u_apply _ _ _ _ _).symm

theorem point6 (t : Fin cfg0.N) (r n : Fin 512) : out0_6 (iblk m c 0 t) (iblk m c 1 t) (iblk m c 2 t) (iblk m c 3 t) (iblk m c 4 t) (ix2 r n) = res6 m c (ix2 (row t r) n) := by
  unfold out0_6
  refine one_piece (res6 m c) t _ (fun r n => ?_) r n
  refine (pay8_eq _ _ _ _).trans ((congrArg swish (proj_row m c t r n _ _ fun k => sec1024 m c t k n)).trans ?_)
  exact (Ref.ga_apply _ _ _ _ _).symm

theorem point9 (t : Fin cfg0.N) (r n : Fin 512) : out0_9 (iblk m c 0 t) (iblk m c 1 t) (iblk m c 2 t) (iblk m c 3 t) (iblk m c 4 t) (ix2 r n) = res9 m c (ix2 (row t r) n) := by
  unfold out0_9 k0_pay22
  refine one_piece (res9 m c) t _ (fun r n => ?_) r n
  refine (proj_row m c t r n _ _ fun k => sec2560 m c t k n).trans ?_
  exact (Ref.v_apply _ _ _ _ _).symm

theorem point10 (t : Fin cfg0.N) (r n : Fin 512) : out0_10 (iblk m c 0 t) (iblk m c 1 t) (iblk m c 2 t) (iblk m c 3 t) (iblk m c 4 t) (ix2 r n) = res10 m c (ix2 (row t r) n) := by
  unfold out0_10 k0_pay22
  refine one_piece (res10 m c) t _ (fun r n => ?_) r n
  refine (pay3_eq _ _ _).trans ((congrArg swish (proj_row m c t r n _ _ fun k => sec3072 m c t k n)).trans ?_)
  exact (Ref.gb_apply _ _ _ _ _).symm

/-- The product of a tile with a section, its lanes in the order of the call's weights. -/
theorem group_row (o : Fin 3073) (t : Fin cfg0.N) (Y : FVec Ideal S512x512 .f32)
    (hY : ∀ r n, Y (ix2 r n) = proj m c (row t r) ⟨o.val + (Host.swap n).val, by omega⟩)
    (r : Fin 512) (g : Fin 4) (l : Fin 128) (n n' : Fin 512) (hn : n.val = g.val * 128 + l.val) (hn' : n'.val = g.val * 128 + (partner l).val) :
    turn (Y (ix2 r n)) (Y (ix2 r n')) (View.ld (iblk m c 3 t) r0_6 (ix2 r l)) (View.ld (iblk m c 4 t) r0_6 (ix2 r l))
      = Ref.turnRow (xs m c) (gs m c) (ws m c) o (row t r) g l := by
  have hg := g.isLt
  have hl := l.isLt
  have hp := (partner l).isLt
  rw [hY, hY, cos_blk, sin_blk]
  refine congrArg₂ (fun a b => turn a b _ _) (congrArg (proj m c (row t r)) (Fin.ext ?_)) (congrArg (proj m c (row t r)) (Fin.ext ?_))
  · show o.val + (Host.swap n).val = o.val + (Host.swap ⟨g.val * 128 + l.val, _⟩).val
    simp only [Host.swap, hn]
  · show o.val + (Host.swap n').val = o.val + (Host.swap ⟨g.val * 128 + (partner l).val, _⟩).val
    simp only [Host.swap, hn']

theorem point8 (t : Fin cfg0.N) (r n : Fin 512) : out0_8 (iblk m c 0 t) (iblk m c 1 t) (iblk m c 2 t) (iblk m c 3 t) (iblk m c 4 t) (ix2 r n) = res8 m c (ix2 (row t r) n) := by
  have hY : ∀ r n, k0_pay12 (k0_pay4 (View.ld (iblk m c 0 t) r0_0) (View.ld (iblk m c 1 t) r0_1)) (View.ld (iblk m c 2 t) r0_8) (ix2 r n)
      = proj m c (row t r) ⟨(⟨2048, by omega⟩ : Fin 3073).val + (Host.swap n).val, by dsimp only; omega⟩ :=
    fun r n => proj_row m c t r n _ _ fun k => sec2048 m c t k n
  unfold out0_8 k0_pay26 k0_pay24 k0_pay23 k0_pay22
  refine four_pieces (res8 m c) t _ _ _ _ (fun r l => ?_) (fun r l => ?_) (fun r l => ?_) (fun r l => ?_) r n
  · refine Eq.trans ?_ (Ref.k_apply (xs m c) (gs m c) (ws m c) (row t r) 0 l).symm
    refine (key0_apply _ _ _ _ r l).trans ?_
    exact group_row m c ⟨2048, by omega⟩ t _ hY r 0 l _ _ (by simp) (by simp)
  · refine Eq.trans ?_ (Ref.k_apply (xs m c) (gs m c) (ws m c) (row t r) 1 l).symm
    refine (key1_tables _ _ _ r l).trans ?_
    exact group_row m c ⟨2048, by omega⟩ t _ hY r 1 l _ _ rfl rfl
  · refine Eq.trans ?_ (Ref.k_apply (xs m c) (gs m c) (ws m c) (row t r) 2 l).symm
    refine (key2_tables _ _ _ r l).trans ?_
    exact group_row m c ⟨2048, by omega⟩ t _ hY r 2 l _ _ rfl rfl
  · refine Eq.trans ?_ (Ref.k_apply (xs m c) (gs m c) (ws m c) (row t r) 3 l).symm
    refine (key3_tables _ _ _ r l).trans ?_
    exact group_row m c ⟨2048, by omega⟩ t _ hY r 3 l _ _ rfl rfl

theorem point7 (t : Fin cfg0.N) (r n : Fin 512) : out0_7 (iblk m c 0 t) (iblk m c 1 t) (iblk m c 2 t) (iblk m c 3 t) (iblk m c 4 t) (ix2 r n) = res7 m c (ix2 (row t r) n) := by
  have hY : ∀ r n, k0_pay11 (k0_pay4 (View.ld (iblk m c 0 t) r0_0) (View.ld (iblk m c 1 t) r0_1)) (View.ld (iblk m c 2 t) r0_7) (ix2 r n)
      = proj m c (row t r) ⟨(⟨1536, by omega⟩ : Fin 3073).val + (Host.swap n).val, by dsimp only; omega⟩ :=
    fun r n => proj_row m c t r n _ _ fun k => sec1536 m c t k n
  unfold out0_7 k0_pay25 k0_pay24 k0_pay23 k0_pay22
  refine four_pieces (res7 m c) t _ _ _ _ (fun r l => ?_) (fun r l => ?_) (fun r l => ?_) (fun r l => ?_) r n
  · refine Eq.trans ?_ (Ref.q_apply (xs m c) (gs m c) (ws m c) (row t r) 0 l).symm
    refine (query0_eq _ _ _ _ _).trans (congrArg (· * unit) ((key0_apply _ _ _ _ r l).trans ?_))
    exact group_row m c ⟨1536, by omega⟩ t _ hY r 0 l _ _ (by simp) (by simp)
  · refine Eq.trans ?_ (Ref.q_apply (xs m c) (gs m c) (ws m c) (row t r) 1 l).symm
    refine (query1_eq _ _ _ _ _).trans (congrArg (· * unit) ((key1_tables _ _ _ r l).trans ?_))
    exact group_row m c ⟨1536, by omega⟩ t _ hY r 1 l _ _ rfl rfl
  · refine Eq.trans ?_ (Ref.q_apply (xs m c) (gs m c) (ws m c) (row t r) 2 l).symm
    refine (query2_eq _ _ _ _).trans (congrArg (· * unit) ((key2_tables _ _ _ r l).trans ?_))
    exact group_row m c ⟨1536, by omega⟩ t _ hY r 2 l _ _ rfl rfl
  · refine Eq.trans ?_ (Ref.q_apply (xs m c) (gs m c) (ws m c) (row t r) 3 l).symm
    refine (query3_eq _ _ _ _).trans (congrArg (· * unit) ((key3_tables _ _ _ r l).trans ?_))
    exact group_row m c ⟨1536, by omega⟩ t _ hY r 3 l _ _ rfl rfl

/-- The call's result 1 of six. -/
theorem final5 : (dats m 0 c).arrAt 5 cfg0.N = res5 m c := by
  refine (dats m 0 c).arrAt_eq_of_covers 5 _ (by decide +kernel) fun t hf y => ?_
  blk_simp
  rw [after0_5]
  obtain ⟨r, n, rfl⟩ := split512 y
  exact (point5 m c t r n).trans (congrArg (res5 m c) (emb5 t r n).symm)

/-- The call's result 2 of six. -/
theorem final6 : (dats m 0 c).arrAt 6 cfg0.N = res6 m c := by
  refine (dats m 0 c).arrAt_eq_of_covers 6 _ (by decide +kernel) fun t hf y => ?_
  blk_simp
  rw [after0_6]
  obtain ⟨r, n, rfl⟩ := split512 y
  exact (point6 m c t r n).trans (congrArg (res6 m c) (emb6 t r n).symm)

/-- The call's result 3 of six. -/
theorem final7 : (dats m 0 c).arrAt 7 cfg0.N = res7 m c := by
  refine (dats m 0 c).arrAt_eq_of_covers 7 _ (by decide +kernel) fun t hf y => ?_
  blk_simp
  rw [after0_7]
  obtain ⟨r, n, rfl⟩ := split512 y
  exact (point7 m c t r n).trans (congrArg (res7 m c) (emb7 t r n).symm)

/-- The call's result 4 of six. -/
theorem final8 : (dats m 0 c).arrAt 8 cfg0.N = res8 m c := by
  refine (dats m 0 c).arrAt_eq_of_covers 8 _ (by decide +kernel) fun t hf y => ?_
  blk_simp
  rw [after0_8]
  obtain ⟨r, n, rfl⟩ := split512 y
  exact (point8 m c t r n).trans (congrArg (res8 m c) (emb8 t r n).symm)

/-- The call's result 5 of six. -/
theorem final9 : (dats m 0 c).arrAt 9 cfg0.N = res9 m c := by
  refine (dats m 0 c).arrAt_eq_of_covers 9 _ (by decide +kernel) fun t hf y => ?_
  blk_simp
  rw [after0_9]
  obtain ⟨r, n, rfl⟩ := split512 y
  exact (point9 m c t r n).trans (congrArg (res9 m c) (emb9 t r n).symm)

/-- The call's result 6 of six. -/
theorem final10 : (dats m 0 c).arrAt 10 cfg0.N = res10 m c := by
  refine (dats m 0 c).arrAt_eq_of_covers 10 _ (by decide +kernel) fun t hf y => ?_
  blk_simp
  rw [after0_10]
  obtain ⟨r, n, rfl⟩ := split512 y
  exact (point10 m c t r n).trans (congrArg (res10 m c) (emb10 t r n).symm)

end Cert.Proof.Proj.Run

end
-- ==== Proof.lean ====
/- The certificate: the frames of the kernel, its ideal reading and the reference, and the equation of the two results
   over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Launch
public import proofs.«01_k».proof.Proof.Equation
public import proofs.«01_k».proof.Proof.AttnEquation
public import proofs.«01_k».proof.Proof.ProjEquation

@[expose] public section

noncomputable section

namespace Cert.Proof

open Idealize.ShloMosaic Idealize.SL.Sem

/-- The two printed kernels have one text, so one body table. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs Cert.KernelIdeal.pcfgs) bodies_eq

/-- The kernel runs, its arguments unchanged, every counter at zero. -/
theorem frame_kernel : Cert.quiescent_Kernel := fun m ρ _ => by
  rw [defs_eq]
  exact (θ_run Cert.KernelIdeal.defs _ _).mono (fun _ h => ⟨fun c => (h.1 c).2, h.2⟩) (Run.run_post (F := Bits) m ρ)

/-- The same of its ideal reading. -/
theorem frame_ideal : Cert.quiescent_KernelIdeal := fun m ρ _ =>
  (θ_run Cert.KernelIdeal.defs _ _).mono (fun _ h => ⟨fun c => (h.1 c).2, h.2⟩) (Run.run_post (F := Ideal) m ρ)

/-- The reference runs, its arguments unchanged; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the kernel's result is the reference's. -/
theorem equation : Cert.algebraic_KernelIdeal_ReferenceIdeal := fun m g m' g' _ hargs =>
  ⟨fun c => Run.glue (Run.outs m c),
    (θ_run Cert.KernelIdeal.defs _ _).mono (fun _ h => h.1) (Run.run_post (F := Ideal) m g),
    (θ_run Cert.ReferenceIdeal.defs _ _).mono (fun r h c =>
      have ⟨h0, h1, h2, h3, h4, h5, h6, h7, h8, h9⟩ := hargs c
      ⟨(h c).1.trans (Run.kernel_eq_reference m c m' h0 h1 h2 h3 h4 h5 h6 h7 h8 h9), (h c).2⟩)
      (Cert.ReferenceIdeal.Value.run (F := Ideal) m' g')⟩

/-! ### The attention call -/

/-- The attention call runs, its arguments unchanged, every counter at zero. -/
theorem frame_kernel2 : Cert.quiescent_Kernel2 := fun m ρ _ => Cert.Kernel2.Gen.frame m ρ

/-- The same of its ideal reading. -/
theorem frame_ideal2 : Cert.quiescent_Kernel2Ideal := fun m ρ _ => Cert.Kernel2Ideal.Gen.frame m ρ

/-- Its reference runs, its arguments unchanged; it declares no counter. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- With real queries and keys, its result is the reference's. -/
theorem result2 (m : (ℓ : Loc Cert.Kernel2Ideal.nD Cert.Kernel2Ideal.τ Cert.Kernel2Ideal.sig) → Buf (Elt Ideal) ℓ)
    (h : Cert.Pre_Kernel2Ideal_finite (hPre_finite := Cert.Pre_finite.Gen.facts) m) (c : Dev Cert.Kernel2Ideal.nD) :
    (Cert.Kernel2Ideal.Gen.dats m 0 c).arrAt 8 Cert.Kernel2Ideal.cfg0.N = Attn.Run.result m c := by
  have hr := fun i => Attn.real_of_pre _ _ _ _ _ _ _ _ _ i (congrFun (h c) i)
  choose Q hQ using fun i => (hr i).1
  choose K hK using fun i => (hr i).2
  exact Attn.Run.final m c Q K hQ hK

theorem equation2 : Cert.algebraic_Kernel2Ideal_Reference2Ideal_pre_finite (hPre_finite := Cert.Pre_finite.Gen.facts) := fun m g m' g' hpre hargs =>
  ⟨fun c => Attn.Run.result m c,
    (θ_run Cert.Kernel2Ideal.defs _ _).mono (fun _ h c => ⟨(h c).1.trans (result2 m hpre c), (h c).2⟩)
      (Cert.Kernel2Ideal.Value.run_blocks (F := Ideal) m g),
    (θ_run Cert.Reference2Ideal.defs _ _).mono (fun r h c =>
      have ⟨h0, h1, h2, h3, h4, h5, h6, h7, h8⟩ := hargs c
      ⟨(h c).1.trans ((Cert.Reference2Ideal.Read.val_main_v84_eq m' c).trans (by rw [h0, h1, h2, h3, h4, h5, h6, h7, h8]; rfl)), (h c).2⟩)
      (Cert.Reference2Ideal.Value.run (F := Ideal) m' g')⟩

/-! ### The projections' call -/

/-- The projections' call runs, its arguments unchanged, every counter at zero. -/
theorem frame_kernel3 : Cert.quiescent_Kernel3 := fun m ρ _ => Cert.Kernel3.Gen.frame m ρ

/-- The same of its ideal reading. -/
theorem frame_ideal3 : Cert.quiescent_Kernel3Ideal := fun m ρ _ => Cert.Kernel3Ideal.Gen.frame m ρ

/-- Its reference runs, its arguments unchanged; it declares no counter. -/
theorem frame_reference3 : Cert.quiescent_Reference3Ideal := fun m ρ _ =>
  (θ_run Cert.Reference3Ideal.defs _ _).mono (fun r h => ⟨fun c => have ⟨_, _, _, _, _, _, k⟩ := h c; k, sem_eq_zero_of_no_sems (by decide) r.2⟩)
    (Cert.Reference3Ideal.Value.run (F := Ideal) m ρ)

/-- Its six results are the reference's. -/
theorem equation3 : Cert.algebraic_Kernel3Ideal_Reference3Ideal := fun m g m' g' _ hargs =>
  ⟨fun c => Proj.Run.res5 m c, fun c => Proj.Run.res6 m c, fun c => Proj.Run.res7 m c, fun c => Proj.Run.res8 m c,
    fun c => Proj.Run.res9 m c, fun c => Proj.Run.res10 m c,
    (θ_run Cert.Kernel3Ideal.defs _ _).mono (fun _ h c =>
      have ⟨r0, r1, r2, r3, r4, r5, k⟩ := h c
      ⟨r0.trans (Proj.Run.final5 m c), r1.trans (Proj.Run.final6 m c), r2.trans (Proj.Run.final7 m c), r3.trans (Proj.Run.final8 m c), r4.trans (Proj.Run.final9 m c), r5.trans (Proj.Run.final10 m c), k⟩)
      (Cert.Kernel3Ideal.Value.run_blocks (F := Ideal) m g),
    (θ_run Cert.Reference3Ideal.defs _ _).mono (fun r h c =>
      have ⟨h0, h1, h2⟩ := hargs c
      have ⟨r0, r1, r2, r3, r4, r5, k⟩ := h c
      ⟨r0.trans ((Cert.Reference3Ideal.Read.val_main_v92_eq _ _ _).trans (by rw [h0, h1, h2]; rfl)),
        r1.trans ((Cert.Reference3Ideal.Read.val_main_v95_eq _ _ _).trans (by rw [h0, h1, h2]; rfl)),
        r2.trans ((Cert.Reference3Ideal.Read.val_main_v99_eq m' c).trans (by rw [h0, h1, h2]; rfl)),
        r3.trans ((Cert.Reference3Ideal.Read.val_main_v103_eq m' c).trans (by rw [h0, h1, h2]; rfl)),
        r4.trans ((Cert.Reference3Ideal.Read.val_main_v105_eq _ _ _).trans (by rw [h0, h1, h2]; rfl)),
        r5.trans ((Cert.Reference3Ideal.Read.val_main_v108_eq _ _ _).trans (by rw [h0, h1, h2]; rfl)), k⟩)
      (Cert.Reference3Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  frame_kernel, frame_ideal, frame_reference, frame_kernel2, frame_ideal2, fun m ρ _ => frame_ideal2 m ρ trivial,
  frame_reference2, fun m ρ _ => frame_reference2 m ρ trivial, frame_kernel3, frame_ideal3, frame_reference3,
  trivial, equation, trivial, equation2, trivial, equation3⟩

end Cert.Proof

end
